-- ==== Defs.lean ====
def Pre_Mlp0 (m : (ℓ : Loc Cert.Mlp0.nD Cert.Mlp0.τ Cert.Mlp0.sig) → Buf (Elt Bits) ℓ) : Prop :=
  True

def Pre_Mlp0Ideal (m : (ℓ : Loc Cert.Mlp0Ideal.nD Cert.Mlp0Ideal.τ Cert.Mlp0Ideal.sig) → Buf (Elt Ideal) ℓ) : Prop :=
  True

def Pre_MlpRef0Ideal (m : (ℓ : Loc Cert.MlpRef0Ideal.nD Cert.MlpRef0Ideal.τ Cert.MlpRef0Ideal.sig) → Buf (Elt Ideal) ℓ) : Prop :=
  True

def Pre_Mlp1 (m : (ℓ : Loc Cert.Mlp1.nD Cert.Mlp1.τ Cert.Mlp1.sig) → Buf (Elt Bits) ℓ) : Prop :=
  True

def Pre_Mlp1Ideal (m : (ℓ : Loc Cert.Mlp1Ideal.nD Cert.Mlp1Ideal.τ Cert.Mlp1Ideal.sig) → Buf (Elt Ideal) ℓ) : Prop :=
  True

def Pre_MlpRef1Ideal (m : (ℓ : Loc Cert.MlpRef1Ideal.nD Cert.MlpRef1Ideal.τ Cert.MlpRef1Ideal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_logits [hPre_finite_logits : Cert.Pre_finite_logits.Facts] (m : (ℓ : Loc Cert.AttnIdeal.nD Cert.AttnIdeal.τ Cert.AttnIdeal.sig) → Buf (Elt Ideal) ℓ) : Prop :=
  ∀ c : Dev Cert.AttnIdeal.nD,
    (Cert.Pre_finite_logits.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_logits [hPre_finite_logits : Cert.Pre_finite_logits.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_logits.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def quiescent_Mlp0 [hMlp0 : Cert.Mlp0.Facts] : Prop :=
  ∀ (m : (ℓ : Loc Cert.Mlp0.nD Cert.Mlp0.τ Cert.Mlp0.sig) → Buf (Elt Bits) ℓ) (g : Dev Cert.Mlp0.nD → PrngReg), Pre_Mlp0 m →
    θ_run (Cert.Mlp0.defs (F := Bits)) (onTc (τ := Cert.Mlp0.τ) (Cert.Mlp0.main (F := Bits))) ⟨m, fun _ => 0, g⟩ (fun r => (∀ c : Dev Cert.Mlp0.nD,
      r.2.mem ((c.tc : Thread Cert.Mlp0.nD Cert.Mlp0.τ).loc Cert.Mlp0.main_arg0) = m ((c.tc : Thread Cert.Mlp0.nD Cert.Mlp0.τ).loc Cert.Mlp0.main_arg0)
      ∧ r.2.mem ((c.tc : Thread Cert.Mlp0.nD Cert.Mlp0.τ).loc Cert.Mlp0.main_arg1) = m ((c.tc : Thread Cert.Mlp0.nD Cert.Mlp0.τ).loc Cert.Mlp0.main_arg1)
      ∧ r.2.mem ((c.tc : Thread Cert.Mlp0.nD Cert.Mlp0.τ).loc Cert.Mlp0.main_arg2) = m ((c.tc : Thread Cert.Mlp0.nD Cert.Mlp0.τ).loc Cert.Mlp0.main_arg2)
      ∧ r.2.mem ((c.tc : Thread Cert.Mlp0.nD Cert.Mlp0.τ).loc Cert.Mlp0.main_arg3) = m ((c.tc : Thread Cert.Mlp0.nD Cert.Mlp0.τ).loc Cert.Mlp0.main_arg3)
      ∧ r.2.mem ((c.tc : Thread Cert.Mlp0.nD Cert.Mlp0.τ).loc Cert.Mlp0.main_arg4) = m ((c.tc : Thread Cert.Mlp0.nD Cert.Mlp0.τ).loc Cert.Mlp0.main_arg4)
      ∧ r.2.mem ((c.tc : Thread Cert.Mlp0.nD Cert.Mlp0.τ).loc Cert.Mlp0.main_arg5) = m ((c.tc : Thread Cert.Mlp0.nD Cert.Mlp0.τ).loc Cert.Mlp0.main_arg5)
      ∧ r.2.mem ((c.tc : Thread Cert.Mlp0.nD Cert.Mlp0.τ).loc Cert.Mlp0.main_arg6) = m ((c.tc : Thread Cert.Mlp0.nD Cert.Mlp0.τ).loc Cert.Mlp0.main_arg6))
      ∧ r.2.sem = fun _ => 0)

def quiescent_Mlp0Ideal [hMlp0Ideal : Cert.Mlp0Ideal.Facts] : Prop :=
  ∀ (m : (ℓ : Loc Cert.Mlp0Ideal.nD Cert.Mlp0Ideal.τ Cert.Mlp0Ideal.sig) → Buf (Elt Ideal) ℓ) (g : Dev Cert.Mlp0Ideal.nD → PrngReg), Pre_Mlp0Ideal m →
    θ_run (Cert.Mlp0Ideal.defs (F := Ideal)) (onTc (τ := Cert.Mlp0Ideal.τ) (Cert.Mlp0Ideal.main (F := Ideal))) ⟨m, fun _ => 0, g⟩ (fun r => (∀ c : Dev Cert.Mlp0Ideal.nD,
      r.2.mem ((c.tc : Thread Cert.Mlp0Ideal.nD Cert.Mlp0Ideal.τ).loc Cert.Mlp0Ideal.main_arg0) = m ((c.tc : Thread Cert.Mlp0Ideal.nD Cert.Mlp0Ideal.τ).loc Cert.Mlp0Ideal.main_arg0)
      ∧ r.2.mem ((c.tc : Thread Cert.Mlp0Ideal.nD Cert.Mlp0Ideal.τ).loc Cert.Mlp0Ideal.main_arg1) = m ((c.tc : Thread Cert.Mlp0Ideal.nD Cert.Mlp0Ideal.τ).loc Cert.Mlp0Ideal.main_arg1)
      ∧ r.2.mem ((c.tc : Thread Cert.Mlp0Ideal.nD Cert.Mlp0Ideal.τ).loc Cert.Mlp0Ideal.main_arg2) = m ((c.tc : Thread Cert.Mlp0Ideal.nD Cert.Mlp0Ideal.τ).loc Cert.Mlp0Ideal.main_arg2)
      ∧ r.2.mem ((c.tc : Thread Cert.Mlp0Ideal.nD Cert.Mlp0Ideal.τ).loc Cert.Mlp0Ideal.main_arg3) = m ((c.tc : Thread Cert.Mlp0Ideal.nD Cert.Mlp0Ideal.τ).loc Cert.Mlp0Ideal.main_arg3)
      ∧ r.2.mem ((c.tc : Thread Cert.Mlp0Ideal.nD Cert.Mlp0Ideal.τ).loc Cert.Mlp0Ideal.main_arg4) = m ((c.tc : Thread Cert.Mlp0Ideal.nD Cert.Mlp0Ideal.τ).loc Cert.Mlp0Ideal.main_arg4)
      ∧ r.2.mem ((c.tc : Thread Cert.Mlp0Ideal.nD Cert.Mlp0Ideal.τ).loc Cert.Mlp0Ideal.main_arg5) = m ((c.tc : Thread Cert.Mlp0Ideal.nD Cert.Mlp0Ideal.τ).loc Cert.Mlp0Ideal.main_arg5)
      ∧ r.2.mem ((c.tc : Thread Cert.Mlp0Ideal.nD Cert.Mlp0Ideal.τ).loc Cert.Mlp0Ideal.main_arg6) = m ((c.tc : Thread Cert.Mlp0Ideal.nD Cert.Mlp0Ideal.τ).loc Cert.Mlp0Ideal.main_arg6))
      ∧ r.2.sem = fun _ => 0)

def quiescent_MlpRef0Ideal [hMlpRef0Ideal : Cert.MlpRef0Ideal.Facts] : Prop :=
  ∀ (m : (ℓ : Loc Cert.MlpRef0Ideal.nD Cert.MlpRef0Ideal.τ Cert.MlpRef0Ideal.sig) → Buf (Elt Ideal) ℓ) (g : Dev Cert.MlpRef0Ideal.nD → PrngReg), Pre_MlpRef0Ideal m →
    θ_run (Cert.MlpRef0Ideal.defs (F := Ideal)) (onTc (τ := Cert.MlpRef0Ideal.τ) (Cert.MlpRef0Ideal.main (F := Ideal))) ⟨m, fun _ => 0, g⟩ (fun r => (∀ c : Dev Cert.MlpRef0Ideal.nD,
      r.2.mem ((c.tc : Thread Cert.MlpRef0Ideal.nD Cert.MlpRef0Ideal.τ).loc Cert.MlpRef0Ideal.main_arg0) = m ((c.tc : Thread Cert.MlpRef0Ideal.nD Cert.MlpRef0Ideal.τ).loc Cert.MlpRef0Ideal.main_arg0)
      ∧ r.2.mem ((c.tc : Thread Cert.MlpRef0Ideal.nD Cert.MlpRef0Ideal.τ).loc Cert.MlpRef0Ideal.main_arg1) = m ((c.tc : Thread Cert.MlpRef0Ideal.nD Cert.MlpRef0Ideal.τ).loc Cert.MlpRef0Ideal.main_arg1)
      ∧ r.2.mem ((c.tc : Thread Cert.MlpRef0Ideal.nD Cert.MlpRef0Ideal.τ).loc Cert.MlpRef0Ideal.main_arg2) = m ((c.tc : Thread Cert.MlpRef0Ideal.nD Cert.MlpRef0Ideal.τ).loc Cert.MlpRef0Ideal.main_arg2)
      ∧ r.2.mem ((c.tc : Thread Cert.MlpRef0Ideal.nD Cert.MlpRef0Ideal.τ).loc Cert.MlpRef0Ideal.main_arg3) = m ((c.tc : Thread Cert.MlpRef0Ideal.nD Cert.MlpRef0Ideal.τ).loc Cert.MlpRef0Ideal.main_arg3)
      ∧ r.2.mem ((c.tc : Thread Cert.MlpRef0Ideal.nD Cert.MlpRef0Ideal.τ).loc Cert.MlpRef0Ideal.main_arg4) = m ((c.tc : Thread Cert.MlpRef0Ideal.nD Cert.MlpRef0Ideal.τ).loc Cert.MlpRef0Ideal.main_arg4)
      ∧ r.2.mem ((c.tc : Thread Cert.MlpRef0Ideal.nD Cert.MlpRef0Ideal.τ).loc Cert.MlpRef0Ideal.main_arg5) = m ((c.tc : Thread Cert.MlpRef0Ideal.nD Cert.MlpRef0Ideal.τ).loc Cert.MlpRef0Ideal.main_arg5)
      ∧ r.2.mem ((c.tc : Thread Cert.MlpRef0Ideal.nD Cert.MlpRef0Ideal.τ).loc Cert.MlpRef0Ideal.main_arg6) = m ((c.tc : Thread Cert.MlpRef0Ideal.nD Cert.MlpRef0Ideal.τ).loc Cert.MlpRef0Ideal.main_arg6))
      ∧ r.2.sem = fun _ => 0)

def quiescent_Mlp1 [hMlp1 : Cert.Mlp1.Facts] : Prop :=
  ∀ (m : (ℓ : Loc Cert.Mlp1.nD Cert.Mlp1.τ Cert.Mlp1.sig) → Buf (Elt Bits) ℓ) (g : Dev Cert.Mlp1.nD → PrngReg), Pre_Mlp1 m →
    θ_run (Cert.Mlp1.defs (F := Bits)) (onTc (τ := Cert.Mlp1.τ) (Cert.Mlp1.main (F := Bits))) ⟨m, fun _ => 0, g⟩ (fun r => (∀ c : Dev Cert.Mlp1.nD,
      r.2.mem ((c.tc : Thread Cert.Mlp1.nD Cert.Mlp1.τ).loc Cert.Mlp1.main_arg0) = m ((c.tc : Thread Cert.Mlp1.nD Cert.Mlp1.τ).loc Cert.Mlp1.main_arg0)
      ∧ r.2.mem ((c.tc : Thread Cert.Mlp1.nD Cert.Mlp1.τ).loc Cert.Mlp1.main_arg1) = m ((c.tc : Thread Cert.Mlp1.nD Cert.Mlp1.τ).loc Cert.Mlp1.main_arg1)
      ∧ r.2.mem ((c.tc : Thread Cert.Mlp1.nD Cert.Mlp1.τ).loc Cert.Mlp1.main_arg2) = m ((c.tc : Thread Cert.Mlp1.nD Cert.Mlp1.τ).loc Cert.Mlp1.main_arg2)
      ∧ r.2.mem ((c.tc : Thread Cert.Mlp1.nD Cert.Mlp1.τ).loc Cert.Mlp1.main_arg3) = m ((c.tc : Thread Cert.Mlp1.nD Cert.Mlp1.τ).loc Cert.Mlp1.main_arg3)
      ∧ r.2.mem ((c.tc : Thread Cert.Mlp1.nD Cert.Mlp1.τ).loc Cert.Mlp1.main_arg4) = m ((c.tc : Thread Cert.Mlp1.nD Cert.Mlp1.τ).loc Cert.Mlp1.main_arg4)
      ∧ r.2.mem ((c.tc : Thread Cert.Mlp1.nD Cert.Mlp1.τ).loc Cert.Mlp1.main_arg5) = m ((c.tc : Thread Cert.Mlp1.nD Cert.Mlp1.τ).loc Cert.Mlp1.main_arg5)
      ∧ r.2.mem ((c.tc : Thread Cert.Mlp1.nD Cert.Mlp1.τ).loc Cert.Mlp1.main_arg6) = m ((c.tc : Thread Cert.Mlp1.nD Cert.Mlp1.τ).loc Cert.Mlp1.main_arg6))
      ∧ r.2.sem = fun _ => 0)

def quiescent_Mlp1Ideal [hMlp1Ideal : Cert.Mlp1Ideal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg), Pre_Mlp1Ideal m →
    θ_run (Cert.Mlp1Ideal.defs (F := Ideal)) (onTc (τ := Cert.Mlp1Ideal.τ) (Cert.Mlp1Ideal.main (F := Ideal))) ⟨m, fun _ => 0, g⟩ (fun r => (∀ c : Dev Cert.Mlp1Ideal.nD,
      r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
      ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
      ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2)
      ∧ r.2.mem ((c.tc : Thread Cert.Mlp1Ideal.nD Cert.Mlp1Ideal.τ).loc Cert.Mlp1Ideal.main_arg3) = m ((c.tc : Thread Cert.Mlp1Ideal.nD Cert.Mlp1Ideal.τ).loc Cert.Mlp1Ideal.main_arg3)
      ∧ r.2.mem ((c.tc : Thread Cert.Mlp1Ideal.nD Cert.Mlp1Ideal.τ).loc Cert.Mlp1Ideal.main_arg4) = m ((c.tc : Thread Cert.Mlp1Ideal.nD Cert.Mlp1Ideal.τ).loc Cert.Mlp1Ideal.main_arg4)
      ∧ r.2.mem ((c.tc : Thread Cert.Mlp1Ideal.nD Cert.Mlp1Ideal.τ).loc Cert.Mlp1Ideal.main_arg5) = m ((c.tc : Thread Cert.Mlp1Ideal.nD Cert.Mlp1Ideal.τ).loc Cert.Mlp1Ideal.main_arg5)
      ∧ r.2.mem ((c.tc : Thread Cert.Mlp1Ideal.nD Cert.Mlp1Ideal.τ).loc Cert.Mlp1Ideal.main_arg6) = m ((c.tc : Thread Cert.Mlp1Ideal.nD Cert.Mlp1Ideal.τ).loc Cert.Mlp1Ideal.main_arg6))
      ∧ r.2.sem = fun _ => 0)

def quiescent_MlpRef1Ideal [hMlpRef1Ideal : Cert.MlpRef1Ideal.Facts] : Prop :=
  ∀ (m : (ℓ : Loc Cert.MlpRef1Ideal.nD Cert.MlpRef1Ideal.τ Cert.MlpRef1Ideal.sig) → Buf (Elt Ideal) ℓ) (g : Dev Cert.MlpRef1Ideal.nD → PrngReg), Pre_MlpRef1Ideal m →
    θ_run (Cert.MlpRef1Ideal.defs (F := Ideal)) (onTc (τ := Cert.MlpRef1Ideal.τ) (Cert.MlpRef1Ideal.main (F := Ideal))) ⟨m, fun _ => 0, g⟩ (fun r => (∀ c : Dev Cert.MlpRef1Ideal.nD,
      r.2.mem ((c.tc : Thread Cert.MlpRef1Ideal.nD Cert.MlpRef1Ideal.τ).loc Cert.MlpRef1Ideal.main_arg0) = m ((c.tc : Thread Cert.MlpRef1Ideal.nD Cert.MlpRef1Ideal.τ).loc Cert.MlpRef1Ideal.main_arg0)
      ∧ r.2.mem ((c.tc : Thread Cert.MlpRef1Ideal.nD Cert.MlpRef1Ideal.τ).loc Cert.MlpRef1Ideal.main_arg1) = m ((c.tc : Thread Cert.MlpRef1Ideal.nD Cert.MlpRef1Ideal.τ).loc Cert.MlpRef1Ideal.main_arg1)
      ∧ r.2.mem ((c.tc : Thread Cert.MlpRef1Ideal.nD Cert.MlpRef1Ideal.τ).loc Cert.MlpRef1Ideal.main_arg2) = m ((c.tc : Thread Cert.MlpRef1Ideal.nD Cert.MlpRef1Ideal.τ).loc Cert.MlpRef1Ideal.main_arg2)
      ∧ r.2.mem ((c.tc : Thread Cert.MlpRef1Ideal.nD Cert.MlpRef1Ideal.τ).loc Cert.MlpRef1Ideal.main_arg3) = m ((c.tc : Thread Cert.MlpRef1Ideal.nD Cert.MlpRef1Ideal.τ).loc Cert.MlpRef1Ideal.main_arg3)
      ∧ r.2.mem ((c.tc : Thread Cert.MlpRef1Ideal.nD Cert.MlpRef1Ideal.τ).loc Cert.MlpRef1Ideal.main_arg4) = m ((c.tc : Thread Cert.MlpRef1Ideal.nD Cert.MlpRef1Ideal.τ).loc Cert.MlpRef1Ideal.main_arg4)
      ∧ r.2.mem ((c.tc : Thread Cert.MlpRef1Ideal.nD Cert.MlpRef1Ideal.τ).loc Cert.MlpRef1Ideal.main_arg5) = m ((c.tc : Thread Cert.MlpRef1Ideal.nD Cert.MlpRef1Ideal.τ).loc Cert.MlpRef1Ideal.main_arg5)
      ∧ r.2.mem ((c.tc : Thread Cert.MlpRef1Ideal.nD Cert.MlpRef1Ideal.τ).loc Cert.MlpRef1Ideal.main_arg6) = m ((c.tc : Thread Cert.MlpRef1Ideal.nD Cert.MlpRef1Ideal.τ).loc Cert.MlpRef1Ideal.main_arg6))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_logits [hAttnIdeal : Cert.AttnIdeal.Facts] [hPre_finite_logits : Cert.Pre_finite_logits.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_logits m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_logits [hAttnRefIdeal : Cert.AttnRefIdeal.Facts] [hPre_finite_logits : Cert.Pre_finite_logits.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_logits m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def preserves_Mlp0_Mlp0Ideal : Prop :=
  True

def algebraic_Mlp0Ideal_MlpRef0Ideal [hMlp0Ideal : Cert.Mlp0Ideal.Facts] [hMlpRef0Ideal : Cert.MlpRef0Ideal.Facts] : Prop :=
  ∀ (m : (ℓ : Loc Cert.Mlp0Ideal.nD Cert.Mlp0Ideal.τ Cert.Mlp0Ideal.sig) → Buf (Elt Ideal) ℓ) (g : Dev Cert.Mlp0Ideal.nD → PrngReg)
    (m' : (ℓ : Loc Cert.MlpRef0Ideal.nD Cert.MlpRef0Ideal.τ Cert.MlpRef0Ideal.sig) → Buf (Elt Ideal) ℓ) (g' : Dev Cert.MlpRef0Ideal.nD → PrngReg), Pre_Mlp0Ideal m →
    (∀ c : Dev Cert.Mlp0Ideal.nD,
      m' ((c.tc : Thread Cert.MlpRef0Ideal.nD Cert.MlpRef0Ideal.τ).loc Cert.MlpRef0Ideal.main_arg0) = m ((c.tc : Thread Cert.Mlp0Ideal.nD Cert.Mlp0Ideal.τ).loc Cert.Mlp0Ideal.main_arg0)
      ∧ m' ((c.tc : Thread Cert.MlpRef0Ideal.nD Cert.MlpRef0Ideal.τ).loc Cert.MlpRef0Ideal.main_arg1) = m ((c.tc : Thread Cert.Mlp0Ideal.nD Cert.Mlp0Ideal.τ).loc Cert.Mlp0Ideal.main_arg1)
      ∧ m' ((c.tc : Thread Cert.MlpRef0Ideal.nD Cert.MlpRef0Ideal.τ).loc Cert.MlpRef0Ideal.main_arg2) = m ((c.tc : Thread Cert.Mlp0Ideal.nD Cert.Mlp0Ideal.τ).loc Cert.Mlp0Ideal.main_arg2)
      ∧ m' ((c.tc : Thread Cert.MlpRef0Ideal.nD Cert.MlpRef0Ideal.τ).loc Cert.MlpRef0Ideal.main_arg3) = m ((c.tc : Thread Cert.Mlp0Ideal.nD Cert.Mlp0Ideal.τ).loc Cert.Mlp0Ideal.main_arg3)
      ∧ m' ((c.tc : Thread Cert.MlpRef0Ideal.nD Cert.MlpRef0Ideal.τ).loc Cert.MlpRef0Ideal.main_arg4) = m ((c.tc : Thread Cert.Mlp0Ideal.nD Cert.Mlp0Ideal.τ).loc Cert.Mlp0Ideal.main_arg4)
      ∧ m' ((c.tc : Thread Cert.MlpRef0Ideal.nD Cert.MlpRef0Ideal.τ).loc Cert.MlpRef0Ideal.main_arg5) = m ((c.tc : Thread Cert.Mlp0Ideal.nD Cert.Mlp0Ideal.τ).loc Cert.Mlp0Ideal.main_arg5)
      ∧ m' ((c.tc : Thread Cert.MlpRef0Ideal.nD Cert.MlpRef0Ideal.τ).loc Cert.MlpRef0Ideal.main_arg6) = m ((c.tc : Thread Cert.Mlp0Ideal.nD Cert.Mlp0Ideal.τ).loc Cert.Mlp0Ideal.main_arg6)) →
    ∃ (v0 : (c : Dev Cert.Mlp0Ideal.nD) → Buf (Elt Ideal) ((c.tc : Thread Cert.Mlp0Ideal.nD Cert.Mlp0Ideal.τ).loc Cert.Mlp0Ideal.main_v4)),
      θ_run (Cert.Mlp0Ideal.defs (F := Ideal)) (onTc (τ := Cert.Mlp0Ideal.τ) (Cert.Mlp0Ideal.main (F := Ideal))) ⟨m, fun _ => 0, g⟩ (fun r => ∀ c : Dev Cert.Mlp0Ideal.nD,
          r.2.mem ((c.tc : Thread Cert.Mlp0Ideal.nD Cert.Mlp0Ideal.τ).loc Cert.Mlp0Ideal.main_v4) = v0 c
          ∧ r.2.mem ((c.tc : Thread Cert.Mlp0Ideal.nD Cert.Mlp0Ideal.τ).loc Cert.Mlp0Ideal.main_arg0) = m ((c.tc : Thread Cert.Mlp0Ideal.nD Cert.Mlp0Ideal.τ).loc Cert.Mlp0Ideal.main_arg0)
          ∧ r.2.mem ((c.tc : Thread Cert.Mlp0Ideal.nD Cert.Mlp0Ideal.τ).loc Cert.Mlp0Ideal.main_arg1) = m ((c.tc : Thread Cert.Mlp0Ideal.nD Cert.Mlp0Ideal.τ).loc Cert.Mlp0Ideal.main_arg1)
          ∧ r.2.mem ((c.tc : Thread Cert.Mlp0Ideal.nD Cert.Mlp0Ideal.τ).loc Cert.Mlp0Ideal.main_arg2) = m ((c.tc : Thread Cert.Mlp0Ideal.nD Cert.Mlp0Ideal.τ).loc Cert.Mlp0Ideal.main_arg2)
          ∧ r.2.mem ((c.tc : Thread Cert.Mlp0Ideal.nD Cert.Mlp0Ideal.τ).loc Cert.Mlp0Ideal.main_arg3) = m ((c.tc : Thread Cert.Mlp0Ideal.nD Cert.Mlp0Ideal.τ).loc Cert.Mlp0Ideal.main_arg3)
          ∧ r.2.mem ((c.tc : Thread Cert.Mlp0Ideal.nD Cert.Mlp0Ideal.τ).loc Cert.Mlp0Ideal.main_arg4) = m ((c.tc : Thread Cert.Mlp0Ideal.nD Cert.Mlp0Ideal.τ).loc Cert.Mlp0Ideal.main_arg4)
          ∧ r.2.mem ((c.tc : Thread Cert.Mlp0Ideal.nD Cert.Mlp0Ideal.τ).loc Cert.Mlp0Ideal.main_arg5) = m ((c.tc : Thread Cert.Mlp0Ideal.nD Cert.Mlp0Ideal.τ).loc Cert.Mlp0Ideal.main_arg5)
          ∧ r.2.mem ((c.tc : Thread Cert.Mlp0Ideal.nD Cert.Mlp0Ideal.τ).loc Cert.Mlp0Ideal.main_arg6) = m ((c.tc : Thread Cert.Mlp0Ideal.nD Cert.Mlp0Ideal.τ).loc Cert.Mlp0Ideal.main_arg6))
      ∧ θ_run (Cert.MlpRef0Ideal.defs (F := Ideal)) (onTc (τ := Cert.MlpRef0Ideal.τ) (Cert.MlpRef0Ideal.main (F := Ideal))) ⟨m', fun _ => 0, g'⟩ (fun r => ∀ c : Dev Cert.MlpRef0Ideal.nD,
          r.2.mem ((c.tc : Thread Cert.MlpRef0Ideal.nD Cert.MlpRef0Ideal.τ).loc Cert.MlpRef0Ideal.main_v30) = v0 c
          ∧ r.2.mem ((c.tc : Thread Cert.MlpRef0Ideal.nD Cert.MlpRef0Ideal.τ).loc Cert.MlpRef0Ideal.main_arg0) = m' ((c.tc : Thread Cert.MlpRef0Ideal.nD Cert.MlpRef0Ideal.τ).loc Cert.MlpRef0Ideal.main_arg0)
          ∧ r.2.mem ((c.tc : Thread Cert.MlpRef0Ideal.nD Cert.MlpRef0Ideal.τ).loc Cert.MlpRef0Ideal.main_arg1) = m' ((c.tc : Thread Cert.MlpRef0Ideal.nD Cert.MlpRef0Ideal.τ).loc Cert.MlpRef0Ideal.main_arg1)
          ∧ r.2.mem ((c.tc : Thread Cert.MlpRef0Ideal.nD Cert.MlpRef0Ideal.τ).loc Cert.MlpRef0Ideal.main_arg2) = m' ((c.tc : Thread Cert.MlpRef0Ideal.nD Cert.MlpRef0Ideal.τ).loc Cert.MlpRef0Ideal.main_arg2)
          ∧ r.2.mem ((c.tc : Thread Cert.MlpRef0Ideal.nD Cert.MlpRef0Ideal.τ).loc Cert.MlpRef0Ideal.main_arg3) = m' ((c.tc : Thread Cert.MlpRef0Ideal.nD Cert.MlpRef0Ideal.τ).loc Cert.MlpRef0Ideal.main_arg3)
          ∧ r.2.mem ((c.tc : Thread Cert.MlpRef0Ideal.nD Cert.MlpRef0Ideal.τ).loc Cert.MlpRef0Ideal.main_arg4) = m' ((c.tc : Thread Cert.MlpRef0Ideal.nD Cert.MlpRef0Ideal.τ).loc Cert.MlpRef0Ideal.main_arg4)
          ∧ r.2.mem ((c.tc : Thread Cert.MlpRef0Ideal.nD Cert.MlpRef0Ideal.τ).loc Cert.MlpRef0Ideal.main_arg5) = m' ((c.tc : Thread Cert.MlpRef0Ideal.nD Cert.MlpRef0Ideal.τ).loc Cert.MlpRef0Ideal.main_arg5)
          ∧ r.2.mem ((c.tc : Thread Cert.MlpRef0Ideal.nD Cert.MlpRef0Ideal.τ).loc Cert.MlpRef0Ideal.main_arg6) = m' ((c.tc : Thread Cert.MlpRef0Ideal.nD Cert.MlpRef0Ideal.τ).loc Cert.MlpRef0Ideal.main_arg6))

def preserves_Mlp1_Mlp1Ideal : Prop :=
  True

def algebraic_Mlp1Ideal_MlpRef1Ideal [hMlp1Ideal : Cert.Mlp1Ideal.Facts] [hMlpRef1Ideal : Cert.MlpRef1Ideal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg)
    (m' : (ℓ : Loc Cert.MlpRef1Ideal.nD Cert.MlpRef1Ideal.τ Cert.MlpRef1Ideal.sig) → Buf (Elt Ideal) ℓ) (g' : Dev Cert.MlpRef1Ideal.nD → PrngReg), Pre_Mlp1Ideal m →
    (∀ c : Dev Cert.Mlp1Ideal.nD,
      m' ((c.tc : Thread Cert.MlpRef1Ideal.nD Cert.MlpRef1Ideal.τ).loc Cert.MlpRef1Ideal.main_arg0) = m ((c.tc : Thread Cert.Mlp1Ideal.nD Cert.Mlp1Ideal.τ).loc Cert.Mlp1Ideal.main_arg0)
      ∧ m' ((c.tc : Thread Cert.MlpRef1Ideal.nD Cert.MlpRef1Ideal.τ).loc Cert.MlpRef1Ideal.main_arg1) = m ((c.tc : Thread Cert.Mlp1Ideal.nD Cert.Mlp1Ideal.τ).loc Cert.Mlp1Ideal.main_arg1)
      ∧ m' ((c.tc : Thread Cert.MlpRef1Ideal.nD Cert.MlpRef1Ideal.τ).loc Cert.MlpRef1Ideal.main_arg2) = m ((c.tc : Thread Cert.Mlp1Ideal.nD Cert.Mlp1Ideal.τ).loc Cert.Mlp1Ideal.main_arg2)
      ∧ m' ((c.tc : Thread Cert.MlpRef1Ideal.nD Cert.MlpRef1Ideal.τ).loc Cert.MlpRef1Ideal.main_arg3) = m ((c.tc : Thread Cert.Mlp1Ideal.nD Cert.Mlp1Ideal.τ).loc Cert.Mlp1Ideal.main_arg3)
      ∧ m' ((c.tc : Thread Cert.MlpRef1Ideal.nD Cert.MlpRef1Ideal.τ).loc Cert.MlpRef1Ideal.main_arg4) = m ((c.tc : Thread Cert.Mlp1Ideal.nD Cert.Mlp1Ideal.τ).loc Cert.Mlp1Ideal.main_arg4)
      ∧ m' ((c.tc : Thread Cert.MlpRef1Ideal.nD Cert.MlpRef1Ideal.τ).loc Cert.MlpRef1Ideal.main_arg5) = m ((c.tc : Thread Cert.Mlp1Ideal.nD Cert.Mlp1Ideal.τ).loc Cert.Mlp1Ideal.main_arg5)
      ∧ m' ((c.tc : Thread Cert.MlpRef1Ideal.nD Cert.MlpRef1Ideal.τ).loc Cert.MlpRef1Ideal.main_arg6) = m ((c.tc : Thread Cert.Mlp1Ideal.nD Cert.Mlp1Ideal.τ).loc Cert.Mlp1Ideal.main_arg6)) →
    ∃ (v0 : (c : Dev Cert.Mlp1Ideal.nD) → Buf (Elt Ideal) ((c.tc : Thread Cert.Mlp1Ideal.nD Cert.Mlp1Ideal.τ).loc Cert.Mlp1Ideal.main_v4)),
      θ_run (Cert.Mlp1Ideal.defs (F := Ideal)) (onTc (τ := Cert.Mlp1Ideal.τ) (Cert.Mlp1Ideal.main (F := Ideal))) ⟨m, fun _ => 0, g⟩ (fun r => ∀ c : Dev Cert.Mlp1Ideal.nD,
          r.2.mem ((c.tc : Thread Cert.Mlp1Ideal.nD Cert.Mlp1Ideal.τ).loc Cert.Mlp1Ideal.main_v4) = v0 c
          ∧ r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
          ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
          ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2)
          ∧ r.2.mem ((c.tc : Thread Cert.Mlp1Ideal.nD Cert.Mlp1Ideal.τ).loc Cert.Mlp1Ideal.main_arg3) = m ((c.tc : Thread Cert.Mlp1Ideal.nD Cert.Mlp1Ideal.τ).loc Cert.Mlp1Ideal.main_arg3)
          ∧ r.2.mem ((c.tc : Thread Cert.Mlp1Ideal.nD Cert.Mlp1Ideal.τ).loc Cert.Mlp1Ideal.main_arg4) = m ((c.tc : Thread Cert.Mlp1Ideal.nD Cert.Mlp1Ideal.τ).loc Cert.Mlp1Ideal.main_arg4)
          ∧ r.2.mem ((c.tc : Thread Cert.Mlp1Ideal.nD Cert.Mlp1Ideal.τ).loc Cert.Mlp1Ideal.main_arg5) = m ((c.tc : Thread Cert.Mlp1Ideal.nD Cert.Mlp1Ideal.τ).loc Cert.Mlp1Ideal.main_arg5)
          ∧ r.2.mem ((c.tc : Thread Cert.Mlp1Ideal.nD Cert.Mlp1Ideal.τ).loc Cert.Mlp1Ideal.main_arg6) = m ((c.tc : Thread Cert.Mlp1Ideal.nD Cert.Mlp1Ideal.τ).loc Cert.Mlp1Ideal.main_arg6))
      ∧ θ_run (Cert.MlpRef1Ideal.defs (F := Ideal)) (onTc (τ := Cert.MlpRef1Ideal.τ) (Cert.MlpRef1Ideal.main (F := Ideal))) ⟨m', fun _ => 0, g'⟩ (fun r => ∀ c : Dev Cert.MlpRef1Ideal.nD,
          r.2.mem ((c.tc : Thread Cert.MlpRef1Ideal.nD Cert.MlpRef1Ideal.τ).loc Cert.MlpRef1Ideal.main_v31) = v0 c
          ∧ r.2.mem ((c.tc : Thread Cert.MlpRef1Ideal.nD Cert.MlpRef1Ideal.τ).loc Cert.MlpRef1Ideal.main_arg0) = m' ((c.tc : Thread Cert.MlpRef1Ideal.nD Cert.MlpRef1Ideal.τ).loc Cert.MlpRef1Ideal.main_arg0)
          ∧ r.2.mem ((c.tc : Thread Cert.MlpRef1Ideal.nD Cert.MlpRef1Ideal.τ).loc Cert.MlpRef1Ideal.main_arg1) = m' ((c.tc : Thread Cert.MlpRef1Ideal.nD Cert.MlpRef1Ideal.τ).loc Cert.MlpRef1Ideal.main_arg1)
          ∧ r.2.mem ((c.tc : Thread Cert.MlpRef1Ideal.nD Cert.MlpRef1Ideal.τ).loc Cert.MlpRef1Ideal.main_arg2) = m' ((c.tc : Thread Cert.MlpRef1Ideal.nD Cert.MlpRef1Ideal.τ).loc Cert.MlpRef1Ideal.main_arg2)
          ∧ r.2.mem ((c.tc : Thread Cert.MlpRef1Ideal.nD Cert.MlpRef1Ideal.τ).loc Cert.MlpRef1Ideal.main_arg3) = m' ((c.tc : Thread Cert.MlpRef1Ideal.nD Cert.MlpRef1Ideal.τ).loc Cert.MlpRef1Ideal.main_arg3)
          ∧ r.2.mem ((c.tc : Thread Cert.MlpRef1Ideal.nD Cert.MlpRef1Ideal.τ).loc Cert.MlpRef1Ideal.main_arg4) = m' ((c.tc : Thread Cert.MlpRef1Ideal.nD Cert.MlpRef1Ideal.τ).loc Cert.MlpRef1Ideal.main_arg4)
          ∧ r.2.mem ((c.tc : Thread Cert.MlpRef1Ideal.nD Cert.MlpRef1Ideal.τ).loc Cert.MlpRef1Ideal.main_arg5) = m' ((c.tc : Thread Cert.MlpRef1Ideal.nD Cert.MlpRef1Ideal.τ).loc Cert.MlpRef1Ideal.main_arg5)
          ∧ r.2.mem ((c.tc : Thread Cert.MlpRef1Ideal.nD Cert.MlpRef1Ideal.τ).loc Cert.MlpRef1Ideal.main_arg6) = m' ((c.tc : Thread Cert.MlpRef1Ideal.nD Cert.MlpRef1Ideal.τ).loc Cert.MlpRef1Ideal.main_arg6))

def preserves_Attn_AttnIdeal : Prop :=
  IdealRules.named_const.Statement Cert.AttnIdeal.κ "mask" .f32 0xF149F2CA#32 ⊥
  ∧ IdealRules.named_const.Statement Cert.AttnIdeal.κ "mask" .bf16 0xF14A#16 ⊥

def algebraic_AttnIdeal_AttnRefIdeal_pre_finite_logits [hAttnIdeal : Cert.AttnIdeal.Facts] [hAttnRefIdeal : Cert.AttnRefIdeal.Facts] [hPre_finite_logits : Cert.Pre_finite_logits.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_logits m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v51) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v3_0)) (v1 : (c : Dev Cert.MemKvIdeal.nD) → Buf (Elt Ideal) ((c.tc : Thread Cert.MemKvIdeal.nD Cert.MemKvIdeal.τ).loc Cert.MemKvIdeal.main_v3_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3_0) = v0 c
          ∧ r.2.mem ((c.tc : Thread Cert.MemKvIdeal.nD Cert.MemKvIdeal.τ).loc Cert.MemKvIdeal.main_v3_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v80) = v0 c
          ∧ r.2.mem ((c.tc : Thread Cert.MemKvRefIdeal.nD Cert.MemKvRefIdeal.τ).loc Cert.MemKvRefIdeal.main_v83) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def Claim : Prop :=
  ∃ (hMlp0 : Cert.Mlp0.Facts) (hMlp0Ideal : Cert.Mlp0Ideal.Facts) (hMlpRef0Ideal : Cert.MlpRef0Ideal.Facts) (hMlp1 : Cert.Mlp1.Facts) (hMlp1Ideal : Cert.Mlp1Ideal.Facts) (hMlpRef1Ideal : Cert.MlpRef1Ideal.Facts) (hAttn : Cert.Attn.Facts) (hAttnIdeal : Cert.AttnIdeal.Facts) (hAttnRefIdeal : Cert.AttnRefIdeal.Facts) (hMemKv : Cert.MemKv.Facts) (hMemKvIdeal : Cert.MemKvIdeal.Facts) (hMemKvRefIdeal : Cert.MemKvRefIdeal.Facts) (hPre_finite_logits : Cert.Pre_finite_logits.Facts),
    quiescent_Mlp0 (hMlp0 := hMlp0)
    ∧ quiescent_Mlp0Ideal (hMlp0Ideal := hMlp0Ideal)
    ∧ quiescent_MlpRef0Ideal (hMlpRef0Ideal := hMlpRef0Ideal)
    ∧ quiescent_Mlp1 (hMlp1 := hMlp1)
    ∧ quiescent_Mlp1Ideal (hMlp1Ideal := hMlp1Ideal)
    ∧ quiescent_MlpRef1Ideal (hMlpRef1Ideal := hMlpRef1Ideal)
    ∧ quiescent_Attn (hAttn := hAttn)
    ∧ quiescent_AttnIdeal (hAttnIdeal := hAttnIdeal)
    ∧ quiescent_AttnIdeal_pre_finite_logits (hAttnIdeal := hAttnIdeal) (hPre_finite_logits := hPre_finite_logits)
    ∧ quiescent_AttnRefIdeal (hAttnRefIdeal := hAttnRefIdeal)
    ∧ quiescent_AttnRefIdeal_pre_finite_logits (hAttnRefIdeal := hAttnRefIdeal) (hPre_finite_logits := hPre_finite_logits)
    ∧ quiescent_MemKv (hMemKv := hMemKv)
    ∧ quiescent_MemKvIdeal (hMemKvIdeal := hMemKvIdeal)
    ∧ quiescent_MemKvRefIdeal (hMemKvRefIdeal := hMemKvRefIdeal)
    ∧ preserves_Mlp0_Mlp0Ideal
    ∧ algebraic_Mlp0Ideal_MlpRef0Ideal (hMlp0Ideal := hMlp0Ideal) (hMlpRef0Ideal := hMlpRef0Ideal)
    ∧ preserves_Mlp1_Mlp1Ideal
    ∧ algebraic_Mlp1Ideal_MlpRef1Ideal (hMlp1Ideal := hMlp1Ideal) (hMlpRef1Ideal := hMlpRef1Ideal)
    ∧ preserves_Attn_AttnIdeal
    ∧ algebraic_AttnIdeal_AttnRefIdeal_pre_finite_logits (hAttnIdeal := hAttnIdeal) (hAttnRefIdeal := hAttnRefIdeal) (hPre_finite_logits := hPre_finite_logits)
    ∧ preserves_MemKv_MemKvIdeal
    ∧ algebraic_MemKvIdeal_MemKvRefIdeal (hMemKvIdeal := hMemKvIdeal) (hMemKvRefIdeal := hMemKvRefIdeal)
-- ==== Pre_finite_logits.lean ====
abbrev S8x512x4096 : Shape := ⟨3, ![8, 512, 4096]⟩
abbrev S8x4096x1024 : Shape := ⟨3, ![8, 4096, 1024]⟩
abbrev S8x64x4096 : Shape := ⟨3, ![8, 64, 4096]⟩
abbrev S_ : Shape := ⟨0, ![]⟩

class Facts : Prop where
  bitsLt_bf16_f32 : FTy.bits .bf16 < FTy.bits .f32
  bcast_S_S8x512x4096 : S_.BroadcastsInDim S8x512x4096 (![] : Fin 0 → Fin S8x512x4096.rank)
  reducesTo_S8x512x4096_S_d0_1_2 : S8x512x4096.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x64x4096 : S_.BroadcastsInDim S8x64x4096 (![] : Fin 0 → Fin S8x64x4096.rank)
  reducesTo_S8x64x4096_S_d0_1_2 : S8x64x4096.ReducesTo [0, 1, 2] S_

variable [Facts]

def fn {F : FTy → Type} [FloatOps F] (main_arg0 : FVec F S8x512x4096 .bf16) (main_arg1 : FVec F S8x4096x1024 .bf16) (main_arg2 : FVec F S8x512x4096 .bf16) (main_arg3 : FVec F S8x64x4096 .f32) : IVec S_ 1 :=
  let main_v0 : FVec F S8x512x4096 .f32 := (extf .f32 · bitsLt_bf16_f32) main_arg0
  let main_v1 : FVec F S8x512x4096 .f32 := Host.absf main_v0
  let main_cst : FVec F S_ .f32 := constant S_ .f32 0x7F800000#32
  let main_v2 : FVec F S8x512x4096 .f32 := broadcastInDim S8x512x4096 ![] bcast_S_S8x512x4096 main_cst
  let main_v3 : IVec S8x512x4096 1 := cmpf .olt main_v1 main_v2
  let main_c : IVec S_ 1 := constantI S_ 1 1#1
  let main_v4 : IVec S_ 1 := (fun x v => Host.reduce IntOp.andi x v reducesTo_S8x512x4096_S_d0_1_2 h_S_) main_v3 main_c
  let main_v5 : FVec F S8x4096x1024 .f32 := (extf .f32 · bitsLt_bf16_f32) main_arg1
  let main_v6 : FVec F S8x4096x1024 .f32 := Host.absf main_v5
  let main_cst_0 : FVec F S_ .f32 := constant S_ .f32 0x7F800000#32
  let main_v7 : FVec F S8x4096x1024 .f32 := broadcastInDim S8x4096x1024 ![] bcast_S_S8x4096x1024 main_cst_0
  let main_v8 : IVec S8x4096x1024 1 := cmpf .olt main_v6 main_v7
  let main_c_1 : IVec S_ 1 := constantI S_ 1 1#1
  let main_v9 : IVec S_ 1 := (fun x v => Host.reduce IntOp.andi x v reducesTo_S8x4096x1024_S_d0_1_2 h_S_) main_v8 main_c_1
  let main_v10 : IVec S_ 1 := andi main_v4 main_v9
  let main_v11 : FVec F S8x64x4096 .f32 := Host.absf main_arg3
  let main_cst_2 : FVec F S_ .f32 := constant S_ .f32 0x7F800000#32
  let main_v12 : FVec F S8x64x4096 .f32 := broadcastInDim S8x64x4096 ![] bcast_S_S8x64x4096 main_cst_2
  let main_v13 : IVec S8x64x4096 1 := cmpf .olt main_v11 main_v12
  let main_c_3 : IVec S_ 1 := constantI S_ 1 1#1
  let main_v14 : IVec S_ 1 := (fun x v => Host.reduce IntOp.andi x v reducesTo_S8x64x4096_S_d0_1_2 h_S_) main_v13 main_c_3
  let main_v15 : IVec S_ 1 := andi main_v10 main_v14
  main_v15
-- ==== Mlp0.lean ====
abbrev S8x4096x1024 : Shape := ⟨3, ![8, 4096, 1024]⟩
abbrev S8x4096x512 : Shape := ⟨3, ![8, 4096, 512]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S2x1x1024 : Shape := ⟨3, ![2, 1, 1024]⟩
abbrev S1x1024x1024 : Shape := ⟨3, ![1, 1024, 1024]⟩
abbrev S1x1024x512 : Shape := ⟨3, ![1, 1024, 512]⟩
abbrev S1x1x1024 : Shape := ⟨3, ![1, 1, 1024]⟩
abbrev S1x1024x4096 : Shape := ⟨3, ![1, 1024, 4096]⟩
abbrev S1x4096x1024 : Shape := ⟨3, ![1, 4096, 1024]⟩
abbrev S1024x512 : Shape := ⟨2, ![1024, 512]⟩
abbrev S1x512x1024 : Shape := ⟨3, ![1, 512, 1024]⟩
abbrev S512x1024 : Shape := ⟨2, ![512, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 12
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S2x1024x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S2x1024x1024, .bf16⟩
  | .hbm, ⟨8, _⟩ => ⟨S2x1024x4096, .bf16⟩
  | .hbm, ⟨9, _⟩ => ⟨S2x4096x1024, .bf16⟩
  | .hbm, ⟨10, _⟩ => ⟨S2x1x1024, .f32⟩
  | .hbm, ⟨11, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x1024, .bf16⟩
  | .local _ .vmem, ⟨7, _⟩ => ⟨S1x1x1024, .f32⟩
  | .local _ .vmem, ⟨8, _⟩ => ⟨S1x1024x4096, .bf16⟩
  | .local _ .vmem, ⟨9, _⟩ => ⟨S1x4096x1024, .bf16⟩
  | .local _ .vmem, ⟨10, _⟩ => ⟨S1x1024x1024, .f32⟩
  | .local _ .vmem, ⟨11, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MlpRef0Ideal.lean ====
abbrev S8x4096x1024 : Shape := ⟨3, ![8, 4096, 1024]⟩
abbrev S8x4096x512 : Shape := ⟨3, ![8, 4096, 512]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x4096x4096 : Shape := ⟨3, ![8, 4096, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S2x1024x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S8x4096x512, .f32⟩
  | .hbm, ⟨8, _⟩ => ⟨S8x4096x512, .f32⟩
  | .hbm, ⟨9, _⟩ => ⟨S8x4096x1024, .f32⟩
  | .hbm, ⟨10, _⟩ => ⟨S1x1024x1024, .f32⟩
  | .hbm, ⟨11, _⟩ => ⟨S1024x1024, .f32⟩
  | .hbm, ⟨12, _⟩ => ⟨S8x4096x1024, .f32⟩
  | .hbm, ⟨13, _⟩ => ⟨S8x4096x1024, .f32⟩
  | .hbm, ⟨14, _⟩ => ⟨S1x1024, .f32⟩
  | .hbm, ⟨15, _⟩ => ⟨S1024, .f32⟩
  | .hbm, ⟨16, _⟩ => ⟨S8x4096x1024, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1, .f32⟩
  | .hbm, ⟨27, _⟩ => ⟨S8x4096x1024, .f32⟩
  | .hbm, ⟨28, _⟩ => ⟨S8x4096x1024, .f32⟩
  | .hbm, ⟨29, _⟩ => ⟨S1x1x1024, .f32⟩
  | .hbm, ⟨30, _⟩ => ⟨S8x4096x1024, .f32⟩
  | .hbm, ⟨31, _⟩ => ⟨S8x4096x1024, .f32⟩
  | .hbm, ⟨32, _⟩ => ⟨S1x1024x4096, .f32⟩
  | .hbm, ⟨33, _⟩ => ⟨S1024x4096, .f32⟩
  | .hbm, ⟨34, _⟩ => ⟨S1x4096x1024, .f32⟩
  | .hbm, ⟨35, _⟩ => ⟨S4096x1024, .f32⟩
  | .hbm, ⟨36, _⟩ => ⟨S8x4096x4096, .f32⟩
  | .hbm, ⟨37, _⟩ => ⟨S_, .f32⟩
  | .hbm, ⟨38, _⟩ => ⟨S8x4096x4096, .f32⟩
  | .hbm, ⟨39, _⟩ => ⟨S8x4096x4096, .f32⟩
  | .hbm, ⟨40, _⟩ => ⟨S8x4096x4096, .f32⟩
  | .hbm, ⟨41, _⟩ => ⟨S8x4096x1024, .f32⟩
  | .hbm, ⟨42, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_cst : Ref sig .tc := ⟨.hbm, 37, rfl⟩
abbrev main_call0_v0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Mlp1.lean ====
abbrev S8x4096x1024 : Shape := ⟨3, ![8, 4096, 1024]⟩
abbrev S8x512x4096 : Shape := ⟨3, ![8, 512, 4096]⟩
abbrev S8x4096x512 : Shape := ⟨3, ![8, 4096, 512]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S2x1x1024 : Shape := ⟨3, ![2, 1, 1024]⟩
abbrev S1x1024x1024 : Shape := ⟨3, ![1, 1024, 1024]⟩
abbrev S1x512x1024 : Shape := ⟨3, ![1, 512, 1024]⟩
abbrev S1x1024x512 : Shape := ⟨3, ![1, 1024, 512]⟩
abbrev S1x1x1024 : Shape := ⟨3, ![1, 1, 1024]⟩
abbrev S1x1024x4096 : Shape := ⟨3, ![1, 1024, 4096]⟩
abbrev S1x4096x1024 : Shape := ⟨3, ![1, 4096, 1024]⟩
abbrev S512x1024 : Shape := ⟨2, ![512, 1024]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩
abbrev S1x1024 : Shape := ⟨2, ![1, 1024]⟩

abbrev nBuf : Space → Nat
  | .hbm => 12
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x512x4096, .bf16⟩
  | .hbm, ⟨2, _⟩ => ⟨S8x4096x512, .bf16⟩
  | .hbm, ⟨3, _⟩ => ⟨S2x1024x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S2x1024x1024, .bf16⟩
  | .hbm, ⟨8, _⟩ => ⟨S2x1024x4096, .bf16⟩
  | .hbm, ⟨9, _⟩ => ⟨S2x4096x1024, .bf16⟩
  | .hbm, ⟨10, _⟩ => ⟨S2x1x1024, .f32⟩
  | .hbm, ⟨11, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x1024, .bf16⟩
  | .local _ .vmem, ⟨7, _⟩ => ⟨S1x1x1024, .f32⟩
  | .local _ .vmem, ⟨8, _⟩ => ⟨S1x1024x4096, .bf16⟩
  | .local _ .vmem, ⟨9, _⟩ => ⟨S1x4096x1024, .bf16⟩
  | .local _ .vmem, ⟨10, _⟩ => ⟨S1x1024x1024, .f32⟩
  | .local _ .vmem, ⟨11, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MlpRef1Ideal.lean ====
abbrev S8x4096x1024 : Shape := ⟨3, ![8, 4096, 1024]⟩
abbrev S8x512x4096 : Shape := ⟨3, ![8, 512, 4096]⟩
abbrev S8x4096x512 : Shape := ⟨3, ![8, 4096, 512]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x4096x4096 : Shape := ⟨3, ![8, 4096, 4096]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x512x4096, .bf16⟩
  | .hbm, ⟨2, _⟩ => ⟨S8x4096x512, .bf16⟩
  | .hbm, ⟨3, _⟩ => ⟨S2x1024x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S8x512x4096, .f32⟩
  | .hbm, ⟨8, _⟩ => ⟨S8x4096x512, .f32⟩
  | .hbm, ⟨9, _⟩ => ⟨S8x4096x512, .f32⟩
  | .hbm, ⟨10, _⟩ => ⟨S8x4096x1024, .f32⟩
  | .hbm, ⟨11, _⟩ => ⟨S1x1024x1024, .f32⟩
  | .hbm, ⟨12, _⟩ => ⟨S1024x1024, .f32⟩
  | .hbm, ⟨13, _⟩ => ⟨S8x4096x1024, .f32⟩
  | .hbm, ⟨14, _⟩ => ⟨S8x4096x1024, .f32⟩
  | .hbm, ⟨15, _⟩ => ⟨S1x1024, .f32⟩
  | .hbm, ⟨16, _⟩ => ⟨S1024, .f32⟩
  | .hbm, ⟨17, _⟩ => ⟨S8x4096x1024, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S1x1x1024, .f32⟩
  | .hbm, ⟨31, _⟩ => ⟨S8x4096x1024, .f32⟩
  | .hbm, ⟨32, _⟩ => ⟨S8x4096x1024, .f32⟩
  | .hbm, ⟨33, _⟩ => ⟨S1x1024x4096, .f32⟩
  | .hbm, ⟨34, _⟩ => ⟨S1024x4096, .f32⟩
  | .hbm, ⟨35, _⟩ => ⟨S1x4096x1024, .f32⟩
  | .hbm, ⟨36, _⟩ => ⟨S4096x1024, .f32⟩
  | .hbm, ⟨37, _⟩ => ⟨S8x4096x4096, .f32⟩
  | .hbm, ⟨38, _⟩ => ⟨S_, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S8x4096x1024, .f32⟩
  | .hbm, ⟨43, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Attn.lean ====
abbrev S8x512x4096 : Shape := ⟨3, ![8, 512, 4096]⟩
abbrev S8x4096x1024 : Shape := ⟨3, ![8, 4096, 1024]⟩
abbrev S8x64x4096 : Shape := ⟨3, ![8, 64, 4096]⟩
abbrev S1x512x256 : Shape := ⟨3, ![1, 512, 256]⟩
abbrev S1x4096x1024 : Shape := ⟨3, ![1, 4096, 1024]⟩
abbrev S1x512x4096 : Shape := ⟨3, ![1, 512, 4096]⟩
abbrev S1x64x256 : Shape := ⟨3, ![1, 64, 256]⟩
abbrev S8x256x256 : Shape := ⟨3, ![8, 256, 256]⟩
abbrev S8x1x256 : Shape := ⟨3, ![8, 1, 256]⟩
abbrev S8x80x256 : Shape := ⟨3, ![8, 80, 256]⟩
abbrev S128x256 : Shape := ⟨2, ![128, 256]⟩
abbrev S8x256 : Shape := ⟨2, ![8, 256]⟩
abbrev S256x256 : Shape := ⟨2, ![256, 256]⟩
abbrev S1x128x256 : Shape := ⟨3, ![1, 128, 256]⟩
abbrev S1x8x256 : Shape := ⟨3, ![1, 8, 256]⟩
abbrev S112x256 : Shape := ⟨2, ![112, 256]⟩
abbrev S16x256 : Shape := ⟨2, ![16, 256]⟩
abbrev S1x256x256 : Shape := ⟨3, ![1, 256, 256]⟩
abbrev S1x1x256 : Shape := ⟨3, ![1, 1, 256]⟩
abbrev S1x256 : Shape := ⟨2, ![1, 256]⟩
abbrev S256 : Shape := ⟨1, ![256]⟩
abbrev S64x256 : Shape := ⟨2, ![64, 256]⟩
abbrev S80x256 : Shape := ⟨2, ![80, 256]⟩
abbrev S1x80x256 : Shape := ⟨3, ![1, 80, 256]⟩

abbrev nBuf : Space → Nat
  | .hbm => 5
  | .vmem => 19
  | .smem => 0
  | _ => 0

abbrev bufTy : (tb : Table) → Fin (tcTables nBuf tb) → BufTy
  | .hbm, ⟨0, _⟩ => ⟨S8x512x4096, .bf16⟩
  | .hbm, ⟨1, _⟩ => ⟨S8x4096x1024, .bf16⟩
  | .hbm, ⟨2, _⟩ => ⟨S8x512x4096, .bf16⟩
  | .hbm, ⟨3, _⟩ => ⟨S8x64x4096, .f32⟩
  | .hbm, ⟨4, _⟩ => ⟨S8x512x4096, .bf16⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x4096x1024, .bf16⟩
  | .local _ .vmem, ⟨5, _⟩ => ⟨S1x4096x1024, .bf16⟩
  | .local _ .vmem, ⟨6, _⟩ => ⟨S1x512x4096, .bf16⟩
  | .local _ .vmem, ⟨7, _⟩ => ⟨S1x512x4096, .bf16⟩
  | .local _ .vmem, ⟨8, _⟩ => ⟨S1x64x256, .f32⟩
  | .local _ .vmem, ⟨9, _⟩ => ⟨S1x64x256, .f32⟩
  | .local _ .vmem, ⟨10, _⟩ => ⟨S1x64x256, .f32⟩
  | .local _ .vmem, ⟨11, _⟩ => ⟨S1x64x256, .f32⟩
  | .local _ .vmem, ⟨12, _⟩ => ⟨S1x512x256, .bf16⟩
  | .local _ .vmem, ⟨13, _⟩ => ⟨S1x512x256, .bf16⟩
  | .local _ .vmem, ⟨14, _⟩ => ⟨S8x256x256, .bf16⟩
  | .local _ .vmem, ⟨15, _⟩ => ⟨S8x256x256, .bf16⟩
  | .local _ .vmem, ⟨16, _⟩ => ⟨S8x256x256, .bf16⟩
  | .local _ .vmem, ⟨17, _⟩ => ⟨S8x1x256, .f32⟩
  | .local _ .vmem, ⟨18, _⟩ => ⟨S8x80x256, .f32⟩
  | _, _ => ⟨S8x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 1, 16], ![false, false, false]⟩

def k0_cond1 (i : grid0.Coords) : BitVec 1 :=
  let arg2 : BitVec 32 := BitVec.ofNat 32 (i 2).val
  let c0_i32_295 : BitVec 32 := 0#32
  let v530 : BitVec 1 := Scalar.cmpi .eq arg2 c0_i32_295
  let v531 : BitVec 32 := Scalar.extui v530
  let c0_i32_296 : BitVec 32 := 0#32
  let v532 : BitVec 1 := Scalar.cmpi .ne v531 c0_i32_296
  v532

def k0_mult1 : BitVec 32 :=
  let c0_i32_374 : BitVec 32 := 0#32
  c0_i32_374
def k0_off1 : Fin 3 → Nat :=
  let c0_376 : Index := 0#32
  let c0_i32_374 : BitVec 32 := 0#32
  let v634 : BitVec 32 := c0_i32_374
  let c0_i32_375 : BitVec 32 := 0#32
  let v635 : BitVec 32 := Scalar.addi v634 c0_i32_375
  let v636 : Index := Scalar.indexCast v635
  let c0_377 : Index := 0#32
  ![0, v636.toNat, 0]
def k0_mult2 : BitVec 32 :=
  let c0_i32_382 : BitVec 32 := 0#32
  c0_i32_382
def k0_mult3 : BitVec 32 :=
  let c0_i32_390 : BitVec 32 := 0#32
  c0_i32_390
def k0_off2 : Fin 3 → Nat :=
  let c0_392 : Index := 0#32
  let c0_i32_390 : BitVec 32 := 0#32
  let v654 : BitVec 32 := c0_i32_390
  let c0_i32_391 : BitVec 32 := 0#32
  let v655 : BitVec 32 := Scalar.addi v654 c0_i32_391
  let v656 : Index := Scalar.indexCast v655
  let c256_393 : Index := 256#32
  ![0, v656.toNat, 256]
def k0_mult4 : BitVec 32 :=
  let c0_i32_398 : BitVec 32 := 0#32
  c0_i32_398
def k0_mult5 : BitVec 32 :=
  let c0_i32_406 : BitVec 32 := 0#32
  c0_i32_406
def k0_off3 : Fin 3 → Nat :=
  let c0_408 : Index := 0#32
  let c0_i32_406 : BitVec 32 := 0#32
  let v674 : BitVec 32 := c0_i32_406
  let c0_i32_407 : BitVec 32 := 0#32
  let v675 : BitVec 32 := Scalar.addi v674 c0_i32_407
  let v676 : Index := Scalar.indexCast v675
  let c512 : Index := 512#32
  ![0, v676.toNat, 512]
def k0_mult6 : BitVec 32 :=
  let c0_i32_413 : BitVec 32 := 0#32
  c0_i32_413
def k0_mult7 : BitVec 32 :=
  let c0_i32_421 : BitVec 32 := 0#32
  c0_i32_421
def k0_off4 : Fin 3 → Nat :=
  let c0_423 : Index := 0#32
  let c0_i32_421 : BitVec 32 := 0#32
  let v694 : BitVec 32 := c0_i32_421
  let c0_i32_422 : BitVec 32 := 0#32
  let v695 : BitVec 32 := Scalar.addi v694 c0_i32_422
  let v696 : Index := Scalar.indexCast v695
  let c768 : Index := 768#32
  ![0, v696.toNat, 768]
def k0_mult8 : BitVec 32 :=
  let c0_i32_428 : BitVec 32 := 0#32
  c0_i32_428
def k0_mult9 : BitVec 32 :=
  let c0_i32_447 : BitVec 32 := 0#32
  c0_i32_447
def k0_mult10 : BitVec 32 :=
  let c0_i32_455 : BitVec 32 := 0#32
  c0_i32_455
def k0_off5 : Fin 3 → Nat :=
  let c0_457 : Index := 0#32
  let c0_458 : Index := 0#32
  let c0_i32_455 : BitVec 32 := 0#32
  let v742 : BitVec 32 := c0_i32_455
  let c0_i32_456 : BitVec 32 := 0#32
  let v743 : BitVec 32 := Scalar.addi v742 c0_i32_456
  let v744 : Index := Scalar.indexCast v743
  ![0, 0, v744.toNat]
def k0_mult11 : BitVec 32 :=
  let c0_i32_477 : BitVec 32 := 0#32
  c0_i32_477
def k0_mult12 : BitVec 32 :=
  let c0_i32_485 : BitVec 32 := 0#32
  c0_i32_485
def k0_off6 : Fin 3 → Nat :=
  let c0_487 : Index := 0#32
  let c64_488 : Index := 64#32
  let c0_i32_485 : BitVec 32 := 0#32
  let v787 : BitVec 32 := c0_i32_485
  let c0_i32_486 : BitVec 32 := 0#32
  let v788 : BitVec 32 := Scalar.addi v787 c0_i32_486
  let v789 : Index := Scalar.indexCast v788
  ![0, 64, v789.toNat]
def k0_mult13 : BitVec 32 :=
  let c0_i32_507 : BitVec 32 := 0#32
  c0_i32_507
def k0_mult14 : BitVec 32 :=
  let c0_i32_515 : BitVec 32 := 0#32
  c0_i32_515
def k0_off7 : Fin 3 → Nat :=
  let c0_517 : Index := 0#32
  let c128_518 : Index := 128#32
  let c0_i32_515 : BitVec 32 := 0#32
  let v832 : BitVec 32 := c0_i32_515
  let c0_i32_516 : BitVec 32 := 0#32
  let v833 : BitVec 32 := Scalar.addi v832 c0_i32_516
  let v834 : Index := Scalar.indexCast v833
  ![0, 128, v834.toNat]
def k0_mult15 : BitVec 32 :=
  let c0_i32_537 : BitVec 32 := 0#32
  c0_i32_537
def k0_mult16 : BitVec 32 :=
  let c0_i32_545 : BitVec 32 := 0#32
  c0_i32_545
def k0_off8 : Fin 3 → Nat :=
  let c0_547 : Index := 0#32
  let c192_548 : Index := 192#32
  let c0_i32_545 : BitVec 32 := 0#32
  let v877 : BitVec 32 := c0_i32_545
  let c0_i32_546 : BitVec 32 := 0#32
  let v878 : BitVec 32 := Scalar.addi v877 c0_i32_546
  let v879 : Index := Scalar.indexCast v878
  ![0, 192, v879.toNat]
def k0_mult17 : BitVec 32 :=
  let c0_i32_567 : BitVec 32 := 0#32
  c0_i32_567
def k0_mult18 : BitVec 32 :=
  let c0_i32_575 : BitVec 32 := 0#32
  c0_i32_575
def k0_off9 : Fin 3 → Nat :=
  let c0_577 : Index := 0#32
  let c256_578 : Index := 256#32
  let c0_i32_575 : BitVec 32 := 0#32
  let v922 : BitVec 32 := c0_i32_575
  let c0_i32_576 : BitVec 32 := 0#32
  let v923 : BitVec 32 := Scalar.addi v922 c0_i32_576
  let v924 : Index := Scalar.indexCast v923
  ![0, 256, v924.toNat]
def k0_mult19 : BitVec 32 :=
  let c0_i32_597 : BitVec 32 := 0#32
  c0_i32_597
def k0_mult20 : BitVec 32 :=
  let c0_i32_605 : BitVec 32 := 0#32
  c0_i32_605
def k0_off10 : Fin 3 → Nat :=
  let c0_607 : Index := 0#32
  let c320_608 : Index := 320#32
  let c0_i32_605 : BitVec 32 := 0#32
  let v967 : BitVec 32 := c0_i32_605
  let c0_i32_606 : BitVec 32 := 0#32
  let v968 : BitVec 32 := Scalar.addi v967 c0_i32_606
  let v969 : Index := Scalar.indexCast v968
  ![0, 320, v969.toNat]
def k0_mult21 : BitVec 32 :=
  let c0_i32_627 : BitVec 32 := 0#32
  c0_i32_627
def k0_mult22 : BitVec 32 :=
  let c0_i32_635 : BitVec 32 := 0#32
  c0_i32_635
def k0_off11 : Fin 3 → Nat :=
  let c0_637 : Index := 0#32
  let c384_638 : Index := 384#32
  let c0_i32_635 : BitVec 32 := 0#32
  let v1012 : BitVec 32 := c0_i32_635
  let c0_i32_636 : BitVec 32 := 0#32
  let v1013 : BitVec 32 := Scalar.addi v1012 c0_i32_636
  let v1014 : Index := Scalar.indexCast v1013
  ![0, 384, v1014.toNat]
def k0_mult23 : BitVec 32 :=
  let c0_i32_657 : BitVec 32 := 0#32
  c0_i32_657
def k0_mult24 : BitVec 32 :=
  let c0_i32_665 : BitVec 32 := 0#32
  c0_i32_665
def k0_off12 : Fin 3 → Nat :=
  let c0_667 : Index := 0#32
  let c448_668 : Index := 448#32
  let c0_i32_665 : BitVec 32 := 0#32
  let v1057 : BitVec 32 := c0_i32_665
  let c0_i32_666 : BitVec 32 := 0#32
  let v1058 : BitVec 32 := Scalar.addi v1057 c0_i32_666
  let v1059 : Index := Scalar.indexCast v1058
  ![0, 448, v1059.toNat]
def k0_cond2 (i : grid0.Coords) : BitVec 1 :=
  let arg2 : BitVec 32 := BitVec.ofNat 32 (i 2).val
  let c0_i32_297 : BitVec 32 := 0#32
  let v533 : BitVec 1 := Scalar.cmpi .sgt arg2 c0_i32_297
  let v534 : BitVec 32 := Scalar.extui v533
  let c0_i32_298 : BitVec 32 := 0#32
  let v535 : BitVec 1 := Scalar.cmpi .ne v534 c0_i32_298
  v535

def k0_mult25 : BitVec 32 :=
  let c256_i32 : BitVec 32 := 256#32
  c256_i32
def k0_off13 : Fin 3 → Nat :=
  let c0_385 : Index := 0#32
  let c256_i32 : BitVec 32 := 256#32
  let v646 : BitVec 32 := c256_i32
  let c0_i32_384 : BitVec 32 := 0#32
  let v647 : BitVec 32 := Scalar.addi v646 c0_i32_384
  let v648 : Index := Scalar.indexCast v647
  let c0_386 : Index := 0#32
  ![0, v648.toNat, 0]
def k0_mult26 : BitVec 32 :=
  let c0_i32_391 : BitVec 32 := 0#32
  c0_i32_391
def k0_off14 : Fin 3 → Nat :=
  let c0_393 : Index := 0#32
  let c0_394 : Index := 0#32
  let c0_i32_391 : BitVec 32 := 0#32
  let v659 : BitVec 32 := c0_i32_391
  let c0_i32_392 : BitVec 32 := 0#32
  let v660 : BitVec 32 := Scalar.addi v659 c0_i32_392
  let v661 : Index := Scalar.indexCast v660
  ![0, 0, v661.toNat]
def k0_mult27 : BitVec 32 :=
  let c256_i32_412 : BitVec 32 := 256#32
  c256_i32_412
def k0_mult28 : BitVec 32 :=
  let c0_i32_420 : BitVec 32 := 0#32
  c0_i32_420
def k0_off15 : Fin 3 → Nat :=
  let c0_422 : Index := 0#32
  let c64_423 : Index := 64#32
  let c0_i32_420 : BitVec 32 := 0#32
  let v701 : BitVec 32 := c0_i32_420
  let c0_i32_421 : BitVec 32 := 0#32
  let v702 : BitVec 32 := Scalar.addi v701 c0_i32_421
  let v703 : Index := Scalar.indexCast v702
  ![0, 64, v703.toNat]
def k0_mult29 : BitVec 32 :=
  let c256_i32_441 : BitVec 32 := 256#32
  c256_i32_441
def k0_off16 : Fin 3 → Nat :=
  let c0_443 : Index := 0#32
  let c256_i32_441 : BitVec 32 := 256#32
  let v730 : BitVec 32 := c256_i32_441
  let c0_i32_442 : BitVec 32 := 0#32
  let v731 : BitVec 32 := Scalar.addi v730 c0_i32_442
  let v732 : Index := Scalar.indexCast v731
  let c256_444 : Index := 256#32
  ![0, v732.toNat, 256]
def k0_mult30 : BitVec 32 :=
  let c0_i32_449 : BitVec 32 := 0#32
  c0_i32_449
def k0_off17 : Fin 3 → Nat :=
  let c0_451 : Index := 0#32
  let c128_452 : Index := 128#32
  let c0_i32_449 : BitVec 32 := 0#32
  let v743 : BitVec 32 := c0_i32_449
  let c0_i32_450 : BitVec 32 := 0#32
  let v744 : BitVec 32 := Scalar.addi v743 c0_i32_450
  let v745 : Index := Scalar.indexCast v744
  ![0, 128, v745.toNat]
def k0_mult31 : BitVec 32 :=
  let c256_i32_470 : BitVec 32 := 256#32
  c256_i32_470
def k0_mult32 : BitVec 32 :=
  let c0_i32_478 : BitVec 32 := 0#32
  c0_i32_478
def k0_off18 : Fin 3 → Nat :=
  let c0_480 : Index := 0#32
  let c192_481 : Index := 192#32
  let c0_i32_478 : BitVec 32 := 0#32
  let v785 : BitVec 32 := c0_i32_478
  let c0_i32_479 : BitVec 32 := 0#32
  let v786 : BitVec 32 := Scalar.addi v785 c0_i32_479
  let v787 : Index := Scalar.indexCast v786
  ![0, 192, v787.toNat]
def k0_mult33 : BitVec 32 :=
  let c256_i32_499 : BitVec 32 := 256#32
  c256_i32_499
def k0_off19 : Fin 3 → Nat :=
  let c0_501 : Index := 0#32
  let c256_i32_499 : BitVec 32 := 256#32
  let v814 : BitVec 32 := c256_i32_499
  let c0_i32_500 : BitVec 32 := 0#32
  let v815 : BitVec 32 := Scalar.addi v814 c0_i32_500
  let v816 : Index := Scalar.indexCast v815
  let c512 : Index := 512#32
  ![0, v816.toNat, 512]
def k0_mult34 : BitVec 32 :=
  let c0_i32_506 : BitVec 32 := 0#32
  c0_i32_506
def k0_off20 : Fin 3 → Nat :=
  let c0_508 : Index := 0#32
  let c256_509 : Index := 256#32
  let c0_i32_506 : BitVec 32 := 0#32
  let v827 : BitVec 32 := c0_i32_506
  let c0_i32_507 : BitVec 32 := 0#32
  let v828 : BitVec 32 := Scalar.addi v827 c0_i32_507
  let v829 : Index := Scalar.indexCast v828
  ![0, 256, v829.toNat]
def k0_mult35 : BitVec 32 :=
  let c256_i32_527 : BitVec 32 := 256#32
  c256_i32_527
def k0_mult36 : BitVec 32 :=
  let c0_i32_535 : BitVec 32 := 0#32
  c0_i32_535
def k0_off21 : Fin 3 → Nat :=
  let c0_537 : Index := 0#32
  let c320_538 : Index := 320#32
  let c0_i32_535 : BitVec 32 := 0#32
  let v869 : BitVec 32 := c0_i32_535
  let c0_i32_536 : BitVec 32 := 0#32
  let v870 : BitVec 32 := Scalar.addi v869 c0_i32_536
  let v871 : Index := Scalar.indexCast v870
  ![0, 320, v871.toNat]
def k0_mult37 : BitVec 32 :=
  let c256_i32_556 : BitVec 32 := 256#32
  c256_i32_556
def k0_off22 : Fin 3 → Nat :=
  let c0_558 : Index := 0#32
  let c256_i32_556 : BitVec 32 := 256#32
  let v898 : BitVec 32 := c256_i32_556
  let c0_i32_557 : BitVec 32 := 0#32
  let v899 : BitVec 32 := Scalar.addi v898 c0_i32_557
  let v900 : Index := Scalar.indexCast v899
  let c768 : Index := 768#32
  ![0, v900.toNat, 768]
def k0_mult38 : BitVec 32 :=
  let c0_i32_563 : BitVec 32 := 0#32
  c0_i32_563
def k0_off23 : Fin 3 → Nat :=
  let c0_565 : Index := 0#32
  let c384_566 : Index := 384#32
  let c0_i32_563 : BitVec 32 := 0#32
  let v911 : BitVec 32 := c0_i32_563
  let c0_i32_564 : BitVec 32 := 0#32
  let v912 : BitVec 32 := Scalar.addi v911 c0_i32_564
  let v913 : Index := Scalar.indexCast v912
  ![0, 384, v913.toNat]
def k0_mult39 : BitVec 32 :=
  let c256_i32_584 : BitVec 32 := 256#32
  c256_i32_584
def k0_mult40 : BitVec 32 :=
  let c0_i32_592 : BitVec 32 := 0#32
  c0_i32_592
def k0_off24 : Fin 3 → Nat :=
  let c0_594 : Index := 0#32
  let c448_595 : Index := 448#32
  let c0_i32_592 : BitVec 32 := 0#32
  let v953 : BitVec 32 := c0_i32_592
  let c0_i32_593 : BitVec 32 := 0#32
  let v954 : BitVec 32 := Scalar.addi v953 c0_i32_593
  let v955 : Index := Scalar.indexCast v954
  ![0, 448, v955.toNat]
@[reducible] def k0_t1_loop (i : grid0.Coords) : Scf.Loop 32 :=
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_304 : BitVec 32 := 1#32
  ⟨c0_i32_302, v543, c1_i32_304⟩
def k0_mult41 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c1_i32_375 : BitVec 32 := 1#32
  let v636 : BitVec 32 := Scalar.addi v635 c1_i32_375
  let c256_i32 : BitVec 32 := 256#32
  let v649 : BitVec 32 := Scalar.muli v636 c256_i32
  v649
def k0_off25 (i : grid0.Coords) (k0_t1 : Fin (k0_t1_loop i).trips) (c1_i32_375 : BitVec 32) : Fin 3 → Nat :=
  let c0_387 : Index := 0#32
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let v636 : BitVec 32 := Scalar.addi v635 c1_i32_375
  let c256_i32 : BitVec 32 := 256#32
  let v649 : BitVec 32 := Scalar.muli v636 c256_i32
  let v650 : BitVec 32 := v649
  let c0_i32_386 : BitVec 32 := 0#32
  let v651 : BitVec 32 := Scalar.addi v650 c0_i32_386
  let v652 : Index := Scalar.indexCast v651
  let c0_388 : Index := 0#32
  ![0, v652.toNat, 0]
def k0_mult42 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c256_i32_393 : BitVec 32 := 256#32
  let v663 : BitVec 32 := Scalar.muli v635 c256_i32_393
  v663
def k0_off26 (i : grid0.Coords) (k0_t1 : Fin (k0_t1_loop i).trips) : Fin 3 → Nat :=
  let c0_395 : Index := 0#32
  let c0_396 : Index := 0#32
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c256_i32_393 : BitVec 32 := 256#32
  let v663 : BitVec 32 := Scalar.muli v635 c256_i32_393
  let v664 : BitVec 32 := v663
  let c0_i32_394 : BitVec 32 := 0#32
  let v665 : BitVec 32 := Scalar.addi v664 c0_i32_394
  let v666 : Index := Scalar.indexCast v665
  ![0, 0, v666.toNat]
def k0_mult43 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c1_i32_375 : BitVec 32 := 1#32
  let v636 : BitVec 32 := Scalar.addi v635 c1_i32_375
  let c256_i32_414 : BitVec 32 := 256#32
  let v693 : BitVec 32 := Scalar.muli v636 c256_i32_414
  v693
def k0_mult44 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c256_i32_422 : BitVec 32 := 256#32
  let v707 : BitVec 32 := Scalar.muli v635 c256_i32_422
  v707
def k0_off27 (i : grid0.Coords) (k0_t1 : Fin (k0_t1_loop i).trips) : Fin 3 → Nat :=
  let c0_424 : Index := 0#32
  let c64_425 : Index := 64#32
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c256_i32_422 : BitVec 32 := 256#32
  let v707 : BitVec 32 := Scalar.muli v635 c256_i32_422
  let v708 : BitVec 32 := v707
  let c0_i32_423 : BitVec 32 := 0#32
  let v709 : BitVec 32 := Scalar.addi v708 c0_i32_423
  let v710 : Index := Scalar.indexCast v709
  ![0, 64, v710.toNat]
def k0_mult45 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c1_i32_375 : BitVec 32 := 1#32
  let v636 : BitVec 32 := Scalar.addi v635 c1_i32_375
  let c256_i32_443 : BitVec 32 := 256#32
  let v737 : BitVec 32 := Scalar.muli v636 c256_i32_443
  v737
def k0_off28 (i : grid0.Coords) (k0_t1 : Fin (k0_t1_loop i).trips) (c1_i32_375 : BitVec 32) : Fin 3 → Nat :=
  let c0_445 : Index := 0#32
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let v636 : BitVec 32 := Scalar.addi v635 c1_i32_375
  let c256_i32_443 : BitVec 32 := 256#32
  let v737 : BitVec 32 := Scalar.muli v636 c256_i32_443
  let v738 : BitVec 32 := v737
  let c0_i32_444 : BitVec 32 := 0#32
  let v739 : BitVec 32 := Scalar.addi v738 c0_i32_444
  let v740 : Index := Scalar.indexCast v739
  let c256_446 : Index := 256#32
  ![0, v740.toNat, 256]
def k0_mult46 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c256_i32_451 : BitVec 32 := 256#32
  let v751 : BitVec 32 := Scalar.muli v635 c256_i32_451
  v751
def k0_off29 (i : grid0.Coords) (k0_t1 : Fin (k0_t1_loop i).trips) : Fin 3 → Nat :=
  let c0_453 : Index := 0#32
  let c128_454 : Index := 128#32
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c256_i32_451 : BitVec 32 := 256#32
  let v751 : BitVec 32 := Scalar.muli v635 c256_i32_451
  let v752 : BitVec 32 := v751
  let c0_i32_452 : BitVec 32 := 0#32
  let v753 : BitVec 32 := Scalar.addi v752 c0_i32_452
  let v754 : Index := Scalar.indexCast v753
  ![0, 128, v754.toNat]
def k0_mult47 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c1_i32_375 : BitVec 32 := 1#32
  let v636 : BitVec 32 := Scalar.addi v635 c1_i32_375
  let c256_i32_472 : BitVec 32 := 256#32
  let v781 : BitVec 32 := Scalar.muli v636 c256_i32_472
  v781
def k0_mult48 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c256_i32_480 : BitVec 32 := 256#32
  let v795 : BitVec 32 := Scalar.muli v635 c256_i32_480
  v795
def k0_off30 (i : grid0.Coords) (k0_t1 : Fin (k0_t1_loop i).trips) : Fin 3 → Nat :=
  let c0_482 : Index := 0#32
  let c192_483 : Index := 192#32
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c256_i32_480 : BitVec 32 := 256#32
  let v795 : BitVec 32 := Scalar.muli v635 c256_i32_480
  let v796 : BitVec 32 := v795
  let c0_i32_481 : BitVec 32 := 0#32
  let v797 : BitVec 32 := Scalar.addi v796 c0_i32_481
  let v798 : Index := Scalar.indexCast v797
  ![0, 192, v798.toNat]
def k0_mult49 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c1_i32_375 : BitVec 32 := 1#32
  let v636 : BitVec 32 := Scalar.addi v635 c1_i32_375
  let c256_i32_501 : BitVec 32 := 256#32
  let v825 : BitVec 32 := Scalar.muli v636 c256_i32_501
  v825
def k0_off31 (i : grid0.Coords) (k0_t1 : Fin (k0_t1_loop i).trips) (c1_i32_375 : BitVec 32) : Fin 3 → Nat :=
  let c0_503 : Index := 0#32
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let v636 : BitVec 32 := Scalar.addi v635 c1_i32_375
  let c256_i32_501 : BitVec 32 := 256#32
  let v825 : BitVec 32 := Scalar.muli v636 c256_i32_501
  let v826 : BitVec 32 := v825
  let c0_i32_502 : BitVec 32 := 0#32
  let v827 : BitVec 32 := Scalar.addi v826 c0_i32_502
  let v828 : Index := Scalar.indexCast v827
  let c512 : Index := 512#32
  ![0, v828.toNat, 512]
def k0_mult50 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c256_i32_508 : BitVec 32 := 256#32
  let v839 : BitVec 32 := Scalar.muli v635 c256_i32_508
  v839
def k0_off32 (i : grid0.Coords) (k0_t1 : Fin (k0_t1_loop i).trips) : Fin 3 → Nat :=
  let c0_510 : Index := 0#32
  let c256_511 : Index := 256#32
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c256_i32_508 : BitVec 32 := 256#32
  let v839 : BitVec 32 := Scalar.muli v635 c256_i32_508
  let v840 : BitVec 32 := v839
  let c0_i32_509 : BitVec 32 := 0#32
  let v841 : BitVec 32 := Scalar.addi v840 c0_i32_509
  let v842 : Index := Scalar.indexCast v841
  ![0, 256, v842.toNat]
def k0_mult51 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c1_i32_375 : BitVec 32 := 1#32
  let v636 : BitVec 32 := Scalar.addi v635 c1_i32_375
  let c256_i32_529 : BitVec 32 := 256#32
  let v869 : BitVec 32 := Scalar.muli v636 c256_i32_529
  v869
def k0_mult52 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c256_i32_537 : BitVec 32 := 256#32
  let v883 : BitVec 32 := Scalar.muli v635 c256_i32_537
  v883
def k0_off33 (i : grid0.Coords) (k0_t1 : Fin (k0_t1_loop i).trips) : Fin 3 → Nat :=
  let c0_539 : Index := 0#32
  let c320_540 : Index := 320#32
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c256_i32_537 : BitVec 32 := 256#32
  let v883 : BitVec 32 := Scalar.muli v635 c256_i32_537
  let v884 : BitVec 32 := v883
  let c0_i32_538 : BitVec 32 := 0#32
  let v885 : BitVec 32 := Scalar.addi v884 c0_i32_538
  let v886 : Index := Scalar.indexCast v885
  ![0, 320, v886.toNat]
def k0_mult53 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c1_i32_375 : BitVec 32 := 1#32
  let v636 : BitVec 32 := Scalar.addi v635 c1_i32_375
  let c256_i32_558 : BitVec 32 := 256#32
  let v913 : BitVec 32 := Scalar.muli v636 c256_i32_558
  v913
def k0_off34 (i : grid0.Coords) (k0_t1 : Fin (k0_t1_loop i).trips) (c1_i32_375 : BitVec 32) : Fin 3 → Nat :=
  let c0_560 : Index := 0#32
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let v636 : BitVec 32 := Scalar.addi v635 c1_i32_375
  let c256_i32_558 : BitVec 32 := 256#32
  let v913 : BitVec 32 := Scalar.muli v636 c256_i32_558
  let v914 : BitVec 32 := v913
  let c0_i32_559 : BitVec 32 := 0#32
  let v915 : BitVec 32 := Scalar.addi v914 c0_i32_559
  let v916 : Index := Scalar.indexCast v915
  let c768 : Index := 768#32
  ![0, v916.toNat, 768]
def k0_mult54 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c256_i32_565 : BitVec 32 := 256#32
  let v927 : BitVec 32 := Scalar.muli v635 c256_i32_565
  v927
def k0_off35 (i : grid0.Coords) (k0_t1 : Fin (k0_t1_loop i).trips) : Fin 3 → Nat :=
  let c0_567 : Index := 0#32
  let c384_568 : Index := 384#32
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c256_i32_565 : BitVec 32 := 256#32
  let v927 : BitVec 32 := Scalar.muli v635 c256_i32_565
  let v928 : BitVec 32 := v927
  let c0_i32_566 : BitVec 32 := 0#32
  let v929 : BitVec 32 := Scalar.addi v928 c0_i32_566
  let v930 : Index := Scalar.indexCast v929
  ![0, 384, v930.toNat]
def k0_mult55 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c1_i32_375 : BitVec 32 := 1#32
  let v636 : BitVec 32 := Scalar.addi v635 c1_i32_375
  let c256_i32_586 : BitVec 32 := 256#32
  let v957 : BitVec 32 := Scalar.muli v636 c256_i32_586
  v957
def k0_mult56 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c256_i32_594 : BitVec 32 := 256#32
  let v971 : BitVec 32 := Scalar.muli v635 c256_i32_594
  v971
def k0_off36 (i : grid0.Coords) (k0_t1 : Fin (k0_t1_loop i).trips) : Fin 3 → Nat :=
  let c0_596 : Index := 0#32
  let c448_597 : Index := 448#32
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c256_i32_594 : BitVec 32 := 256#32
  let v971 : BitVec 32 := Scalar.muli v635 c256_i32_594
  let v972 : BitVec 32 := v971
  let c0_i32_595 : BitVec 32 := 0#32
  let v973 : BitVec 32 := Scalar.addi v972 c0_i32_595
  let v974 : Index := Scalar.indexCast v973
  ![0, 448, v974.toNat]
def k0_mult57 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c2_i32_606 : BitVec 32 := 2#32
  let v990 : BitVec 32 := Scalar.addi v635 c2_i32_606
  let c256_i32_617 : BitVec 32 := 256#32
  let v1003 : BitVec 32 := Scalar.muli v990 c256_i32_617
  v1003
def k0_mult58 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_625 : BitVec 32 := 256#32
  let v1017 : BitVec 32 := Scalar.muli v989 c256_i32_625
  v1017
def k0_off37 (i : grid0.Coords) (k0_t1 : Fin (k0_t1_loop i).trips) : Fin 3 → Nat :=
  let c0_627 : Index := 0#32
  let c0_628 : Index := 0#32
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_625 : BitVec 32 := 256#32
  let v1017 : BitVec 32 := Scalar.muli v989 c256_i32_625
  let v1018 : BitVec 32 := v1017
  let c0_i32_626 : BitVec 32 := 0#32
  let v1019 : BitVec 32 := Scalar.addi v1018 c0_i32_626
  let v1020 : Index := Scalar.indexCast v1019
  ![0, 0, v1020.toNat]
def k0_mult59 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c2_i32_606 : BitVec 32 := 2#32
  let v990 : BitVec 32 := Scalar.addi v635 c2_i32_606
  let c256_i32_646 : BitVec 32 := 256#32
  let v1047 : BitVec 32 := Scalar.muli v990 c256_i32_646
  v1047
def k0_mult60 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_654 : BitVec 32 := 256#32
  let v1061 : BitVec 32 := Scalar.muli v989 c256_i32_654
  v1061
def k0_off38 (i : grid0.Coords) (k0_t1 : Fin (k0_t1_loop i).trips) : Fin 3 → Nat :=
  let c0_656 : Index := 0#32
  let c64_657 : Index := 64#32
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_654 : BitVec 32 := 256#32
  let v1061 : BitVec 32 := Scalar.muli v989 c256_i32_654
  let v1062 : BitVec 32 := v1061
  let c0_i32_655 : BitVec 32 := 0#32
  let v1063 : BitVec 32 := Scalar.addi v1062 c0_i32_655
  let v1064 : Index := Scalar.indexCast v1063
  ![0, 64, v1064.toNat]
def k0_mult61 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c2_i32_606 : BitVec 32 := 2#32
  let v990 : BitVec 32 := Scalar.addi v635 c2_i32_606
  let c256_i32_675 : BitVec 32 := 256#32
  let v1091 : BitVec 32 := Scalar.muli v990 c256_i32_675
  v1091
def k0_mult62 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_683 : BitVec 32 := 256#32
  let v1105 : BitVec 32 := Scalar.muli v989 c256_i32_683
  v1105
def k0_off39 (i : grid0.Coords) (k0_t1 : Fin (k0_t1_loop i).trips) : Fin 3 → Nat :=
  let c0_685 : Index := 0#32
  let c128_686 : Index := 128#32
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_683 : BitVec 32 := 256#32
  let v1105 : BitVec 32 := Scalar.muli v989 c256_i32_683
  let v1106 : BitVec 32 := v1105
  let c0_i32_684 : BitVec 32 := 0#32
  let v1107 : BitVec 32 := Scalar.addi v1106 c0_i32_684
  let v1108 : Index := Scalar.indexCast v1107
  ![0, 128, v1108.toNat]
def k0_mult63 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c2_i32_606 : BitVec 32 := 2#32
  let v990 : BitVec 32 := Scalar.addi v635 c2_i32_606
  let c256_i32_704 : BitVec 32 := 256#32
  let v1135 : BitVec 32 := Scalar.muli v990 c256_i32_704
  v1135
def k0_mult64 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_712 : BitVec 32 := 256#32
  let v1149 : BitVec 32 := Scalar.muli v989 c256_i32_712
  v1149
def k0_off40 (i : grid0.Coords) (k0_t1 : Fin (k0_t1_loop i).trips) : Fin 3 → Nat :=
  let c0_714 : Index := 0#32
  let c192_715 : Index := 192#32
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_712 : BitVec 32 := 256#32
  let v1149 : BitVec 32 := Scalar.muli v989 c256_i32_712
  let v1150 : BitVec 32 := v1149
  let c0_i32_713 : BitVec 32 := 0#32
  let v1151 : BitVec 32 := Scalar.addi v1150 c0_i32_713
  let v1152 : Index := Scalar.indexCast v1151
  ![0, 192, v1152.toNat]
def k0_mult65 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c2_i32_606 : BitVec 32 := 2#32
  let v990 : BitVec 32 := Scalar.addi v635 c2_i32_606
  let c256_i32_733 : BitVec 32 := 256#32
  let v1179 : BitVec 32 := Scalar.muli v990 c256_i32_733
  v1179
def k0_mult66 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_741 : BitVec 32 := 256#32
  let v1193 : BitVec 32 := Scalar.muli v989 c256_i32_741
  v1193
def k0_off41 (i : grid0.Coords) (k0_t1 : Fin (k0_t1_loop i).trips) : Fin 3 → Nat :=
  let c0_743 : Index := 0#32
  let c256_744 : Index := 256#32
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_741 : BitVec 32 := 256#32
  let v1193 : BitVec 32 := Scalar.muli v989 c256_i32_741
  let v1194 : BitVec 32 := v1193
  let c0_i32_742 : BitVec 32 := 0#32
  let v1195 : BitVec 32 := Scalar.addi v1194 c0_i32_742
  let v1196 : Index := Scalar.indexCast v1195
  ![0, 256, v1196.toNat]
def k0_mult67 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c2_i32_606 : BitVec 32 := 2#32
  let v990 : BitVec 32 := Scalar.addi v635 c2_i32_606
  let c256_i32_762 : BitVec 32 := 256#32
  let v1223 : BitVec 32 := Scalar.muli v990 c256_i32_762
  v1223
def k0_mult68 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_770 : BitVec 32 := 256#32
  let v1237 : BitVec 32 := Scalar.muli v989 c256_i32_770
  v1237
def k0_off42 (i : grid0.Coords) (k0_t1 : Fin (k0_t1_loop i).trips) : Fin 3 → Nat :=
  let c0_772 : Index := 0#32
  let c320_773 : Index := 320#32
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_770 : BitVec 32 := 256#32
  let v1237 : BitVec 32 := Scalar.muli v989 c256_i32_770
  let v1238 : BitVec 32 := v1237
  let c0_i32_771 : BitVec 32 := 0#32
  let v1239 : BitVec 32 := Scalar.addi v1238 c0_i32_771
  let v1240 : Index := Scalar.indexCast v1239
  ![0, 320, v1240.toNat]
def k0_mult69 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c2_i32_606 : BitVec 32 := 2#32
  let v990 : BitVec 32 := Scalar.addi v635 c2_i32_606
  let c256_i32_791 : BitVec 32 := 256#32
  let v1267 : BitVec 32 := Scalar.muli v990 c256_i32_791
  v1267
def k0_mult70 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_799 : BitVec 32 := 256#32
  let v1281 : BitVec 32 := Scalar.muli v989 c256_i32_799
  v1281
def k0_off43 (i : grid0.Coords) (k0_t1 : Fin (k0_t1_loop i).trips) : Fin 3 → Nat :=
  let c0_801 : Index := 0#32
  let c384_802 : Index := 384#32
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_799 : BitVec 32 := 256#32
  let v1281 : BitVec 32 := Scalar.muli v989 c256_i32_799
  let v1282 : BitVec 32 := v1281
  let c0_i32_800 : BitVec 32 := 0#32
  let v1283 : BitVec 32 := Scalar.addi v1282 c0_i32_800
  let v1284 : Index := Scalar.indexCast v1283
  ![0, 384, v1284.toNat]
def k0_mult71 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c2_i32_606 : BitVec 32 := 2#32
  let v990 : BitVec 32 := Scalar.addi v635 c2_i32_606
  let c256_i32_820 : BitVec 32 := 256#32
  let v1311 : BitVec 32 := Scalar.muli v990 c256_i32_820
  v1311
def k0_mult72 (i : grid0.Coords) (k0_t1 : Fin (k0_t1_loop i).trips) : BitVec 32 :=
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_828 : BitVec 32 := 256#32
  let v1325 : BitVec 32 := Scalar.muli v989 c256_i32_828
  v1325
def k0_off44 (i : grid0.Coords) (k0_t1 : Fin (k0_t1_loop i).trips) : Fin 3 → Nat :=
  let c0_830 : Index := 0#32
  let c448_831 : Index := 448#32
  let c2_i32 : BitVec 32 := 2#32
  let c0_i32_302 : BitVec 32 := 0#32
  let c1_i32_304 : BitVec 32 := 1#32
  let arg15 : BitVec 32 := Scf.iv c0_i32_302 c1_i32_304 k0_t1
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_828 : BitVec 32 := 256#32
  let v1325 : BitVec 32 := Scalar.muli v989 c256_i32_828
  let v1326 : BitVec 32 := v1325
  let c0_i32_829 : BitVec 32 := 0#32
  let v1327 : BitVec 32 := Scalar.addi v1326 c0_i32_829
  let v1328 : Index := Scalar.indexCast v1327
  ![0, 448, v1328.toNat]
@[reducible] def k0_t2_loop (i : grid0.Coords) : Scf.Loop 32 :=
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let v540 : BitVec 32 := Scalar.addi c0_i32_302 v539
  let c1_i32_305 : BitVec 32 := 1#32
  ⟨v543, v540, c1_i32_305⟩
def k0_mult73 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c1_i32_375 : BitVec 32 := 1#32
  let v636 : BitVec 32 := Scalar.addi v635 c1_i32_375
  let c256_i32 : BitVec 32 := 256#32
  let v649 : BitVec 32 := Scalar.muli v636 c256_i32
  v649
def k0_off45 (i : grid0.Coords) (k0_t2 : Fin (k0_t2_loop i).trips) (c1_i32_375 : BitVec 32) : Fin 3 → Nat :=
  let c0_387 : Index := 0#32
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let v636 : BitVec 32 := Scalar.addi v635 c1_i32_375
  let c256_i32 : BitVec 32 := 256#32
  let v649 : BitVec 32 := Scalar.muli v636 c256_i32
  let v650 : BitVec 32 := v649
  let c0_i32_386 : BitVec 32 := 0#32
  let v651 : BitVec 32 := Scalar.addi v650 c0_i32_386
  let v652 : Index := Scalar.indexCast v651
  let c0_388 : Index := 0#32
  ![0, v652.toNat, 0]
def k0_mult74 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c256_i32_393 : BitVec 32 := 256#32
  let v663 : BitVec 32 := Scalar.muli v635 c256_i32_393
  v663
def k0_off46 (i : grid0.Coords) (k0_t2 : Fin (k0_t2_loop i).trips) : Fin 3 → Nat :=
  let c0_395 : Index := 0#32
  let c0_396 : Index := 0#32
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c256_i32_393 : BitVec 32 := 256#32
  let v663 : BitVec 32 := Scalar.muli v635 c256_i32_393
  let v664 : BitVec 32 := v663
  let c0_i32_394 : BitVec 32 := 0#32
  let v665 : BitVec 32 := Scalar.addi v664 c0_i32_394
  let v666 : Index := Scalar.indexCast v665
  ![0, 0, v666.toNat]
def k0_mult75 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c1_i32_375 : BitVec 32 := 1#32
  let v636 : BitVec 32 := Scalar.addi v635 c1_i32_375
  let c256_i32_414 : BitVec 32 := 256#32
  let v693 : BitVec 32 := Scalar.muli v636 c256_i32_414
  v693
def k0_mult76 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c256_i32_422 : BitVec 32 := 256#32
  let v707 : BitVec 32 := Scalar.muli v635 c256_i32_422
  v707
def k0_off47 (i : grid0.Coords) (k0_t2 : Fin (k0_t2_loop i).trips) : Fin 3 → Nat :=
  let c0_424 : Index := 0#32
  let c64_425 : Index := 64#32
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c256_i32_422 : BitVec 32 := 256#32
  let v707 : BitVec 32 := Scalar.muli v635 c256_i32_422
  let v708 : BitVec 32 := v707
  let c0_i32_423 : BitVec 32 := 0#32
  let v709 : BitVec 32 := Scalar.addi v708 c0_i32_423
  let v710 : Index := Scalar.indexCast v709
  ![0, 64, v710.toNat]
def k0_mult77 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c1_i32_375 : BitVec 32 := 1#32
  let v636 : BitVec 32 := Scalar.addi v635 c1_i32_375
  let c256_i32_443 : BitVec 32 := 256#32
  let v737 : BitVec 32 := Scalar.muli v636 c256_i32_443
  v737
def k0_off48 (i : grid0.Coords) (k0_t2 : Fin (k0_t2_loop i).trips) (c1_i32_375 : BitVec 32) : Fin 3 → Nat :=
  let c0_445 : Index := 0#32
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let v636 : BitVec 32 := Scalar.addi v635 c1_i32_375
  let c256_i32_443 : BitVec 32 := 256#32
  let v737 : BitVec 32 := Scalar.muli v636 c256_i32_443
  let v738 : BitVec 32 := v737
  let c0_i32_444 : BitVec 32 := 0#32
  let v739 : BitVec 32 := Scalar.addi v738 c0_i32_444
  let v740 : Index := Scalar.indexCast v739
  let c256_446 : Index := 256#32
  ![0, v740.toNat, 256]
def k0_mult78 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c256_i32_451 : BitVec 32 := 256#32
  let v751 : BitVec 32 := Scalar.muli v635 c256_i32_451
  v751
def k0_off49 (i : grid0.Coords) (k0_t2 : Fin (k0_t2_loop i).trips) : Fin 3 → Nat :=
  let c0_453 : Index := 0#32
  let c128_454 : Index := 128#32
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c256_i32_451 : BitVec 32 := 256#32
  let v751 : BitVec 32 := Scalar.muli v635 c256_i32_451
  let v752 : BitVec 32 := v751
  let c0_i32_452 : BitVec 32 := 0#32
  let v753 : BitVec 32 := Scalar.addi v752 c0_i32_452
  let v754 : Index := Scalar.indexCast v753
  ![0, 128, v754.toNat]
def k0_mult79 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c1_i32_375 : BitVec 32 := 1#32
  let v636 : BitVec 32 := Scalar.addi v635 c1_i32_375
  let c256_i32_472 : BitVec 32 := 256#32
  let v781 : BitVec 32 := Scalar.muli v636 c256_i32_472
  v781
def k0_mult80 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c256_i32_480 : BitVec 32 := 256#32
  let v795 : BitVec 32 := Scalar.muli v635 c256_i32_480
  v795
def k0_off50 (i : grid0.Coords) (k0_t2 : Fin (k0_t2_loop i).trips) : Fin 3 → Nat :=
  let c0_482 : Index := 0#32
  let c192_483 : Index := 192#32
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c256_i32_480 : BitVec 32 := 256#32
  let v795 : BitVec 32 := Scalar.muli v635 c256_i32_480
  let v796 : BitVec 32 := v795
  let c0_i32_481 : BitVec 32 := 0#32
  let v797 : BitVec 32 := Scalar.addi v796 c0_i32_481
  let v798 : Index := Scalar.indexCast v797
  ![0, 192, v798.toNat]
def k0_mult81 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c1_i32_375 : BitVec 32 := 1#32
  let v636 : BitVec 32 := Scalar.addi v635 c1_i32_375
  let c256_i32_501 : BitVec 32 := 256#32
  let v825 : BitVec 32 := Scalar.muli v636 c256_i32_501
  v825
def k0_off51 (i : grid0.Coords) (k0_t2 : Fin (k0_t2_loop i).trips) (c1_i32_375 : BitVec 32) : Fin 3 → Nat :=
  let c0_503 : Index := 0#32
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let v636 : BitVec 32 := Scalar.addi v635 c1_i32_375
  let c256_i32_501 : BitVec 32 := 256#32
  let v825 : BitVec 32 := Scalar.muli v636 c256_i32_501
  let v826 : BitVec 32 := v825
  let c0_i32_502 : BitVec 32 := 0#32
  let v827 : BitVec 32 := Scalar.addi v826 c0_i32_502
  let v828 : Index := Scalar.indexCast v827
  let c512 : Index := 512#32
  ![0, v828.toNat, 512]
def k0_mult82 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c256_i32_508 : BitVec 32 := 256#32
  let v839 : BitVec 32 := Scalar.muli v635 c256_i32_508
  v839
def k0_off52 (i : grid0.Coords) (k0_t2 : Fin (k0_t2_loop i).trips) : Fin 3 → Nat :=
  let c0_510 : Index := 0#32
  let c256_511 : Index := 256#32
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c256_i32_508 : BitVec 32 := 256#32
  let v839 : BitVec 32 := Scalar.muli v635 c256_i32_508
  let v840 : BitVec 32 := v839
  let c0_i32_509 : BitVec 32 := 0#32
  let v841 : BitVec 32 := Scalar.addi v840 c0_i32_509
  let v842 : Index := Scalar.indexCast v841
  ![0, 256, v842.toNat]
def k0_mult83 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c1_i32_375 : BitVec 32 := 1#32
  let v636 : BitVec 32 := Scalar.addi v635 c1_i32_375
  let c256_i32_529 : BitVec 32 := 256#32
  let v869 : BitVec 32 := Scalar.muli v636 c256_i32_529
  v869
def k0_mult84 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c256_i32_537 : BitVec 32 := 256#32
  let v883 : BitVec 32 := Scalar.muli v635 c256_i32_537
  v883
def k0_off53 (i : grid0.Coords) (k0_t2 : Fin (k0_t2_loop i).trips) : Fin 3 → Nat :=
  let c0_539 : Index := 0#32
  let c320_540 : Index := 320#32
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c256_i32_537 : BitVec 32 := 256#32
  let v883 : BitVec 32 := Scalar.muli v635 c256_i32_537
  let v884 : BitVec 32 := v883
  let c0_i32_538 : BitVec 32 := 0#32
  let v885 : BitVec 32 := Scalar.addi v884 c0_i32_538
  let v886 : Index := Scalar.indexCast v885
  ![0, 320, v886.toNat]
def k0_mult85 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c1_i32_375 : BitVec 32 := 1#32
  let v636 : BitVec 32 := Scalar.addi v635 c1_i32_375
  let c256_i32_558 : BitVec 32 := 256#32
  let v913 : BitVec 32 := Scalar.muli v636 c256_i32_558
  v913
def k0_off54 (i : grid0.Coords) (k0_t2 : Fin (k0_t2_loop i).trips) (c1_i32_375 : BitVec 32) : Fin 3 → Nat :=
  let c0_560 : Index := 0#32
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let v636 : BitVec 32 := Scalar.addi v635 c1_i32_375
  let c256_i32_558 : BitVec 32 := 256#32
  let v913 : BitVec 32 := Scalar.muli v636 c256_i32_558
  let v914 : BitVec 32 := v913
  let c0_i32_559 : BitVec 32 := 0#32
  let v915 : BitVec 32 := Scalar.addi v914 c0_i32_559
  let v916 : Index := Scalar.indexCast v915
  let c768 : Index := 768#32
  ![0, v916.toNat, 768]
def k0_mult86 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c256_i32_565 : BitVec 32 := 256#32
  let v927 : BitVec 32 := Scalar.muli v635 c256_i32_565
  v927
def k0_off55 (i : grid0.Coords) (k0_t2 : Fin (k0_t2_loop i).trips) : Fin 3 → Nat :=
  let c0_567 : Index := 0#32
  let c384_568 : Index := 384#32
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c256_i32_565 : BitVec 32 := 256#32
  let v927 : BitVec 32 := Scalar.muli v635 c256_i32_565
  let v928 : BitVec 32 := v927
  let c0_i32_566 : BitVec 32 := 0#32
  let v929 : BitVec 32 := Scalar.addi v928 c0_i32_566
  let v930 : Index := Scalar.indexCast v929
  ![0, 384, v930.toNat]
def k0_mult87 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c1_i32_375 : BitVec 32 := 1#32
  let v636 : BitVec 32 := Scalar.addi v635 c1_i32_375
  let c256_i32_586 : BitVec 32 := 256#32
  let v957 : BitVec 32 := Scalar.muli v636 c256_i32_586
  v957
def k0_mult88 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c256_i32_594 : BitVec 32 := 256#32
  let v971 : BitVec 32 := Scalar.muli v635 c256_i32_594
  v971
def k0_off56 (i : grid0.Coords) (k0_t2 : Fin (k0_t2_loop i).trips) : Fin 3 → Nat :=
  let c0_596 : Index := 0#32
  let c448_597 : Index := 448#32
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c256_i32_594 : BitVec 32 := 256#32
  let v971 : BitVec 32 := Scalar.muli v635 c256_i32_594
  let v972 : BitVec 32 := v971
  let c0_i32_595 : BitVec 32 := 0#32
  let v973 : BitVec 32 := Scalar.addi v972 c0_i32_595
  let v974 : Index := Scalar.indexCast v973
  ![0, 448, v974.toNat]
def k0_mult89 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c2_i32_606 : BitVec 32 := 2#32
  let v990 : BitVec 32 := Scalar.addi v635 c2_i32_606
  let c256_i32_617 : BitVec 32 := 256#32
  let v1003 : BitVec 32 := Scalar.muli v990 c256_i32_617
  v1003
def k0_mult90 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_625 : BitVec 32 := 256#32
  let v1017 : BitVec 32 := Scalar.muli v989 c256_i32_625
  v1017
def k0_off57 (i : grid0.Coords) (k0_t2 : Fin (k0_t2_loop i).trips) : Fin 3 → Nat :=
  let c0_627 : Index := 0#32
  let c0_628 : Index := 0#32
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_625 : BitVec 32 := 256#32
  let v1017 : BitVec 32 := Scalar.muli v989 c256_i32_625
  let v1018 : BitVec 32 := v1017
  let c0_i32_626 : BitVec 32 := 0#32
  let v1019 : BitVec 32 := Scalar.addi v1018 c0_i32_626
  let v1020 : Index := Scalar.indexCast v1019
  ![0, 0, v1020.toNat]
def k0_mult91 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c2_i32_606 : BitVec 32 := 2#32
  let v990 : BitVec 32 := Scalar.addi v635 c2_i32_606
  let c256_i32_646 : BitVec 32 := 256#32
  let v1047 : BitVec 32 := Scalar.muli v990 c256_i32_646
  v1047
def k0_mult92 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_654 : BitVec 32 := 256#32
  let v1061 : BitVec 32 := Scalar.muli v989 c256_i32_654
  v1061
def k0_off58 (i : grid0.Coords) (k0_t2 : Fin (k0_t2_loop i).trips) : Fin 3 → Nat :=
  let c0_656 : Index := 0#32
  let c64_657 : Index := 64#32
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_654 : BitVec 32 := 256#32
  let v1061 : BitVec 32 := Scalar.muli v989 c256_i32_654
  let v1062 : BitVec 32 := v1061
  let c0_i32_655 : BitVec 32 := 0#32
  let v1063 : BitVec 32 := Scalar.addi v1062 c0_i32_655
  let v1064 : Index := Scalar.indexCast v1063
  ![0, 64, v1064.toNat]
def k0_mult93 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c2_i32_606 : BitVec 32 := 2#32
  let v990 : BitVec 32 := Scalar.addi v635 c2_i32_606
  let c256_i32_675 : BitVec 32 := 256#32
  let v1091 : BitVec 32 := Scalar.muli v990 c256_i32_675
  v1091
def k0_mult94 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_683 : BitVec 32 := 256#32
  let v1105 : BitVec 32 := Scalar.muli v989 c256_i32_683
  v1105
def k0_off59 (i : grid0.Coords) (k0_t2 : Fin (k0_t2_loop i).trips) : Fin 3 → Nat :=
  let c0_685 : Index := 0#32
  let c128_686 : Index := 128#32
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_683 : BitVec 32 := 256#32
  let v1105 : BitVec 32 := Scalar.muli v989 c256_i32_683
  let v1106 : BitVec 32 := v1105
  let c0_i32_684 : BitVec 32 := 0#32
  let v1107 : BitVec 32 := Scalar.addi v1106 c0_i32_684
  let v1108 : Index := Scalar.indexCast v1107
  ![0, 128, v1108.toNat]
def k0_mult95 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c2_i32_606 : BitVec 32 := 2#32
  let v990 : BitVec 32 := Scalar.addi v635 c2_i32_606
  let c256_i32_704 : BitVec 32 := 256#32
  let v1135 : BitVec 32 := Scalar.muli v990 c256_i32_704
  v1135
def k0_mult96 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_712 : BitVec 32 := 256#32
  let v1149 : BitVec 32 := Scalar.muli v989 c256_i32_712
  v1149
def k0_off60 (i : grid0.Coords) (k0_t2 : Fin (k0_t2_loop i).trips) : Fin 3 → Nat :=
  let c0_714 : Index := 0#32
  let c192_715 : Index := 192#32
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_712 : BitVec 32 := 256#32
  let v1149 : BitVec 32 := Scalar.muli v989 c256_i32_712
  let v1150 : BitVec 32 := v1149
  let c0_i32_713 : BitVec 32 := 0#32
  let v1151 : BitVec 32 := Scalar.addi v1150 c0_i32_713
  let v1152 : Index := Scalar.indexCast v1151
  ![0, 192, v1152.toNat]
def k0_mult97 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c2_i32_606 : BitVec 32 := 2#32
  let v990 : BitVec 32 := Scalar.addi v635 c2_i32_606
  let c256_i32_733 : BitVec 32 := 256#32
  let v1179 : BitVec 32 := Scalar.muli v990 c256_i32_733
  v1179
def k0_mult98 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_741 : BitVec 32 := 256#32
  let v1193 : BitVec 32 := Scalar.muli v989 c256_i32_741
  v1193
def k0_off61 (i : grid0.Coords) (k0_t2 : Fin (k0_t2_loop i).trips) : Fin 3 → Nat :=
  let c0_743 : Index := 0#32
  let c256_744 : Index := 256#32
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_741 : BitVec 32 := 256#32
  let v1193 : BitVec 32 := Scalar.muli v989 c256_i32_741
  let v1194 : BitVec 32 := v1193
  let c0_i32_742 : BitVec 32 := 0#32
  let v1195 : BitVec 32 := Scalar.addi v1194 c0_i32_742
  let v1196 : Index := Scalar.indexCast v1195
  ![0, 256, v1196.toNat]
def k0_mult99 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c2_i32_606 : BitVec 32 := 2#32
  let v990 : BitVec 32 := Scalar.addi v635 c2_i32_606
  let c256_i32_762 : BitVec 32 := 256#32
  let v1223 : BitVec 32 := Scalar.muli v990 c256_i32_762
  v1223
def k0_mult100 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_770 : BitVec 32 := 256#32
  let v1237 : BitVec 32 := Scalar.muli v989 c256_i32_770
  v1237
def k0_off62 (i : grid0.Coords) (k0_t2 : Fin (k0_t2_loop i).trips) : Fin 3 → Nat :=
  let c0_772 : Index := 0#32
  let c320_773 : Index := 320#32
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_770 : BitVec 32 := 256#32
  let v1237 : BitVec 32 := Scalar.muli v989 c256_i32_770
  let v1238 : BitVec 32 := v1237
  let c0_i32_771 : BitVec 32 := 0#32
  let v1239 : BitVec 32 := Scalar.addi v1238 c0_i32_771
  let v1240 : Index := Scalar.indexCast v1239
  ![0, 320, v1240.toNat]
def k0_mult101 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c2_i32_606 : BitVec 32 := 2#32
  let v990 : BitVec 32 := Scalar.addi v635 c2_i32_606
  let c256_i32_791 : BitVec 32 := 256#32
  let v1267 : BitVec 32 := Scalar.muli v990 c256_i32_791
  v1267
def k0_mult102 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_799 : BitVec 32 := 256#32
  let v1281 : BitVec 32 := Scalar.muli v989 c256_i32_799
  v1281
def k0_off63 (i : grid0.Coords) (k0_t2 : Fin (k0_t2_loop i).trips) : Fin 3 → Nat :=
  let c0_801 : Index := 0#32
  let c384_802 : Index := 384#32
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_799 : BitVec 32 := 256#32
  let v1281 : BitVec 32 := Scalar.muli v989 c256_i32_799
  let v1282 : BitVec 32 := v1281
  let c0_i32_800 : BitVec 32 := 0#32
  let v1283 : BitVec 32 := Scalar.addi v1282 c0_i32_800
  let v1284 : Index := Scalar.indexCast v1283
  ![0, 384, v1284.toNat]
def k0_mult103 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c2_i32_606 : BitVec 32 := 2#32
  let v990 : BitVec 32 := Scalar.addi v635 c2_i32_606
  let c256_i32_820 : BitVec 32 := 256#32
  let v1311 : BitVec 32 := Scalar.muli v990 c256_i32_820
  v1311
def k0_mult104 (i : grid0.Coords) (k0_t2 : Fin (k0_t2_loop i).trips) : BitVec 32 :=
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_828 : BitVec 32 := 256#32
  let v1325 : BitVec 32 := Scalar.muli v989 c256_i32_828
  v1325
def k0_off64 (i : grid0.Coords) (k0_t2 : Fin (k0_t2_loop i).trips) : Fin 3 → Nat :=
  let c0_830 : Index := 0#32
  let c448_831 : Index := 448#32
  let c2_i32 : BitVec 32 := 2#32
  let c0_i32_302 : BitVec 32 := 0#32
  let arg2 : BitVec 32 := BitVec.ofNat 32 (i 2).val
  let c1_i32 : BitVec 32 := 1#32
  let v536 : BitVec 32 := Scalar.subi arg2 c1_i32
  let c0_i32_299 : BitVec 32 := 0#32
  let v537 : BitVec 32 := Scalar.maxsi v536 c0_i32_299
  let c1_i32_300 : BitVec 32 := 1#32
  let v538 : BitVec 32 := Scalar.shrui v537 c1_i32_300
  let v539 : BitVec 32 := Scalar.subi v538 c0_i32_302
  let c1_i32_303 : BitVec 32 := 1#32
  let v541 : BitVec 32 := Scalar.divsi v539 c1_i32_303
  let v542 : BitVec 32 := Scalar.muli v541 c1_i32_303
  let v543 : BitVec 32 := Scalar.addi c0_i32_302 v542
  let c1_i32_305 : BitVec 32 := 1#32
  let arg15 : BitVec 32 := Scf.iv v543 c1_i32_305 k0_t2
  let v634 : BitVec 32 := Scalar.muli c2_i32 arg15
  let c1_i32_374 : BitVec 32 := 1#32
  let v635 : BitVec 32 := Scalar.addi v634 c1_i32_374
  let c1_i32_605 : BitVec 32 := 1#32
  let v989 : BitVec 32 := Scalar.addi v635 c1_i32_605
  let c256_i32_828 : BitVec 32 := 256#32
  let v1325 : BitVec 32 := Scalar.muli v989 c256_i32_828
  let v1326 : BitVec 32 := v1325
  let c0_i32_829 : BitVec 32 := 0#32
  let v1327 : BitVec 32 := Scalar.addi v1326 c0_i32_829
  let v1328 : Index := Scalar.indexCast v1327
  ![0, 448, v1328.toNat]
def k0_cond3 (i : grid0.Coords) : BitVec 1 :=
  let arg2 : BitVec 32 := BitVec.ofNat 32 (i 2).val
  let c1_i32_306 : BitVec 32 := 1#32
  let v544 : BitVec 32 := Scalar.andi arg2 c1_i32_306
  let c1_i32_307 : BitVec 32 := 1#32
  let v545 : BitVec 1 := Scalar.cmpi .eq v544 c1_i32_307
  let v546 : BitVec 32 := Scalar.extui v545
  let c0_i32_308 : BitVec 32 := 0#32
  let v547 : BitVec 1 := Scalar.cmpi .ne v546 c0_i32_308
  v547

def k0_mult105 : BitVec 32 :=
  let c0_i32_385 : BitVec 32 := 0#32
  c0_i32_385
def k0_off65 : Fin 3 → Nat :=
  let c0_387 : Index := 0#32
  let c0_i32_385 : BitVec 32 := 0#32
  let v649 : BitVec 32 := c0_i32_385
  let c0_i32_386 : BitVec 32 := 0#32
  let v650 : BitVec 32 := Scalar.addi v649 c0_i32_386
  let v651 : Index := Scalar.indexCast v650
  let c0_388 : Index := 0#32
  ![0, v651.toNat, 0]
def k0_mult106 (i : grid0.Coords) : BitVec 32 :=
  let arg2 : BitVec 32 := BitVec.ofNat 32 (i 2).val
  let c256_i32 : BitVec 32 := 256#32
  let v662 : BitVec 32 := Scalar.muli arg2 c256_i32
  v662
def k0_off66 (i : grid0.Coords) : Fin 3 → Nat :=
  let c0_394 : Index := 0#32
  let c0_395 : Index := 0#32
  let arg2 : BitVec 32 := BitVec.ofNat 32 (i 2).val
  let c256_i32 : BitVec 32 := 256#32
  let v662 : BitVec 32 := Scalar.muli arg2 c256_i32
  let v663 : BitVec 32 := v662
  let c0_i32_393 : BitVec 32 := 0#32
  let v664 : BitVec 32 := Scalar.addi v663 c0_i32_393
  let v665 : Index := Scalar.indexCast v664
  ![0, 0, v665.toNat]
def k0_mult107 : BitVec 32 :=
  let c0_i32_414 : BitVec 32 := 0#32
  c0_i32_414
def k0_mult108 (i : grid0.Coords) : BitVec 32 :=
  let arg2 : BitVec 32 := BitVec.ofNat 32 (i 2).val
  let c256_i32_422 : BitVec 32 := 256#32
  let v708 : BitVec 32 := Scalar.muli arg2 c256_i32_422
  v708
def k0_off67 (i : grid0.Coords) : Fin 3 → Nat :=
  let c0_424 : Index := 0#32
  let c64_425 : Index := 64#32
  let arg2 : BitVec 32 := BitVec.ofNat 32 (i 2).val
  let c256_i32_422 : BitVec 32 := 256#32
  let v708 : BitVec 32 := Scalar.muli arg2 c256_i32_422
  let v709 : BitVec 32 := v708
  let c0_i32_423 : BitVec 32 := 0#32
  let v710 : BitVec 32 := Scalar.addi v709 c0_i32_423
  let v711 : Index := Scalar.indexCast v710
  ![0, 64, v711.toNat]
def k0_mult109 : BitVec 32 :=
  let c0_i32_444 : BitVec 32 := 0#32
  c0_i32_444
def k0_off68 : Fin 3 → Nat :=
  let c0_446 : Index := 0#32
  let c0_i32_444 : BitVec 32 := 0#32
  let v741 : BitVec 32 := c0_i32_444
  let c0_i32_445 : BitVec 32 := 0#32
  let v742 : BitVec 32 := Scalar.addi v741 c0_i32_445
  let v743 : Index := Scalar.indexCast v742
  let c256_447 : Index := 256#32
  ![0, v743.toNat, 256]
def k0_mult110 (i : grid0.Coords) : BitVec 32 :=
  let arg2 : BitVec 32 := BitVec.ofNat 32 (i 2).val
  let c256_i32_452 : BitVec 32 := 256#32
  let v754 : BitVec 32 := Scalar.muli arg2 c256_i32_452
  v754
def k0_off69 (i : grid0.Coords) : Fin 3 → Nat :=
  let c0_454 : Index := 0#32
  let c128_455 : Index := 128#32
  let arg2 : BitVec 32 := BitVec.ofNat 32 (i 2).val
  let c256_i32_452 : BitVec 32 := 256#32
  let v754 : BitVec 32 := Scalar.muli arg2 c256_i32_452
  let v755 : BitVec 32 := v754
  let c0_i32_453 : BitVec 32 := 0#32
  let v756 : BitVec 32 := Scalar.addi v755 c0_i32_453
  let v757 : Index := Scalar.indexCast v756
  ![0, 128, v757.toNat]
def k0_mult111 : BitVec 32 :=
  let c0_i32_474 : BitVec 32 := 0#32
  c0_i32_474
def k0_mult112 (i : grid0.Coords) : BitVec 32 :=
  let arg2 : BitVec 32 := BitVec.ofNat 32 (i 2).val
  let c256_i32_482 : BitVec 32 := 256#32
  let v800 : BitVec 32 := Scalar.muli arg2 c256_i32_482
  v800
def k0_off70 (i : grid0.Coords) : Fin 3 → Nat :=
  let c0_484 : Index := 0#32
  let c192_485 : Index := 192#32
  let arg2 : BitVec 32 := BitVec.ofNat 32 (i 2).val
  let c256_i32_482 : BitVec 32 := 256#32
  let v800 : BitVec 32 := Scalar.muli arg2 c256_i32_482
  let v801 : BitVec 32 := v800
  let c0_i32_483 : BitVec 32 := 0#32
  let v802 : BitVec 32 := Scalar.addi v801 c0_i32_483
  let v803 : Index := Scalar.indexCast v802
  ![0, 192, v803.toNat]
def k0_mult113 : BitVec 32 :=
  let c0_i32_504 : BitVec 32 := 0#32
  c0_i32_504
def k0_off71 : Fin 3 → Nat :=
  let c0_506 : Index := 0#32
  let c0_i32_504 : BitVec 32 := 0#32
  let v833 : BitVec 32 := c0_i32_504
  let c0_i32_505 : BitVec 32 := 0#32
  let v834 : BitVec 32 := Scalar.addi v833 c0_i32_505
  let v835 : Index := Scalar.indexCast v834
  let c512 : Index := 512#32
  ![0, v835.toNat, 512]
def k0_mult114 (i : grid0.Coords) : BitVec 32 :=
  let arg2 : BitVec 32 := BitVec.ofNat 32 (i 2).val
  let c256_i32_511 : BitVec 32 := 256#32
  let v846 : BitVec 32 := Scalar.muli arg2 c256_i32_511
  v846
def k0_off72 (i : grid0.Coords) : Fin 3 → Nat :=
  let c0_513 : Index := 0#32
  let c256_514 : Index := 256#32
  let arg2 : BitVec 32 := BitVec.ofNat 32 (i 2).val
  let c256_i32_511 : BitVec 32 := 256#32
  let v846 : BitVec 32 := Scalar.muli arg2 c256_i32_511
  let v847 : BitVec 32 := v846
  let c0_i32_512 : BitVec 32 := 0#32
  let v848 : BitVec 32 := Scalar.addi v847 c0_i32_512
  let v849 : Index := Scalar.indexCast v848
  ![0, 256, v849.toNat]
def k0_mult115 : BitVec 32 :=
  let c0_i32_533 : BitVec 32 := 0#32
  c0_i32_533
def k0_mult116 (i : grid0.Coords) : BitVec 32 :=
  let arg2 : BitVec 32 := BitVec.ofNat 32 (i 2).val
  let c256_i32_541 : BitVec 32 := 256#32
  let v892 : BitVec 32 := Scalar.muli arg2 c256_i32_541
  v892
def k0_off73 (i : grid0.Coords) : Fin 3 → Nat :=
  let c0_543 : Index := 0#32
  let c320_544 : Index := 320#32
  let arg2 : BitVec 32 := BitVec.ofNat 32 (i 2).val
  let c256_i32_541 : BitVec 32 := 256#32
  let v892 : BitVec 32 := Scalar.muli arg2 c256_i32_541
  let v893 : BitVec 32 := v892
  let c0_i32_542 : BitVec 32 := 0#32
  let v894 : BitVec 32 := Scalar.addi v893 c0_i32_542
  let v895 : Index := Scalar.indexCast v894
  ![0, 320, v895.toNat]
def k0_mult117 : BitVec 32 :=
  let c0_i32_563 : BitVec 32 := 0#32
  c0_i32_563
def k0_off74 : Fin 3 → Nat :=
  let c0_565 : Index := 0#32
  let c0_i32_563 : BitVec 32 := 0#32
  let v925 : BitVec 32 := c0_i32_563
  let c0_i32_564 : BitVec 32 := 0#32
  let v926 : BitVec 32 := Scalar.addi v925 c0_i32_564
  let v927 : Index := Scalar.indexCast v926
  let c768 : Index := 768#32
  ![0, v927.toNat, 768]
def k0_mult118 (i : grid0.Coords) : BitVec 32 :=
  let arg2 : BitVec 32 := BitVec.ofNat 32 (i 2).val
  let c256_i32_570 : BitVec 32 := 256#32
  let v938 : BitVec 32 := Scalar.muli arg2 c256_i32_570
  v938
def k0_off75 (i : grid0.Coords) : Fin 3 → Nat :=
  let c0_572 : Index := 0#32
  let c384_573 : Index := 384#32
  let arg2 : BitVec 32 := BitVec.ofNat 32 (i 2).val
  let c256_i32_570 : BitVec 32 := 256#32
  let v938 : BitVec 32 := Scalar.muli arg2 c256_i32_570
  let v939 : BitVec 32 := v938
  let c0_i32_571 : BitVec 32 := 0#32
  let v940 : BitVec 32 := Scalar.addi v939 c0_i32_571
  let v941 : Index := Scalar.indexCast v940
  ![0, 384, v941.toNat]
def k0_mult119 : BitVec 32 :=
  let c0_i32_592 : BitVec 32 := 0#32
  c0_i32_592
def k0_mult120 (i : grid0.Coords) : BitVec 32 :=
  let arg2 : BitVec 32 := BitVec.ofNat 32 (i 2).val
  let c256_i32_600 : BitVec 32 := 256#32
  let v984 : BitVec 32 := Scalar.muli arg2 c256_i32_600
  v984
def k0_off76 (i : grid0.Coords) : Fin 3 → Nat :=
  let c0_602 : Index := 0#32
  let c448_603 : Index := 448#32
  let arg2 : BitVec 32 := BitVec.ofNat 32 (i 2).val
  let c256_i32_600 : BitVec 32 := 256#32
  let v984 : BitVec 32 := Scalar.muli arg2 c256_i32_600
  let v985 : BitVec 32 := v984
  let c0_i32_601 : BitVec 32 := 0#32
  let v986 : BitVec 32 := Scalar.addi v985 c0_i32_601
  let v987 : Index := Scalar.indexCast v986
  ![0, 448, v987.toNat]
def k0_cond4 (i : grid0.Coords) : BitVec 1 :=
  let arg2 : BitVec 32 := BitVec.ofNat 32 (i 2).val
  let c1_i32_309 : BitVec 32 := 1#32
  let v548 : BitVec 32 := Scalar.andi arg2 c1_i32_309
  let c0_i32_310 : BitVec 32 := 0#32
  let v549 : BitVec 1 := Scalar.cmpi .eq v548 c0_i32_310
  let c0_i32_311 : BitVec 32 := 0#32
  let v550 : BitVec 1 := Scalar.cmpi .sgt arg2 c0_i32_311
  let v551 : BitVec 1 := Scalar.andi v549 v550
  let v552 : BitVec 32 := Scalar.extui v551
  let c0_i32_312 : BitVec 32 := 0#32
  let v553 : BitVec 1 := Scalar.cmpi .ne v552 c0_i32_312
  v553

def k0_mult121 (i : grid0.Coords) : BitVec 32 :=
  let arg2 : BitVec 32 := BitVec.ofNat 32 (i 2).val
  let c256_i32 : BitVec 32 := 256#32
  let v647 : BitVec 32 := Scalar.muli arg2 c256_i32
  v647
def k0_off77 (i : grid0.Coords) : Fin 3 → Nat :=
  let c0_386 : Index := 0#32
  let arg2 : BitVec 32 := BitVec.ofNat 32 (i 2).val
  let c256_i32 : BitVec 32 := 256#32
  let v647 : BitVec 32 := Scalar.muli arg2 c256_i32
  let v648 : BitVec 32 := v647
  let c0_i32_385 : BitVec 32 := 0#32
  let v649 : BitVec 32 := Scalar.addi v648 c0_i32_385
  let v650 : Index := Scalar.indexCast v649
  let c0_387 : Index := 0#32
  ![0, v650.toNat, 0]
def k0_mult122 (i : grid0.Coords) : BitVec 32 :=
  let arg2 : BitVec 32 := BitVec.ofNat 32 (i 2).val
  let c1_i32_374 : BitVec 32 := 1#32
  let v634 : BitVec 32 := Scalar.subi arg2 c1_i32_374
  let c256_i32_392 : BitVec 32 := 256#32
  let v661 : BitVec 32 := Scalar.muli v634 c256_i32_392
  v661
def k0_off78 (i : grid0.Coords) : Fin 3 → Nat :=
  let c0_394 : Index := 0#32
  let c0_395 : Index := 0#32
  let arg2 : BitVec 32 := BitVec.ofNat 32 (i 2).val
  let c1_i32_374 : BitVec 32 := 1#32
  let v634 : BitVec 32 := Scalar.subi arg2 c1_i32_374
  let c256_i32_392 : BitVec 32 := 256#32
  let v661 : BitVec 32 := Scalar.muli v634 c256_i32_392
  let v662 : BitVec 32 := v661
  let c0_i32_393 : BitVec 32 := 0#32
  let v663 : BitVec 32 := Scalar.addi v662 c0_i32_393
  let v664 : Index := Scalar.indexCast v663
  ![0, 0, v664.toNat]
def k0_mult123 (i : grid0.Coords) : BitVec 32 :=
  let arg2 : BitVec 32 := BitVec.ofNat 32 (i 2).val
  let c256_i32_413 : BitVec 32 := 256#32
  let v691 : BitVec 32 := Scalar.muli arg2 c256_i32_413
  v691
def k0_mult124 (i : grid0.Coords) : BitVec 32 :=
  let arg2 : BitVec 32 := BitVec.ofNat 32 (i 2).val
  let c1_i32_374 : BitVec 32 := 1#32
  let v634 : BitVec 32 := Scalar.subi arg2 c1_i32_374
  let c256_i32_421 : BitVec 32 := 256#32
  let v705 : BitVec 32 := Scalar.muli v634 c256_i32_421
  v705
def k0_off79 (i : grid0.Coords) : Fin 3 → Nat :=
  let c0_423 : Index := 0#32
  let c64_424 : Index := 64#32
  let arg2 : BitVec 32 := BitVec.ofNat 32 (i 2).val
  let c1_i32_374 : BitVec 32 := 1#32
  let v634 : BitVec 32 := Scalar.subi arg2 c1_i32_374
  let c256_i32_421 : BitVec 32 := 256#32
  let v705 : BitVec 32 := Scalar.muli v634 c256_i32_421
  let v706 : BitVec 32 := v705
  let c0_i32_422 : BitVec 32 := 0#32
  let v707 : BitVec 32 := Scalar.addi v706 c0_i32_422
  let v708 : Index := Scalar.indexCast v707
  ![0, 64, v708.toNat]
def k0_mult125 (i : grid0.Coords) : BitVec 32 :=
  let arg2 : BitVec 32 := BitVec.ofNat 32 (i 2).val
  let c256_i32_442 : BitVec 32 := 256#32
  let v735 : BitVec 32 := Scalar.muli arg2 c256_i32_442
  v735
def k0_off80 (i : grid0.Coords) : Fin 3 → Nat :=
  let c0_444 : Index := 0#32
  let arg2 : BitVec 32 := BitVec.ofNat 32 (i 2).val
  let c256_i32_442 : BitVec 32 := 256#32
  let v735 : BitVec 32 := Scalar.muli arg2 c256_i32_442
  let v736 : BitVec 32 := v735
  let c0_i32_443 : BitVec 32 := 0#32
  let v737 : BitVec 32 := Scalar.addi v736 c0_i32_443
  let v738 : Index := Scalar.indexCast v737
  let c256_445 : Index := 256#32
  ![0, v738.toNat, 256]
def k0_mult126 (i : grid0.Coords) : BitVec 32 :=
  let arg2 : BitVec 32 := BitVec.ofNat 32 (i 2).val
  let c1_i32_374 : BitVec 32 := 1#32
  let v634 : BitVec 32 := Scalar.subi arg2 c1_i32_374
  let c256_i32_450 : BitVec 32 := 256#32
  let v749 : BitVec 32 := Scalar.muli v634 c256_i32_450
  v749
def k0_off81 (i : grid0.Coords) : Fin 3 → Nat :=
  let c0_452 : Index := 0#32
  let c128_453 : Index := 128#32
  let arg2 : BitVec 32 := BitVec.ofNat 32 (i 2).val
  let c1_i32_374 : BitVec 32 := 1#32
  let v634 : BitVec 32 := Scalar.subi arg2 c1_i32_374
  let c256_i32_450 : BitVec 32 := 256#32
  let v749 : BitVec 32 := Scalar.muli v634 c256_i32_450
  let v750 : BitVec 32 := v749
  let c0_i32_451 : BitVec 32 := 0#32
  let v751 : BitVec 32 := Scalar.addi v750 c0_i32_451
  let v752 : Index := Scalar.indexCast v751
  ![0, 128, v752.toNat]
def k0_mult127 (i : grid0.Coords) : BitVec 32 :=
  let arg2 : BitVec 32 := BitVec.ofNat 32 (i 2).val
  let c256_i32_471 : BitVec 32 := 256#32
  let v779 : BitVec 32 := Scalar.muli arg2 c256_i32_471
  v779
def k0_mult128 (i : grid0.Coords) : BitVec 32 :=
  let arg2 : BitVec 32 := BitVec.ofNat 32 (i 2).val
  let c1_i32_374 : BitVec 32 := 1#32
  let v634 : BitVec 32 := Scalar.subi arg2 c1_i32_374
  let c256_i32_479 : BitVec 32 := 256#32
  let v793 : BitVec 32 := Scalar.muli v634 c256_i32_479
  v793
def k0_off82 (i : grid0.Coords) : Fin 3 → Nat :=
  let c0_481 : Index := 0#32
  let c192_482 : Index := 192#32
  let arg2 : BitVec 32 := BitVec.ofNat 32 (i 2).val
  let c1_i32_374 : BitVec 32 := 1#32
  let v634 : BitVec 32 := Scalar.subi arg2 c1_i32_374
  let c256_i32_479 : BitVec 32 := 256#32
  let v793 : BitVec 32 := Scalar.muli v634 c256_i32_479
  let v794 : BitVec 32 := v793
  let c0_i32_480 : BitVec 32 := 0#32
  let v795 : BitVec 32 := Scalar.addi v794 c0_i32_480
  let v796 : Index := Scalar.indexCast v795
  ![0, 192, v796.toNat]
def k0_mult129 (i : grid0.Coords) : BitVec 32 :=
  let arg2 : BitVec 32 := BitVec.ofNat 32 (i 2).val
  let c256_i32_500 : BitVec 32 := 256#32
  let v823 : BitVec 32 := Scalar.muli arg2 c256_i32_500
  v823
def k0_off83 (i : grid0.Coords) : Fin 3 → Nat :=
  let c0_502 : Index := 0#32
  let arg2 : BitVec 32 := BitVec.ofNat 32 (i 2).val
  let c256_i32_500 : BitVec 32 := 256#32
  let v823 : BitVec 32 := Scalar.muli arg2 c256_i32_500
  let v824 : BitVec 32 := v823
  let c0_i32_501 : BitVec 32 := 0#32
  let v825 : BitVec 32 := Scalar.addi v824 c0_i32_501
  let v826 : Index := Scalar.indexCast v825
  let c512 : Index := 512#32
  ![0, v826.toNat, 512]
def k0_mult130 (i : grid0.Coords) : BitVec 32 :=
  let arg2 : BitVec 32 := BitVec.ofNat 32 (i 2).val
  let c1_i32_374 : BitVec 32 := 1#32
  let v634 : BitVec 32 := Scalar.subi arg2 c1_i32_374
  let c256_i32_507 : BitVec 32 := 256#32
  let v837 : BitVec 32 := Scalar.muli v634 c256_i32_507
  v837
def k0_off84 (i : grid0.Coords) : Fin 3 → Nat :=
  let c0_509 : Index := 0#32
  let c256_510 : Index := 256#32
  let arg2 : BitVec 32 := BitVec.ofNat 32 (i 2).val
  let c1_i32_374 : BitVec 32 := 1#32
  let v634 : BitVec 32 := Scalar.subi arg2 c1_i32_374
  let c256_i32_507 : BitVec 32 := 256#32
  let v837 : BitVec 32 := Scalar.muli v634 c256_i32_507
  let v838 : BitVec 32 := v837
  let c0_i32_508 : BitVec 32 := 0#32
  let v839 : BitVec 32 := Scalar.addi v838 c0_i32_508
  let v840 : Index := Scalar.indexCast v839
  ![0, 256, v840.toNat]
def k0_mult131 (i : grid0.Coords) : BitVec 32 :=
  let arg2 : BitVec 32 := BitVec.ofNat 32 (i 2).val
  let c256_i32_528 : BitVec 32 := 256#32
  let v867 : BitVec 32 := Scalar.muli arg2 c256_i32_528
  v867
def k0_mult132 (i : grid0.Coords) : BitVec 32 :=
  let arg2 : BitVec 32 := BitVec.ofNat 32 (i 2).val
  let c1_i32_374 : BitVec 32 := 1#32
  let v634 : BitVec 32 := Scalar.subi arg2 c1_i32_374
  let c256_i32_536 : BitVec 32 := 256#32
  let v881 : BitVec 32 := Scalar.muli v634 c256_i32_536
  v881
def k0_off85 (i : grid0.Coords) : Fin 3 → Nat :=
  let c0_538 : Index := 0#32
  let c320_539 : Index := 320#32
  let arg2 : BitVec 32 := BitVec.ofNat 32 (i 2).val
  let c1_i32_374 : BitVec 32 := 1#32
  let v634 : BitVec 32 := Scalar.subi arg2 c1_i32_374
  let c256_i32_536 : BitVec 32 := 256#32
  let v881 : BitVec 32 := Scalar.muli v634 c256_i32_536
  let v882 : BitVec 32 := v881
  let c0_i32_537 : BitVec 32 := 0#32
  let v883 : BitVec 32 := Scalar.addi v882 c0_i32_537
  let v884 : Index := Scalar.indexCast v883
  ![0, 320, v884.toNat]
def k0_mult133 (i : grid0.Coords) : BitVec 32 :=
  let arg2 : BitVec 32 := BitVec.ofNat 32 (i 2).val
  let c256_i32_557 : BitVec 32 := 256#32
  let v911 : BitVec 32 := Scalar.muli arg2 c256_i32_557
  v911
def k0_off86 (i : grid0.Coords) : Fin 3 → Nat :=
  let c0_559 : Index := 0#32
  let arg2 : BitVec 32 := BitVec.ofNat 32 (i 2).val
  let c256_i32_557 : BitVec 32 := 256#32
  let v911 : BitVec 32 := Scalar.muli arg2 c256_i32_557
  let v912 : BitVec 32 := v911
  let c0_i32_558 : BitVec 32 := 0#32
  let v913 : BitVec 32 := Scalar.addi v912 c0_i32_558
  let v914 : Index := Scalar.indexCast v913
  let c768 : Index := 768#32
  ![0, v914.toNat, 768]
def k0_mult134 (i : grid0.Coords) : BitVec 32 :=
  let arg2 : BitVec 32 := BitVec.ofNat 32 (i 2).val
  let c1_i32_374 : BitVec 32 := 1#32
  let v634 : BitVec 32 := Scalar.subi arg2 c1_i32_374
  let c256_i32_564 : BitVec 32 := 256#32
  let v925 : BitVec 32 := Scalar.muli v634 c256_i32_564
  v925
def k0_off87 (i : grid0.Coords) : Fin 3 → Nat :=
  let c0_566 : Index := 0#32
  let c384_567 : Index := 384#32
  let arg2 : BitVec 32 := BitVec.ofNat 32 (i 2).val
  let c1_i32_374 : BitVec 32 := 1#32
  let v634 : BitVec 32 := Scalar.subi arg2 c1_i32_374
  let c256_i32_564 : BitVec 32 := 256#32
  let v925 : BitVec 32 := Scalar.muli v634 c256_i32_564
  let v926 : BitVec 32 := v925
  let c0_i32_565 : BitVec 32 := 0#32
  let v927 : BitVec 32 := Scalar.addi v926 c0_i32_565
  let v928 : Index := Scalar.indexCast v927
  ![0, 384, v928.toNat]
def k0_mult135 (i : grid0.Coords) : BitVec 32 :=
  let arg2 : BitVec 32 := BitVec.ofNat 32 (i 2).val
  let c256_i32_585 : BitVec 32 := 256#32
  let v955 : BitVec 32 := Scalar.muli arg2 c256_i32_585
  v955
def k0_mult136 (i : grid0.Coords) : BitVec 32 :=
  let arg2 : BitVec 32 := BitVec.ofNat 32 (i 2).val
  let c1_i32_374 : BitVec 32 := 1#32
  let v634 : BitVec 32 := Scalar.subi arg2 c1_i32_374
  let c256_i32_593 : BitVec 32 := 256#32
  let v969 : BitVec 32 := Scalar.muli v634 c256_i32_593
  v969
def k0_off88 (i : grid0.Coords) : Fin 3 → Nat :=
  let c0_595 : Index := 0#32
  let c448_596 : Index := 448#32
  let arg2 : BitVec 32 := BitVec.ofNat 32 (i 2).val
  let c1_i32_374 : BitVec 32 := 1#32
  let v634 : BitVec 32 := Scalar.subi arg2 c1_i32_374
  let c256_i32_593 : BitVec 32 := 256#32
  let v969 : BitVec 32 := Scalar.muli v634 c256_i32_593
  let v970 : BitVec 32 := v969
  let c0_i32_594 : BitVec 32 := 0#32
  let v971 : BitVec 32 := Scalar.addi v970 c0_i32_594
  let v972 : Index := Scalar.indexCast v971
  ![0, 448, v972.toNat]
def k0_mult137 : BitVec 32 :=
  let c0_i32_615 : BitVec 32 := 0#32
  c0_i32_615
def k0_off89 : Fin 3 → Nat :=
  let c0_617 : Index := 0#32
  let c0_i32_615 : BitVec 32 := 0#32
  let v1002 : BitVec 32 := c0_i32_615
  let c0_i32_616 : BitVec 32 := 0#32
  let v1003 : BitVec 32 := Scalar.addi v1002 c0_i32_616
  let v1004 : Index := Scalar.indexCast v1003
  let c0_618 : Index := 0#32
  ![0, v1004.toNat, 0]
def k0_mult138 (i : grid0.Coords) : BitVec 32 :=
  let arg2 : BitVec 32 := BitVec.ofNat 32 (i 2).val
  let c256_i32_623 : BitVec 32 := 256#32
  let v1015 : BitVec 32 := Scalar.muli arg2 c256_i32_623
  v1015
def k0_off90 (i : grid0.Coords) : Fin 3 → Nat :=
  let c0_625 : Index := 0#32
  let c0_626 : Index := 0#32
  let arg2 : BitVec 32 := BitVec.ofNat 32 (i 2).val
  let c256_i32_623 : BitVec 32 := 256#32
  let v1015 : BitVec 32 := Scalar.muli arg2 c256_i32_623
  let v1016 : BitVec 32 := v1015
  let c0_i32_624 : BitVec 32 := 0#32
  let v1017 : BitVec 32 := Scalar.addi v1016 c0_i32_624
  let v1018 : Index := Scalar.indexCast v1017
  ![0, 0, v1018.toNat]
def k0_mult139 : BitVec 32 :=
  let c0_i32_645 : BitVec 32 := 0#32
  c0_i32_645
def k0_mult140 (i : grid0.Coords) : BitVec 32 :=
  let arg2 : BitVec 32 := BitVec.ofNat 32 (i 2).val
  let c256_i32_653 : BitVec 32 := 256#32
  let v1061 : BitVec 32 := Scalar.muli arg2 c256_i32_653
  v1061
def k0_off91 (i : grid0.Coords) : Fin 3 → Nat :=
  let c0_655 : Index := 0#32
  let c64_656 : Index := 64#32
  let arg2 : BitVec 32 := BitVec.ofNat 32 (i 2).val
  let c256_i32_653 : BitVec 32 := 256#32
  let v1061 : BitVec 32 := Scalar.muli arg2 c256_i32_653
  let v1062 : BitVec 32 := v1061
  let c0_i32_654 : BitVec 32 := 0#32
  let v1063 : BitVec 32 := Scalar.addi v1062 c0_i32_654
  let v1064 : Index := Scalar.indexCast v1063
  ![0, 64, v1064.toNat]
def k0_mult141 : BitVec 32 :=
  let c0_i32_675 : BitVec 32 := 0#32
  c0_i32_675
def k0_off92 : Fin 3 → Nat :=
  let c0_677 : Index := 0#32
  let c0_i32_675 : BitVec 32 := 0#32
  let v1094 : BitVec 32 := c0_i32_675
  let c0_i32_676 : BitVec 32 := 0#32
  let v1095 : BitVec 32 := Scalar.addi v1094 c0_i32_676
  let v1096 : Index := Scalar.indexCast v1095
  let c256_678 : Index := 256#32
  ![0, v1096.toNat, 256]
def k0_mult142 (i : grid0.Coords) : BitVec 32 :=
  let arg2 : BitVec 32 := BitVec.ofNat 32 (i 2).val
  let c256_i32_683 : BitVec 32 := 256#32
  let v1107 : BitVec 32 := Scalar.muli arg2 c256_i32_683
  v1107
def k0_off93 (i : grid0.Coords) : Fin 3 → Nat :=
  let c0_685 : Index := 0#32
  let c128_686 : Index := 128#32
  let arg2 : BitVec 32 := BitVec.ofNat 32 (i 2).val
  let c256_i32_683 : BitVec 32 := 256#32
  let v1107 : BitVec 32 := Scalar.muli arg2 c256_i32_683
  let v1108 : BitVec 32 := v1107
  let c0_i32_684 : BitVec 32 := 0#32
  let v1109 : BitVec 32 := Scalar.addi v1108 c0_i32_684
  let v1110 : Index := Scalar.indexCast v1109
  ![0, 128, v1110.toNat]
def k0_mult143 : BitVec 32 :=
  let c0_i32_705 : BitVec 32 := 0#32
  c0_i32_705
def k0_mult144 (i : grid0.Coords) : BitVec 32 :=
  let arg2 : BitVec 32 := BitVec.ofNat 32 (i 2).val
  let c256_i32_713 : BitVec 32 := 256#32
  let v1153 : BitVec 32 := Scalar.muli arg2 c256_i32_713
  v1153
def k0_off94 (i : grid0.Coords) : Fin 3 → Nat :=
  let c0_715 : Index := 0#32
  let c192_716 : Index := 192#32
  let arg2 : BitVec 32 := BitVec.ofNat 32 (i 2).val
  let c256_i32_713 : BitVec 32 := 256#32
  let v1153 : BitVec 32 := Scalar.muli arg2 c256_i32_713
  let v1154 : BitVec 32 := v1153
  let c0_i32_714 : BitVec 32 := 0#32
  let v1155 : BitVec 32 := Scalar.addi v1154 c0_i32_714
  let v1156 : Index := Scalar.indexCast v1155
  ![0, 192, v1156.toNat]
def k0_mult145 : BitVec 32 :=
  let c0_i32_735 : BitVec 32 := 0#32
  c0_i32_735
def k0_off95 : Fin 3 → Nat :=
  let c0_737 : Index := 0#32
  let c0_i32_735 : BitVec 32 := 0#32
  let v1186 : BitVec 32 := c0_i32_735
  let c0_i32_736 : BitVec 32 := 0#32
  let v1187 : BitVec 32 := Scalar.addi v1186 c0_i32_736
  let v1188 : Index := Scalar.indexCast v1187
  let c512_738 : Index := 512#32
  ![0, v1188.toNat, 512]
def k0_mult146 (i : grid0.Coords) : BitVec 32 :=
  let arg2 : BitVec 32 := BitVec.ofNat 32 (i 2).val
  let c256_i32_743 : BitVec 32 := 256#32
  let v1199 : BitVec 32 := Scalar.muli arg2 c256_i32_743
  v1199
def k0_off96 (i : grid0.Coords) : Fin 3 → Nat :=
  let c0_745 : Index := 0#32
  let c256_746 : Index := 256#32
  let arg2 : BitVec 32 := BitVec.ofNat 32 (i 2).val
  let c256_i32_743 : BitVec 32 := 256#32
  let v1199 : BitVec 32 := Scalar.muli arg2 c256_i32_743
  let v1200 : BitVec 32 := v1199
  let c0_i32_744 : BitVec 32 := 0#32
  let v1201 : BitVec 32 := Scalar.addi v1200 c0_i32_744
  let v1202 : Index := Scalar.indexCast v1201
  ![0, 256, v1202.toNat]
def k0_mult147 : BitVec 32 :=
  let c0_i32_765 : BitVec 32 := 0#32
  c0_i32_765
def k0_mult148 (i : grid0.Coords) : BitVec 32 :=
  let arg2 : BitVec 32 := BitVec.ofNat 32 (i 2).val
  let c256_i32_773 : BitVec 32 := 256#32
  let v1245 : BitVec 32 := Scalar.muli arg2 c256_i32_773
  v1245
def k0_off97 (i : grid0.Coords) : Fin 3 → Nat :=
  let c0_775 : Index := 0#32
  let c320_776 : Index := 320#32
  let arg2 : BitVec 32 := BitVec.ofNat 32 (i 2).val
  let c256_i32_773 : BitVec 32 := 256#32
  let v1245 : BitVec 32 := Scalar.muli arg2 c256_i32_773
  let v1246 : BitVec 32 := v1245
  let c0_i32_774 : BitVec 32 := 0#32
  let v1247 : BitVec 32 := Scalar.addi v1246 c0_i32_774
  let v1248 : Index := Scalar.indexCast v1247
  ![0, 320, v1248.toNat]
def k0_mult149 : BitVec 32 :=
  let c0_i32_795 : BitVec 32 := 0#32
  c0_i32_795
def k0_off98 : Fin 3 → Nat :=
  let c0_797 : Index := 0#32
  let c0_i32_795 : BitVec 32 := 0#32
  let v1278 : BitVec 32 := c0_i32_795
  let c0_i32_796 : BitVec 32 := 0#32
  let v1279 : BitVec 32 := Scalar.addi v1278 c0_i32_796
  let v1280 : Index := Scalar.indexCast v1279
  let c768_798 : Index := 768#32
  ![0, v1280.toNat, 768]
def k0_mult150 (i : grid0.Coords) : BitVec 32 :=
  let arg2 : BitVec 32 := BitVec.ofNat 32 (i 2).val
  let c256_i32_803 : BitVec 32 := 256#32
  let v1291 : BitVec 32 := Scalar.muli arg2 c256_i32_803
  v1291
def k0_off99 (i : grid0.Coords) : Fin 3 → Nat :=
  let c0_805 : Index := 0#32
  let c384_806 : Index := 384#32
  let arg2 : BitVec 32 := BitVec.ofNat 32 (i 2).val
  let c256_i32_803 : BitVec 32 := 256#32
  let v1291 : BitVec 32 := Scalar.muli arg2 c256_i32_803
  let v1292 : BitVec 32 := v1291
  let c0_i32_804 : BitVec 32 := 0#32
  let v1293 : BitVec 32 := Scalar.addi v1292 c0_i32_804
  let v1294 : Index := Scalar.indexCast v1293
  ![0, 384, v1294.toNat]
def k0_mult151 : BitVec 32 :=
  let c0_i32_825 : BitVec 32 := 0#32
  c0_i32_825
def k0_mult152 (i : grid0.Coords) : BitVec 32 :=
  let arg2 : BitVec 32 := BitVec.ofNat 32 (i 2).val
  let c256_i32_833 : BitVec 32 := 256#32
  let v1337 : BitVec 32 := Scalar.muli arg2 c256_i32_833
  v1337
def k0_off100 (i : grid0.Coords) : Fin 3 → Nat :=
  let c0_835 : Index := 0#32
  let c448_836 : Index := 448#32
  let arg2 : BitVec 32 := BitVec.ofNat 32 (i 2).val
  let c256_i32_833 : BitVec 32 := 256#32
  let v1337 : BitVec 32 := Scalar.muli arg2 c256_i32_833
  let v1338 : BitVec 32 := v1337
  let c0_i32_834 : BitVec 32 := 0#32
  let v1339 : BitVec 32 := Scalar.addi v1338 c0_i32_834
  let v1340 : Index := Scalar.indexCast v1339
  ![0, 448, v1340.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c0_i32 : BitVec 32 := 0#32
  ![arg0.toNat, arg1.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c0_i32 : BitVec 32 := 0#32
  ![arg0.toNat, arg1.toNat, v1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S8x512x4096 : Shape := ⟨3, ![8, 512, 4096]⟩
abbrev S8x4096x1024 : Shape := ⟨3, ![8, 4096, 1024]⟩
abbrev S8x64x4096 : Shape := ⟨3, ![8, 64, 4096]⟩
abbrev S8x8x64x4096 : Shape := ⟨4, ![8, 8, 64, 4096]⟩
abbrev S8x4096x4x2x128 : Shape := ⟨5, ![8, 4096, 4, 2, 128]⟩
abbrev S8x4096x4x1x128 : Shape := ⟨5, ![8, 4096, 4, 1, 128]⟩
abbrev S8x4096x4x128 : Shape := ⟨4, ![8, 4096, 4, 128]⟩
abbrev S8x4096x8x64 : Shape := ⟨4, ![8, 4096, 8, 64]⟩
abbrev S8x4096x4x1x16 : Shape := ⟨5, ![8, 4096, 4, 1, 16]⟩
abbrev S8x4096x4x16 : Shape := ⟨4, ![8, 4096, 4, 16]⟩
abbrev S8x4096x8x8 : Shape := ⟨4, ![8, 4096, 8, 8]⟩
abbrev S8x4096x8x3 : Shape := ⟨4, ![8, 4096, 8, 3]⟩
abbrev S_ : Shape := ⟨0, ![]⟩
abbrev S8x4096x8 : Shape := ⟨3, ![8, 4096, 8]⟩
abbrev S8x4096x4x1x3 : Shape := ⟨5, ![8, 4096, 4, 1, 3]⟩
abbrev S8x4096x4x3 : Shape := ⟨4, ![8, 4096, 4, 3]⟩
abbrev S8x4096x4x2x3 : Shape := ⟨5, ![8, 4096, 4, 2, 3]⟩
abbrev S8x8x8x4096 : Shape := ⟨4, ![8, 8, 8, 4096]⟩
abbrev S8x8x3x4096 : Shape := ⟨4, ![8, 8, 3, 4096]⟩
abbrev S8x8x4096x4096 : Shape := ⟨4, ![8, 8, 4096, 4096]⟩
abbrev S8x8x4096 : Shape := ⟨3, ![8, 8, 4096]⟩
abbrev S8x8x1x4096 : Shape := ⟨4, ![8, 8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x8x4096x1 : Shape := ⟨4, ![8, 8, 4096, 1]⟩

abbrev nBuf : Space → Nat
  | .hbm => 65
  | .vmem => 0
  | .smem => 0
  | _ => 0

abbrev bufTy : (tb : Table) → Fin (tcTables nBuf tb) → BufTy
  | .hbm, ⟨0, _⟩ => ⟨S8x512x4096, .bf16⟩
  | .hbm, ⟨1, _⟩ => ⟨S8x4096x1024, .bf16⟩
  | .hbm, ⟨2, _⟩ => ⟨S8x512x4096, .bf16⟩
  | .hbm, ⟨3, _⟩ => ⟨S8x64x4096, .f32⟩
  | .hbm, ⟨4, _⟩ => ⟨S8x512x4096, .f32⟩
  | .hbm, ⟨5, _⟩ => ⟨S8x8x64x4096, .f32⟩
  | .hbm, ⟨6, _⟩ => ⟨S8x512x4096, .f32⟩
  | .hbm, ⟨7, _⟩ => ⟨S8x8x64x4096, .f32⟩
  | .hbm, ⟨8, _⟩ => ⟨S8x4096x1024, .f32⟩
  | .hbm, ⟨9, _⟩ => ⟨S8x4096x4x2x128, .f32⟩
  | .hbm, ⟨10, _⟩ => ⟨S8x4096x4x1x128, .f32⟩
  | .hbm, ⟨11, _⟩ => ⟨S8x4096x4x128, .f32⟩
  | .hbm, ⟨12, _⟩ => ⟨S8x4096x8x64, .f32⟩
  | .hbm, ⟨13, _⟩ => ⟨S8x4096x4x1x16, .f32⟩
  | .hbm, ⟨14, _⟩ => ⟨S8x4096x4x16, .f32⟩
  | .hbm, ⟨15, _⟩ => ⟨S8x4096x8x8, .f32⟩
  | .hbm, ⟨16, _⟩ => ⟨S8x4096x8x3, .f32⟩
  | .hbm, ⟨17, _⟩ => ⟨S_, .f32⟩
  | .hbm, ⟨18, _⟩ => ⟨S8x4096x8, .f32⟩
  | .hbm, ⟨19, _⟩ => ⟨S8x4096x4x1x3, .f32⟩
  | .hbm, ⟨20, _⟩ => ⟨S8x4096x4x3, .f32⟩
  | .hbm, ⟨21, _⟩ => ⟨S8x4096x4x2x3, .f32⟩
  | .hbm, ⟨22, _⟩ => ⟨S8x4096x8x3, .f32⟩
  | .hbm, ⟨23, _⟩ => ⟨S8x8x8x4096, .f32⟩
  | .hbm, ⟨24, _⟩ => ⟨S8x8x3x4096, .f32⟩
  | .hbm, ⟨25, _⟩ => ⟨S8x8x4096x4096, .f32⟩
  | .hbm, ⟨26, _⟩ => ⟨S8x8x4096, .f32⟩
  | .hbm, ⟨27, _⟩ => ⟨S8x8x1x4096, .f32⟩
  | .hbm, ⟨28, _⟩ => ⟨S8x8x4096x4096, .f32⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S4096, .i32⟩
  | .hbm, ⟨33, _⟩ => ⟨S4096x1, .i32⟩
  | .hbm, ⟨34, _⟩ => ⟨S1x4096, .i32⟩
  | .hbm, ⟨35, _⟩ => ⟨S4096x4096, .i32⟩
  | .hbm, ⟨36, _⟩ => ⟨S4096x4096, .i32⟩
  | .hbm, ⟨37, _⟩ => ⟨S4096x4096, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8x8x4096x4096, .f32⟩
  | .hbm, ⟨42, _⟩ => ⟨S8x8x4096x4096, .f32⟩
  | .hbm, ⟨43, _⟩ => ⟨S_, .f32⟩
  | .hbm, ⟨44, _⟩ => ⟨S_, .f32⟩
  | .hbm, ⟨45, _⟩ => ⟨S8x8x4096x4096, .i1⟩
  | .hbm, ⟨46, _⟩ => ⟨S8x8x4096x4096, .f32⟩
  | .hbm, ⟨47, _⟩ => ⟨S8x8x4096x4096, .f32⟩
  | .hbm, ⟨48, _⟩ => ⟨S_, .f32⟩
  | .hbm, ⟨49, _⟩ => ⟨S8x8x4096, .f32⟩
  | .hbm, ⟨50, _⟩ => ⟨S_, .f32⟩
  | .hbm, ⟨51, _⟩ => ⟨S8x8x4096, .f32⟩
  | .hbm, ⟨52, _⟩ => ⟨S8x8x4096, .f32⟩
  | .hbm, ⟨53, _⟩ => ⟨S8x8x4096x1, .f32⟩
  | .hbm, ⟨54, _⟩ => ⟨S8x8x4096x4096, .f32⟩
  | .hbm, ⟨55, _⟩ => ⟨S8x8x4096x4096, .f32⟩
  | .hbm, ⟨56, _⟩ => ⟨S8x8x4096x4096, .f32⟩
  | .hbm, ⟨57, _⟩ => ⟨S_, .f32⟩
  | .hbm, ⟨58, _⟩ => ⟨S8x8x4096, .f32⟩
  | .hbm, ⟨59, _⟩ => ⟨S8x8x4096x1, .f32⟩
  | .hbm, ⟨60, _⟩ => ⟨S8x8x4096x4096, .f32⟩
  | .hbm, ⟨61, _⟩ => ⟨S8x8x4096x4096, .f32⟩
  | .hbm, ⟨62, _⟩ => ⟨S8x8x64x4096, .f32⟩
  | .hbm, ⟨63, _⟩ => ⟨S8x512x4096, .f32⟩
  | .hbm, ⟨64, _⟩ => ⟨S8x512x4096, .bf16⟩
  | _, _ => ⟨S8x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_0 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_1 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩

abbrev nD : Nat := 1
abbrev τ : Topo := Topo.v7x

variable {F : FTy → Type} [FloatOps F]
-- ==== MemKv.lean ====
abbrev S8x256x1024 : Shape := ⟨3, ![8, 256, 1024]⟩
abbrev S2x1024 : Shape := ⟨2, ![2, 1024]⟩
abbrev S2x1024x1024 : Shape := ⟨3, ![2, 1024, 1024]⟩
abbrev S2x128 : Shape := ⟨2, ![2, 128]⟩
abbrev S2x1x1024 : Shape := ⟨3, ![2, 1, 1024]⟩
abbrev S2x1x128 : Shape := ⟨3, ![2, 1, 128]⟩
abbrev S2x8x256x512 : Shape := ⟨4, ![2, 8, 256, 512]⟩
abbrev S1x256x1024 : Shape := ⟨3, ![1, 256, 1024]⟩
abbrev S1x1x1024 : Shape := ⟨3, ![1, 1, 1024]⟩
abbrev S1x1024x1024 : Shape := ⟨3, ![1, 1024, 1024]⟩
abbrev S1x1x128 : Shape := ⟨3, ![1, 1, 128]⟩
abbrev S1x1x256x512 : Shape := ⟨4, ![1, 1, 256, 512]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S1024x1024 : Shape := ⟨2, ![1024, 1024]⟩
abbrev S256x128 : Shape := ⟨2, ![256, 128]⟩
abbrev S1x128 : Shape := ⟨2, ![1, 128]⟩
abbrev S1x1x256x128 : Shape := ⟨4, ![1, 1, 256, 128]⟩
abbrev S256x512 : Shape := ⟨2, ![256, 512]⟩

abbrev nBuf : Space → Nat
  | .hbm => 9
  | .vmem => 12
  | .smem => 0
  | _ => 0

abbrev bufTy : (tb : Table) → Fin (tcTables nBuf tb) → BufTy
  | .hbm, ⟨0, _⟩ => ⟨S8x256x1024, .f32⟩
  | .hbm, ⟨1, _⟩ => ⟨S2x1024, .f32⟩
  | .hbm, ⟨2, _⟩ => ⟨S2x1024x1024, .f32⟩
  | .hbm, ⟨3, _⟩ => ⟨S2x128, .f32⟩
  | .hbm, ⟨4, _⟩ => ⟨S2x1x1024, .f32⟩
  | .hbm, ⟨5, _⟩ => ⟨S2x1024x1024, .bf16⟩
  | .hbm, ⟨6, _⟩ => ⟨S2x1x128, .f32⟩
  | .hbm, ⟨7, _⟩ => ⟨S2x8x256x512, .bf16⟩
  | .hbm, ⟨8, _⟩ => ⟨S2x8x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1x1x128, .f32⟩
  | .local _ .vmem, ⟨7, _⟩ => ⟨S1x1x128, .f32⟩
  | .local _ .vmem, ⟨8, _⟩ => ⟨S1x1x256x512, .bf16⟩
  | .local _ .vmem, ⟨9, _⟩ => ⟨S1x1x256x512, .bf16⟩
  | .local _ .vmem, ⟨10, _⟩ => ⟨S1x1x256x512, .bf16⟩
  | .local _ .vmem, ⟨11, _⟩ => ⟨S1x1x256x512, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MemKvRefIdeal.lean ====
abbrev S8x256x1024 : Shape := ⟨3, ![8, 256, 1024]⟩
abbrev S2x1024 : Shape := ⟨2, ![2, 1024]⟩
abbrev S2x1024x1024 : Shape := ⟨3, ![2, 1024, 1024]⟩
abbrev S2x128 : Shape := ⟨2, ![2, 128]⟩
abbrev S1x1024 : Shape := ⟨2, ![1, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S8x256x512 : Shape := ⟨3, ![8, 256, 512]⟩
abbrev S8x256x4x128 : Shape := ⟨4, ![8, 256, 4, 128]⟩
abbrev S1x128 : Shape := ⟨2, ![1, 128]⟩
abbrev S128 : Shape := ⟨1, ![128]⟩
abbrev S8x256x4 : Shape := ⟨3, ![8, 256, 4]⟩
abbrev S8x256x4x1 : Shape := ⟨4, ![8, 256, 4, 1]⟩
abbrev S1x1x1x128 : Shape := ⟨4, ![1, 1, 1, 128]⟩
abbrev S1x8x256x512 : Shape := ⟨4, ![1, 8, 256, 512]⟩
abbrev S2x8x256x512 : Shape := ⟨4, ![2, 8, 256, 512]⟩

abbrev nBuf : Space → Nat
  | .hbm => 100
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S2x1024, .f32⟩
  | .hbm, ⟨2, _⟩ => ⟨S2x1024x1024, .f32⟩
  | .hbm, ⟨3, _⟩ => ⟨S2x128, .f32⟩
  | .hbm, ⟨4, _⟩ => ⟨S1x1024, .f32⟩
  | .hbm, ⟨5, _⟩ => ⟨S1024, .f32⟩
  | .hbm, ⟨6, _⟩ => ⟨S8x256x1024, .f32⟩
  | .hbm, ⟨7, _⟩ => ⟨S_, .f32⟩
  | .hbm, ⟨8, _⟩ => ⟨S8x256, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S_, .f32⟩
  | .hbm, ⟨14, _⟩ => ⟨S8x256x1, .f32⟩
  | .hbm, ⟨15, _⟩ => ⟨S8x256x1, .f32⟩
  | .hbm, ⟨16, _⟩ => ⟨S8x256x1, .f32⟩
  | .hbm, ⟨17, _⟩ => ⟨S8x256x1024, .f32⟩
  | .hbm, ⟨18, _⟩ => ⟨S8x256x1024, .f32⟩
  | .hbm, ⟨19, _⟩ => ⟨S1x1x1024, .f32⟩
  | .hbm, ⟨20, _⟩ => ⟨S8x256x1024, .f32⟩
  | .hbm, ⟨21, _⟩ => ⟨S8x256x1024, .f32⟩
  | .hbm, ⟨22, _⟩ => ⟨S1x1024x1024, .f32⟩
  | .hbm, ⟨23, _⟩ => ⟨S1024x1024, .f32⟩
  | .hbm, ⟨24, _⟩ => ⟨S8x256x1024, .f32⟩
  | .hbm, ⟨25, _⟩ => ⟨S8x256x512, .f32⟩
  | .hbm, ⟨26, _⟩ => ⟨S8x256x512, .f32⟩
  | .hbm, ⟨27, _⟩ => ⟨S8x256x4x128, .f32⟩
  | .hbm, ⟨28, _⟩ => ⟨S1x128, .f32⟩
  | .hbm, ⟨29, _⟩ => ⟨S128, .f32⟩
  | .hbm, ⟨30, _⟩ => ⟨S8x256x4x128, .f32⟩
  | .hbm, ⟨31, _⟩ => ⟨S_, .f32⟩
  | .hbm, ⟨32, _⟩ => ⟨S8x256x4, .f32⟩
  | .hbm, ⟨33, _⟩ => ⟨S8x256x4x1, .f32⟩
  | .hbm, ⟨34, _⟩ => ⟨S_, .f32⟩
  | .hbm, ⟨35, _⟩ => ⟨S8x256x4x1, .f32⟩
  | .hbm, ⟨36, _⟩ => ⟨S8x256x4x1, .f32⟩
  | .hbm, ⟨37, _⟩ => ⟨S_, .f32⟩
  | .hbm, ⟨38, _⟩ => ⟨S8x256x4x1, .f32⟩
  | .hbm, ⟨39, _⟩ => ⟨S8x256x4x1, .f32⟩
  | .hbm, ⟨40, _⟩ => ⟨S8x256x4x1, .f32⟩
  | .hbm, ⟨41, _⟩ => ⟨S8x256x4x128, .f32⟩
  | .hbm, ⟨42, _⟩ => ⟨S8x256x4x128, .f32⟩
  | .hbm, ⟨43, _⟩ => ⟨S1x1x1x128, .f32⟩
  | .hbm, ⟨44, _⟩ => ⟨S8x256x4x128, .f32⟩
  | .hbm, ⟨45, _⟩ => ⟨S8x256x4x128, .f32⟩
  | .hbm, ⟨46, _⟩ => ⟨S8x256x512, .f32⟩
  | .hbm, ⟨47, _⟩ => ⟨S8x256x512, .bf16⟩
  | .hbm, ⟨48, _⟩ => ⟨S8x256x512, .bf16⟩
  | .hbm, ⟨49, _⟩ => ⟨S1x1024, .f32⟩
  | .hbm, ⟨50, _⟩ => ⟨S1024, .f32⟩
  | .hbm, ⟨51, _⟩ => ⟨S8x256x1024, .f32⟩
  | .hbm, ⟨52, _⟩ => ⟨S_, .f32⟩
  | .hbm, ⟨53, _⟩ => ⟨S8x256, .f32⟩
  | .hbm, ⟨54, _⟩ => ⟨S8x256x1, .f32⟩
  | .hbm, ⟨55, _⟩ => ⟨S_, .f32⟩
  | .hbm, ⟨56, _⟩ => ⟨S8x256x1, .f32⟩
  | .hbm, ⟨57, _⟩ => ⟨S8x256x1, .f32⟩
  | .hbm, ⟨58, _⟩ => ⟨S_, .f32⟩
  | .hbm, ⟨59, _⟩ => ⟨S8x256x1, .f32⟩
  | .hbm, ⟨60, _⟩ => ⟨S8x256x1, .f32⟩
  | .hbm, ⟨61, _⟩ => ⟨S8x256x1, .f32⟩
  | .hbm, ⟨62, _⟩ => ⟨S8x256x1024, .f32⟩
  | .hbm, ⟨63, _⟩ => ⟨S8x256x1024, .f32⟩
  | .hbm, ⟨64, _⟩ => ⟨S1x1x1024, .f32⟩
  | .hbm, ⟨65, _⟩ => ⟨S8x256x1024, .f32⟩
  | .hbm, ⟨66, _⟩ => ⟨S8x256x1024, .f32⟩
  | .hbm, ⟨67, _⟩ => ⟨S1x1024x1024, .f32⟩
  | .hbm, ⟨68, _⟩ => ⟨S1024x1024, .f32⟩
  | .hbm, ⟨69, _⟩ => ⟨S8x256x1024, .f32⟩
  | .hbm, ⟨70, _⟩ => ⟨S8x256x512, .f32⟩
  | .hbm, ⟨71, _⟩ => ⟨S8x256x512, .f32⟩
  | .hbm, ⟨72, _⟩ => ⟨S8x256x4x128, .f32⟩
  | .hbm, ⟨73, _⟩ => ⟨S1x128, .f32⟩
  | .hbm, ⟨74, _⟩ => ⟨S128, .f32⟩
  | .hbm, ⟨75, _⟩ => ⟨S8x256x4x128, .f32⟩
  | .hbm, ⟨76, _⟩ => ⟨S_, .f32⟩
  | .hbm, ⟨77, _⟩ => ⟨S8x256x4, .f32⟩
  | .hbm, ⟨78, _⟩ => ⟨S8x256x4x1, .f32⟩
  | .hbm, ⟨79, _⟩ => ⟨S_, .f32⟩
  | .hbm, ⟨80, _⟩ => ⟨S8x256x4x1, .f32⟩
  | .hbm, ⟨81, _⟩ => ⟨S8x256x4x1, .f32⟩
  | .hbm, ⟨82, _⟩ => ⟨S_, .f32⟩
  | .hbm, ⟨83, _⟩ => ⟨S8x256x4x1, .f32⟩
  | .hbm, ⟨84, _⟩ => ⟨S8x256x4x1, .f32⟩
  | .hbm, ⟨85, _⟩ => ⟨S8x256x4x1, .f32⟩
  | .hbm, ⟨86, _⟩ => ⟨S8x256x4x128, .f32⟩
  | .hbm, ⟨87, _⟩ => ⟨S8x256x4x128, .f32⟩
  | .hbm, ⟨88, _⟩ => ⟨S1x1x1x128, .f32⟩
  | .hbm, ⟨89, _⟩ => ⟨S8x256x4x128, .f32⟩
  | .hbm, ⟨90, _⟩ => ⟨S8x256x4x128, .f32⟩
  | .hbm, ⟨91, _⟩ => ⟨S8x256x512, .f32⟩
  | .hbm, ⟨92, _⟩ => ⟨S8x256x512, .bf16⟩
  | .hbm, ⟨93, _⟩ => ⟨S8x256x512, .bf16⟩
  | .hbm, ⟨94, _⟩ => ⟨S1x8x256x512, .bf16⟩
  | .hbm, ⟨95, _⟩ => ⟨S1x8x256x512, .bf16⟩
  | .hbm, ⟨96, _⟩ => ⟨S2x8x256x512, .bf16⟩
  | .hbm, ⟨97, _⟩ => ⟨S1x8x256x512, .bf16⟩
  | .hbm, ⟨98, _⟩ => ⟨S1x8x256x512, .bf16⟩
  | .hbm, ⟨99, _⟩ => ⟨S2x8x256x512, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_8 : Ref sig .tc := ⟨.hbm, 76, rfl⟩
abbrev main_v63 : Ref sig .tc := ⟨.hbm, 77, rfl⟩
abbrev main_v64 : Ref sig .tc := ⟨.hbm, 78, rfl⟩
abbrev main_cst_9 : Ref sig .tc := ⟨.hbm, 79, rfl⟩
abbrev main_v65 : Ref sig .tc := ⟨.hbm, 80, rfl⟩
abbrev main_v66 : Ref sig .tc := ⟨.hbm, 81, rfl⟩
abbrev main_cst_10 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩

abbrev nD : Nat := 1
abbrev τ : Topo := Topo.v7x

variable {F : FTy → Type} [FloatOps F]
-- ==== Proof.MlpPure0.lean ====
/- The feed-forward call of layer 0: the reference's term cut into the residual row, its normalised row and the
   feed-forward sum, each read at an index, and the call's own payloads read at an index. -/
module

public import proofs.«01_k».proof.Proof.Gen.Mlp0Ideal.Skeleton
public import proofs.«01_k».proof.Proof.Gen.MlpRef0Ideal.Run
public import Idealize.ShloMosaic.Lib.Pointwise

@[expose] public section

set_option maxRecDepth 16384
noncomputable section
open Idealize.ShloMosaic Idealize.ShloMosaic.TcCoe Idealize.SL.Sem

namespace Cert.MlpRef0Ideal.Value
open Cert.MlpRef0Ideal Cert.MlpRef0Ideal.Gen

/-- The residual stream after the output projection. -/
def MID (X : FVec Ideal S8x4096x1024 .f32) (YA : FVec Ideal S8x4096x512 .bf16) (YB : FVec Ideal S8x4096x512 .bf16) (WO : FVec Ideal S2x1024x1024 .f32) : FVec Ideal S8x4096x1024 .f32 :=
  addf X (Host.dotGeneral dot_S8x4096x1024_S1024x1024_S8x4096x1024_2_0_01_1_n_n none (concatenate S8x4096x1024 2 [⟨S8x4096x512, (extf .f32 YA bitsLt_bf16_f32)⟩, ⟨S8x4096x512, (extf .f32 YB bitsLt_bf16_f32)⟩] concatenates_S8x4096x512_S8x4096x512_S8x4096x1024_d2) (shapeCast _ (extractStridedSlice S1x1024x1024 ![0, 0, 0] WO slices_S2x1024x1024_S1x1024x1024_0_0_0) shapeCasts_S1x1024x1024_S1024x1024))

/-- The normalised rows the feed-forward layer reads. -/
def NRM (Y : FVec Ideal S8x4096x1024 .f32) (G : FVec Ideal S2x1024 .f32) : FVec Ideal S8x4096x1024 .f32 :=
  mulf (mulf Y (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf Y Y) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1024 ![0, 0] G slices_S2x1024_S1x1024_0_0) shapeCasts_S1x1024_S1024)))

/-- The feed-forward layer of normalised rows, before its residual. -/
def FFN (H : FVec Ideal S8x4096x1024 .f32) (W1 : FVec Ideal S2x1024x4096 .f32) (W2 : FVec Ideal S2x4096x1024 .f32) :
    FVec Ideal S8x4096x1024 .f32 :=
  Host.dotGeneral dot_S8x4096x4096_S4096x1024_S8x4096x1024_2_0_01_1_n_n none (mulf (maximumf (Host.dotGeneral dot_S8x4096x1024_S1024x4096_S8x4096x4096_2_0_01_1_n_n none H (shapeCast _ (extractStridedSlice S1x1024x4096 ![0, 0, 0] W1 slices_S2x1024x4096_S1x1024x4096_0_0_0) shapeCasts_S1x1024x4096_S1024x4096)) (broadcastInDim S8x4096x4096 ![] bcast_S_S8x4096x4096 (constant S_ .f32 0x00000000#32))) (maximumf (Host.dotGeneral dot_S8x4096x1024_S1024x4096_S8x4096x4096_2_0_01_1_n_n none H (shapeCast _ (extractStridedSlice S1x1024x4096 ![0, 0, 0] W1 slices_S2x1024x4096_S1x1024x4096_0_0_0) shapeCasts_S1x1024x4096_S1024x4096)) (broadcastInDim S8x4096x4096 ![] bcast_S_S8x4096x4096 (constant S_ .f32 0x00000000#32)))) (shapeCast _ (extractStridedSlice S1x4096x1024 ![0, 0, 0] W2 slices_S2x4096x1024_S1x4096x1024_0_0_0) shapeCasts_S1x4096x1024_S4096x1024)

/-- The reference's term is these three put together. -/
theorem res_eq (m : (ℓ : Loc nD τ sig) → Buf (Elt Ideal) ℓ) (c : Dev nD) (X : FVec Ideal S8x4096x1024 .f32) (YA : FVec Ideal S8x4096x512 .bf16) (YB : FVec Ideal S8x4096x512 .bf16) (WO : FVec Ideal S2x1024x1024 .f32) (G : FVec Ideal S2x1024 .f32)
    (W1 : FVec Ideal S2x1024x4096 .f32) (W2 : FVec Ideal S2x4096x1024 .f32)
    (h0 : m ((c.tc : Thread nD τ).loc main_arg0) = X) (h1 : m ((c.tc : Thread nD τ).loc main_arg1) = YA)
    (h2 : m ((c.tc : Thread nD τ).loc main_arg2) = YB) (h3 : m ((c.tc : Thread nD τ).loc main_arg3) = WO)
    (h4 : m ((c.tc : Thread nD τ).loc main_arg4) = G) (h5 : m ((c.tc : Thread nD τ).loc main_arg5) = W1)
    (h6 : m ((c.tc : Thread nD τ).loc main_arg6) = W2) :
    res_main_v30 m c = (addf (MID X YA YB WO) (FFN (NRM (MID X YA YB WO) G) W1 W2) : FVec Ideal S8x4096x1024 .f32) := by
  subst h0 h1 h2 h3 h4 h5 h6; rfl

/-- The residual stream after the output projection, at an index. -/
theorem mid_at (X : FVec Ideal S8x4096x1024 .f32) (YA : FVec Ideal S8x4096x512 .bf16) (YB : FVec Ideal S8x4096x512 .bf16) (WO : FVec Ideal S2x1024x1024 .f32) (b : Fin 8) (s : Fin 4096) (d : Fin 1024) : MID X YA YB WO (ix3 b s d)
    = X (ix3 b s d) + ((∑ k : Fin 512, YA (ix3 b s k) * WO (ix3 0 ⟨k.val, by omega⟩ d))
      + ∑ k : Fin 512, YB (ix3 b s k) * WO (ix3 0 ⟨512 + k.val, by omega⟩ d)) := by
  pointwise [MID]

/-- The normalised row at an index. -/
theorem nrm_at (Y : FVec Ideal S8x4096x1024 .f32) (G : FVec Ideal S2x1024 .f32) (b : Fin 8) (s : Fin 4096) (d : Fin 1024) :
    NRM Y G (ix3 b s d) = Y (ix3 b s d) * Ideal.rsqrt (Ideal.div (∑ k : Fin 1024, Y (ix3 b s k) * Y (ix3 b s k))
      (Ideal.ofBits .f32 0x44800000#32) + Ideal.ofBits .f32 0x358637BD#32) * G (ix2 0 d) := by
  pointwise [NRM]

/-- The feed-forward sum at an index. -/
theorem ffn_at (H : FVec Ideal S8x4096x1024 .f32) (W1 : FVec Ideal S2x1024x4096 .f32) (W2 : FVec Ideal S2x4096x1024 .f32)
    (b : Fin 8) (s : Fin 4096) (d : Fin 1024) : FFN H W1 W2 (ix3 b s d)
    = ∑ f : Fin 4096, max (∑ k : Fin 1024, H (ix3 b s k) * W1 (ix3 0 k f)) 0 * max (∑ k : Fin 1024, H (ix3 b s k) * W1 (ix3 0 k f)) 0
        * W2 (ix3 0 f d) := by
  pointwise [FFN]

end Cert.MlpRef0Ideal.Value

namespace Cert.Mlp0Ideal.Value
open Cert.Mlp0Ideal Cert.Mlp0Ideal.Gen

/-- The stored residual row at an index. -/
theorem pay2_at (x : FVec Ideal S1x1024x1024 .f32) (ya : FVec Ideal S1x1024x512 .bf16) (yb : FVec Ideal S1x1024x512 .bf16)
    (wa wb : FVec Ideal S1x512x1024 .bf16) (r d : Fin 1024) : k0_pay2 (F := Ideal) ya wa x yb wb (ix2 r d)
    = x (ix3 0 r d) + ((∑ k : Fin 512, ya (ix3 0 r k) * wa (ix3 0 k d)) + ∑ k : Fin 512, yb (ix3 0 r k) * wb (ix3 0 k d)) := by
  pointwise [k0_pay2]
  exact add_assoc _ _ _

/-- The normalised row the chunks read, at an index. -/
theorem pay3_at (x : FVec Ideal S1x1024x1024 .f32) (ya : FVec Ideal S1x1024x512 .bf16) (yb : FVec Ideal S1x1024x512 .bf16)
    (wa wb : FVec Ideal S1x512x1024 .bf16) (g : FVec Ideal S1x1x1024 .f32) (r d : Fin 1024) :
    k0_pay3 (F := Ideal) ya wa x yb wb g (ix2 r d)
    = k0_pay2 (F := Ideal) ya wa x yb wb (ix2 r d) * Ideal.rsqrt (Ideal.div (∑ k : Fin 1024, k0_pay2 (F := Ideal) ya wa x yb wb (ix2 r k) * k0_pay2 (F := Ideal) ya wa x yb wb (ix2 r k))
      (Ideal.ofBits .f32 0x44800000#32) + Ideal.ofBits .f32 0x358637BD#32) * g (ix3 0 0 d) := by
  pointwise [k0_pay3]

/-- One chunk of the feed-forward sum. -/
def chunk (h : FVec Ideal S1024x1024 .bf16) (w1 w2 : FVec Ideal S1x1024x1024 .bf16) (r d : Fin 1024) : EReal :=
  ∑ f : Fin 1024, max (∑ k : Fin 1024, h (ix2 r k) * w1 (ix3 0 k f)) 0 * max (∑ k : Fin 1024, h (ix2 r k) * w1 (ix3 0 k f)) 0
    * w2 (ix3 0 f d)

/-- Each of the four accumulations adds its chunk. -/
theorem pays_at (h : FVec Ideal S1024x1024 .bf16) (o : FVec Ideal S1x1024x1024 .f32) (w1 w2 : FVec Ideal S1x1024x1024 .bf16)
    (r d : Fin 1024) :
    k0_pay5 (F := Ideal) h w1 o w2 (ix3 0 r d) = o (ix3 0 r d) + chunk h w1 w2 r d
    ∧ k0_pay7 (F := Ideal) (k0_pay6 h w1 o w2) (ix3 0 r d) = o (ix3 0 r d) + chunk h w1 w2 r d
    ∧ k0_pay8 (F := Ideal) h w1 o w2 (ix3 0 r d) = o (ix3 0 r d) + chunk h w1 w2 r d
    ∧ k0_pay1 (F := Ideal) (k0_pay9 o) (k0_pay10 h w1) (k0_pay11 w2) (constant S1024x1024 .f32 0x00000000#32) (ix3 0 r d)
      = o (ix3 0 r d) + chunk h w1 w2 r d := by
  refine ⟨?_, ?_, ?_, ?_⟩ <;> pointwise [k0_pay5, k0_pay6, k0_pay7, k0_pay8, k0_pay9, k0_pay10, k0_pay11, k0_pay1, chunk]

end Cert.Mlp0Ideal.Value
end
-- ==== Proof.MlpValue0.lean ====
/- The feed-forward call of layer 0: its result array is the reference's term of its arguments. -/
module

public import proofs.«01_k».proof.Proof.Gen.Mlp0Ideal.Value
public import proofs.«01_k».proof.Proof.MlpPure0
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.Mlp0Ideal.Value
open Cert.Mlp0Ideal Cert.Mlp0Ideal.Gen
variable (m : (ℓ : Loc nD τ sig) → Buf (Elt Ideal) ℓ)

/-- Which block of its array each window stages at a grid point. -/
theorem idx : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![0, 0, 0] ∧ win0_4.index t = ![0, 0, 0] ∧ win0_5.index t = ![0, 0, 0] ∧ win0_6.index t = ![0, 0, 0]
    ∧ win0_7.index t = ![(grid0.coords t 0).val, (grid0.coords t 1).val, 0] :=
  (by decide +kernel : ∀ t : Fin grid0.N, _)

/-- The statement as one term over the call's arguments. -/
abbrev REF (X : FVec Ideal S8x4096x1024 .f32) (YA : FVec Ideal S8x4096x512 .bf16) (YB : FVec Ideal S8x4096x512 .bf16)
    (WO : FVec Ideal S2x1024x1024 .f32) (G : FVec Ideal S2x1024 .f32)
    (W1 : FVec Ideal S2x1024x4096 .f32) (W2 : FVec Ideal S2x4096x1024 .f32) : FVec Ideal S8x4096x1024 .f32 :=
  addf (Cert.MlpRef0Ideal.Value.MID X YA YB WO)
    (Cert.MlpRef0Ideal.Value.FFN (Cert.MlpRef0Ideal.Value.NRM (Cert.MlpRef0Ideal.Value.MID X YA YB WO) G) W1 W2)

/-- One grid point: what the call stores at a row, from blocks that hold the arrays' rows `s r` of batch `b` and the
    whole weights, is the reference's row. -/
theorem core (X : FVec Ideal S8x4096x1024 .f32) (YA : FVec Ideal S8x4096x512 .bf16) (YB : FVec Ideal S8x4096x512 .bf16)
    (WO : FVec Ideal S2x1024x1024 .f32) (G : FVec Ideal S2x1024 .f32)
    (W1 : FVec Ideal S2x1024x4096 .f32) (W2 : FVec Ideal S2x4096x1024 .f32)
    (x : FVec Ideal S1x1024x1024 .f32) (ya : FVec Ideal S1x1024x512 .bf16) (yb : FVec Ideal S1x1024x512 .bf16)
    (wa wb : FVec Ideal S1x512x1024 .bf16) (g : FVec Ideal S1x1x1024 .f32)
    (u0 u1 u2 u3 v0 v1 v2 v3 : FVec Ideal S1x1024x1024 .bf16) (b : Fin 8) (s : Fin 1024 → Fin 4096) (r d : Fin 1024)
    (hx : ∀ r d, x (ix3 0 r d) = X (ix3 b (s r) d)) (hya : ∀ (r : Fin 1024) (k : Fin 512), ya (ix3 0 r k) = YA (ix3 b (s r) k))
    (hyb : ∀ r k, yb (ix3 0 r k) = YB (ix3 b (s r) k))
    (hwa : ∀ (k : Fin 512) d, wa (ix3 0 k d) = WO (ix3 0 ⟨k.val, by omega⟩ d))
    (hwb : ∀ (k : Fin 512) d, wb (ix3 0 k d) = WO (ix3 0 ⟨512 + k.val, by omega⟩ d))
    (hg : ∀ d, g (ix3 0 0 d) = G (ix2 0 d))
    (hu0 : ∀ k (f : Fin 1024), u0 (ix3 0 k f) = W1 (ix3 0 k ⟨0 * 1024 + f.val, by omega⟩))
    (hu1 : ∀ k (f : Fin 1024), u1 (ix3 0 k f) = W1 (ix3 0 k ⟨1 * 1024 + f.val, by omega⟩))
    (hu2 : ∀ k (f : Fin 1024), u2 (ix3 0 k f) = W1 (ix3 0 k ⟨2 * 1024 + f.val, by omega⟩))
    (hu3 : ∀ k (f : Fin 1024), u3 (ix3 0 k f) = W1 (ix3 0 k ⟨3 * 1024 + f.val, by omega⟩))
    (hv0 : ∀ (f : Fin 1024) d, v0 (ix3 0 f d) = W2 (ix3 0 ⟨0 * 1024 + f.val, by omega⟩ d))
    (hv1 : ∀ (f : Fin 1024) d, v1 (ix3 0 f d) = W2 (ix3 0 ⟨1 * 1024 + f.val, by omega⟩ d))
    (hv2 : ∀ (f : Fin 1024) d, v2 (ix3 0 f d) = W2 (ix3 0 ⟨2 * 1024 + f.val, by omega⟩ d))
    (hv3 : ∀ (f : Fin 1024) d, v3 (ix3 0 f d) = W2 (ix3 0 ⟨3 * 1024 + f.val, by omega⟩ d)) :
    k0_pay1 (F := Ideal) (k0_pay9 (F := Ideal) (k0_pay8 (F := Ideal) (k0_pay3 (F := Ideal) ya wa x yb wb g) u2
        (k0_pay7 (F := Ideal) (k0_pay6 (F := Ideal) (k0_pay3 (F := Ideal) ya wa x yb wb g) u1 (k0_pay5 (F := Ideal) (k0_pay3 (F := Ideal) ya wa x yb wb g) u0 (k0_pay4 (F := Ideal) ya wa x yb wb) v0) v1)) v2))
      (k0_pay10 (F := Ideal) (k0_pay3 (F := Ideal) ya wa x yb wb g) u3) (k0_pay11 (F := Ideal) v3) (constant S1024x1024 .f32 0x00000000#32) (ix3 0 r d)
    = REF X YA YB WO G W1 W2 (ix3 b (s r) d) := by
  have hmid : ∀ r d, k0_pay2 (F := Ideal) ya wa x yb wb (ix2 r d) = Cert.MlpRef0Ideal.Value.MID X YA YB WO (ix3 b (s r) d) := fun r d => by
    rw [pay2_at, Cert.MlpRef0Ideal.Value.mid_at]; simp only [hx, hya, hyb, hwa, hwb]
  have hnrm : ∀ r d, k0_pay3 (F := Ideal) ya wa x yb wb g (ix2 r d) = Cert.MlpRef0Ideal.Value.NRM (Cert.MlpRef0Ideal.Value.MID X YA YB WO) G (ix3 b (s r) d) := fun r d => by
    rw [pay3_at, Cert.MlpRef0Ideal.Value.nrm_at]; simp only [hmid, hg]
  have h4 : k0_pay4 (F := Ideal) ya wa x yb wb (ix3 0 r d) = Cert.MlpRef0Ideal.Value.MID X YA YB WO (ix3 b (s r) d) := by
    rw [← hmid]; pointwise [k0_pay4]
  rw [(pays_at _ _ _ _ r d).2.2.2, (pays_at _ _ _ _ r d).2.2.1, (pays_at _ _ _ _ r d).2.1, (pays_at _ _ _ _ r d).1, h4]
  show _ = Cert.MlpRef0Ideal.Value.MID X YA YB WO (ix3 b (s r) d) + Cert.MlpRef0Ideal.Value.FFN (Cert.MlpRef0Ideal.Value.NRM (Cert.MlpRef0Ideal.Value.MID X YA YB WO) G) W1 W2 (ix3 b (s r) d)
  rw [Cert.MlpRef0Ideal.Value.ffn_at, Fin.sum_univ_tiles 4 1024 rfl, Fin.sum_univ_four]
  simp only [chunk, hnrm, hu0, hu1, hu2, hu3, hv0, hv1, hv2, hv3, add_assoc]
  rfl

/-- The result array after the run. -/
theorem final (c : Dev nD) : (dats m 0 c).arrAt 7 (cfgs 0).N
    = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 7 _ (by decide +kernel) fun t _ y => ?_
  blk_simp
  rw [after0_7]; unfold outsAt0 out0_A_7; frame_out
  obtain ⟨r, d, rfl⟩ : ∃ (r d : Fin 1024), y = ix3 0 r d := ⟨y 1, y 2, by blk_ext [idx t]⟩
  have hc0 : (grid0.coords t 0).val < 8 := (grid0.coords t 0).isLt
  have hc1 : (grid0.coords t 1).val < 4 := (grid0.coords t 1).isLt
  refine (core (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) _ _ _ _ _ _ _ _ _ _ _ _ _ _ ⟨(grid0.coords t 0).val, hc0⟩
      (fun r => ⟨(grid0.coords t 1).val * 1024 + r.val, by omega⟩) r d
      ?_ ?_ ?_ ?_ ?_ ?_ ?_ ?_ ?_ ?_ ?_ ?_ ?_ ?_).trans ?_
  case refine_15 => exact congrArg _ (by blk_ext [idx t])
  all_goals intros; pointwise; blk_point [iblk, V, idx t]

end Cert.Mlp0Ideal.Value
end
-- ==== Proof.MlpPure1.lean ====
/- The feed-forward call of layer 1: the reference's term cut into the residual row, its normalised row and the
   feed-forward sum, each read at an index, and the call's own payloads read at an index. -/
module

public import proofs.«01_k».proof.Proof.Gen.Mlp1Ideal.Skeleton
public import proofs.«01_k».proof.Proof.Gen.MlpRef1Ideal.Run
public import Idealize.ShloMosaic.Lib.Pointwise

@[expose] public section

set_option maxRecDepth 16384
noncomputable section
open Idealize.ShloMosaic Idealize.ShloMosaic.TcCoe Idealize.SL.Sem

namespace Cert.MlpRef1Ideal.Value
open Cert.MlpRef1Ideal Cert.MlpRef1Ideal.Gen

/-- The residual stream after the output projection. -/
def MID (X : FVec Ideal S8x4096x1024 .f32) (YA : FVec Ideal S8x512x4096 .bf16) (YB : FVec Ideal S8x4096x512 .bf16) (WO : FVec Ideal S2x1024x1024 .f32) : FVec Ideal S8x4096x1024 .f32 :=
  addf X (Host.dotGeneral dot_S8x4096x1024_S1024x1024_S8x4096x1024_2_0_01_1_n_n none (concatenate S8x4096x1024 2 [⟨S8x4096x512, (transpose S8x4096x512 [0, 2, 1] (extf .f32 YA bitsLt_bf16_f32) transposes_S8x512x4096_S8x4096x512_0_2_1)⟩, ⟨S8x4096x512, (extf .f32 YB bitsLt_bf16_f32)⟩] concatenates_S8x4096x512_S8x4096x512_S8x4096x1024_d2) (shapeCast _ (extractStridedSlice S1x1024x1024 ![1, 0, 0] WO slices_S2x1024x1024_S1x1024x1024_1_0_0) shapeCasts_S1x1024x1024_S1024x1024))

/-- The normalised rows the feed-forward layer reads. -/
def NRM (Y : FVec Ideal S8x4096x1024 .f32) (G : FVec Ideal S2x1024 .f32) : FVec Ideal S8x4096x1024 .f32 :=
  mulf (mulf Y (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf Y Y) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1024 ![1, 0] G slices_S2x1024_S1x1024_1_0) shapeCasts_S1x1024_S1024)))

/-- The feed-forward layer of normalised rows, before its residual. -/
def FFN (H : FVec Ideal S8x4096x1024 .f32) (W1 : FVec Ideal S2x1024x4096 .f32) (W2 : FVec Ideal S2x4096x1024 .f32) :
    FVec Ideal S8x4096x1024 .f32 :=
  Host.dotGeneral dot_S8x4096x4096_S4096x1024_S8x4096x1024_2_0_01_1_n_n none (mulf (maximumf (Host.dotGeneral dot_S8x4096x1024_S1024x4096_S8x4096x4096_2_0_01_1_n_n none H (shapeCast _ (extractStridedSlice S1x1024x4096 ![1, 0, 0] W1 slices_S2x1024x4096_S1x1024x4096_1_0_0) shapeCasts_S1x1024x4096_S1024x4096)) (broadcastInDim S8x4096x4096 ![] bcast_S_S8x4096x4096 (constant S_ .f32 0x00000000#32))) (maximumf (Host.dotGeneral dot_S8x4096x1024_S1024x4096_S8x4096x4096_2_0_01_1_n_n none H (shapeCast _ (extractStridedSlice S1x1024x4096 ![1, 0, 0] W1 slices_S2x1024x4096_S1x1024x4096_1_0_0) shapeCasts_S1x1024x4096_S1024x4096)) (broadcastInDim S8x4096x4096 ![] bcast_S_S8x4096x4096 (constant S_ .f32 0x00000000#32)))) (shapeCast _ (extractStridedSlice S1x4096x1024 ![1, 0, 0] W2 slices_S2x4096x1024_S1x4096x1024_1_0_0) shapeCasts_S1x4096x1024_S4096x1024)

/-- The reference's term is these three put together. -/
theorem res_eq (m : (ℓ : Loc nD τ sig) → Buf (Elt Ideal) ℓ) (c : Dev nD) (X : FVec Ideal S8x4096x1024 .f32) (YA : FVec Ideal S8x512x4096 .bf16) (YB : FVec Ideal S8x4096x512 .bf16) (WO : FVec Ideal S2x1024x1024 .f32) (G : FVec Ideal S2x1024 .f32)
    (W1 : FVec Ideal S2x1024x4096 .f32) (W2 : FVec Ideal S2x4096x1024 .f32)
    (h0 : m ((c.tc : Thread nD τ).loc main_arg0) = X) (h1 : m ((c.tc : Thread nD τ).loc main_arg1) = YA)
    (h2 : m ((c.tc : Thread nD τ).loc main_arg2) = YB) (h3 : m ((c.tc : Thread nD τ).loc main_arg3) = WO)
    (h4 : m ((c.tc : Thread nD τ).loc main_arg4) = G) (h5 : m ((c.tc : Thread nD τ).loc main_arg5) = W1)
    (h6 : m ((c.tc : Thread nD τ).loc main_arg6) = W2) :
    res_main_v31 m c = (addf (MID X YA YB WO) (FFN (NRM (MID X YA YB WO) G) W1 W2) : FVec Ideal S8x4096x1024 .f32) := by
  subst h0 h1 h2 h3 h4 h5 h6; rfl

/-- The residual stream after the output projection, at an index. -/
theorem mid_at (X : FVec Ideal S8x4096x1024 .f32) (YA : FVec Ideal S8x512x4096 .bf16) (YB : FVec Ideal S8x4096x512 .bf16) (WO : FVec Ideal S2x1024x1024 .f32) (b : Fin 8) (s : Fin 4096) (d : Fin 1024) : MID X YA YB WO (ix3 b s d)
    = X (ix3 b s d) + ((∑ k : Fin 512, YA (ix3 b k s) * WO (ix3 1 ⟨k.val, by omega⟩ d))
      + ∑ k : Fin 512, YB (ix3 b s k) * WO (ix3 1 ⟨512 + k.val, by omega⟩ d)) := by
  pointwise [MID]

/-- The normalised row at an index. -/
theorem nrm_at (Y : FVec Ideal S8x4096x1024 .f32) (G : FVec Ideal S2x1024 .f32) (b : Fin 8) (s : Fin 4096) (d : Fin 1024) :
    NRM Y G (ix3 b s d) = Y (ix3 b s d) * Ideal.rsqrt (Ideal.div (∑ k : Fin 1024, Y (ix3 b s k) * Y (ix3 b s k))
      (Ideal.ofBits .f32 0x44800000#32) + Ideal.ofBits .f32 0x358637BD#32) * G (ix2 1 d) := by
  pointwise [NRM]

/-- The feed-forward sum at an index. -/
theorem ffn_at (H : FVec Ideal S8x4096x1024 .f32) (W1 : FVec Ideal S2x1024x4096 .f32) (W2 : FVec Ideal S2x4096x1024 .f32)
    (b : Fin 8) (s : Fin 4096) (d : Fin 1024) : FFN H W1 W2 (ix3 b s d)
    = ∑ f : Fin 4096, max (∑ k : Fin 1024, H (ix3 b s k) * W1 (ix3 1 k f)) 0 * max (∑ k : Fin 1024, H (ix3 b s k) * W1 (ix3 1 k f)) 0
        * W2 (ix3 1 f d) := by
  pointwise [FFN]

end Cert.MlpRef1Ideal.Value

namespace Cert.Mlp1Ideal.Value
open Cert.Mlp1Ideal Cert.Mlp1Ideal.Gen

/-- The stored residual row at an index. -/
theorem pay2_at (x : FVec Ideal S1x1024x1024 .f32) (ya : FVec Ideal S1x512x1024 .bf16) (yb : FVec Ideal S1x1024x512 .bf16)
    (wa wb : FVec Ideal S1x512x1024 .bf16) (r d : Fin 1024) : k0_pay2 (F := Ideal) ya wa x yb wb (ix2 r d)
    = x (ix3 0 r d) + ((∑ k : Fin 512, ya (ix3 0 k r) * wa (ix3 0 k d)) + ∑ k : Fin 512, yb (ix3 0 r k) * wb (ix3 0 k d)) := by
  pointwise [k0_pay2]
  exact add_assoc _ _ _

/-- The normalised row the chunks read, at an index. -/
theorem pay3_at (x : FVec Ideal S1x1024x1024 .f32) (ya : FVec Ideal S1x512x1024 .bf16) (yb : FVec Ideal S1x1024x512 .bf16)
    (wa wb : FVec Ideal S1x512x1024 .bf16) (g : FVec Ideal S1x1x1024 .f32) (r d : Fin 1024) :
    k0_pay3 (F := Ideal) ya wa x yb wb g (ix2 r d)
    = k0_pay2 (F := Ideal) ya wa x yb wb (ix2 r d) * Ideal.rsqrt (Ideal.div (∑ k : Fin 1024, k0_pay2 (F := Ideal) ya wa x yb wb (ix2 r k) * k0_pay2 (F := Ideal) ya wa x yb wb (ix2 r k))
      (Ideal.ofBits .f32 0x44800000#32) + Ideal.ofBits .f32 0x358637BD#32) * g (ix3 0 0 d) := by
  pointwise [k0_pay3]

/-- One chunk of the feed-forward sum. -/
def chunk (h : FVec Ideal S1024x1024 .bf16) (w1 w2 : FVec Ideal S1x1024x1024 .bf16) (r d : Fin 1024) : EReal :=
  ∑ f : Fin 1024, max (∑ k : Fin 1024, h (ix2 r k) * w1 (ix3 0 k f)) 0 * max (∑ k : Fin 1024, h (ix2 r k) * w1 (ix3 0 k f)) 0
    * w2 (ix3 0 f d)

/-- Each of the four accumulations adds its chunk. -/
theorem pays_at (h : FVec Ideal S1024x1024 .bf16) (o : FVec Ideal S1x1024x1024 .f32) (w1 w2 : FVec Ideal S1x1024x1024 .bf16)
    (r d : Fin 1024) :
    k0_pay5 (F := Ideal) h w1 o w2 (ix3 0 r d) = o (ix3 0 r d) + chunk h w1 w2 r d
    ∧ k0_pay7 (F := Ideal) (k0_pay6 h w1 o w2) (ix3 0 r d) = o (ix3 0 r d) + chunk h w1 w2 r d
    ∧ k0_pay8 (F := Ideal) h w1 o w2 (ix3 0 r d) = o (ix3 0 r d) + chunk h w1 w2 r d
    ∧ k0_pay1 (F := Ideal) (k0_pay9 o) (k0_pay10 h w1) (k0_pay11 w2) (constant S1024x1024 .f32 0x00000000#32) (ix3 0 r d)
      = o (ix3 0 r d) + chunk h w1 w2 r d := by
  refine ⟨?_, ?_, ?_, ?_⟩ <;> pointwise [k0_pay5, k0_pay6, k0_pay7, k0_pay8, k0_pay9, k0_pay10, k0_pay11, k0_pay1, chunk]

end Cert.Mlp1Ideal.Value
end
-- ==== Proof.MlpValue1.lean ====
/- The feed-forward call of layer 1: its result array is the reference's term of its arguments. -/
module

public import proofs.«01_k».proof.Proof.Gen.Mlp1Ideal.Value
public import proofs.«01_k».proof.Proof.MlpPure1
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.Mlp1Ideal.Value
open Cert.Mlp1Ideal Cert.Mlp1Ideal.Gen
variable (m : (ℓ : Loc nD τ sig) → Buf (Elt Ideal) ℓ)

/-- Which block of its array each window stages at a grid point. -/
theorem idx : ∀ t : Fin cfg0.N, win0_0.index t = ![(grid0.coords t 0).val, (grid0.coords t 1).val, 0]
    ∧ win0_1.index t = ![(grid0.coords t 0).val, 0, (grid0.coords t 1).val]
    ∧ win0_2.index t = ![(grid0.coords t 0).val, (grid0.coords t 1).val, 0]
    ∧ win0_3.index t = ![1, 0, 0] ∧ win0_4.index t = ![1, 0, 0] ∧ win0_5.index t = ![1, 0, 0] ∧ win0_6.index t = ![1, 0, 0]
    ∧ win0_7.index t = ![(grid0.coords t 0).val, (grid0.coords t 1).val, 0] :=
  (by decide +kernel : ∀ t : Fin grid0.N, _)

/-- The statement as one term over the call's arguments. -/
abbrev REF (X : FVec Ideal S8x4096x1024 .f32) (YA : FVec Ideal S8x512x4096 .bf16) (YB : FVec Ideal S8x4096x512 .bf16)
    (WO : FVec Ideal S2x1024x1024 .f32) (G : FVec Ideal S2x1024 .f32)
    (W1 : FVec Ideal S2x1024x4096 .f32) (W2 : FVec Ideal S2x4096x1024 .f32) : FVec Ideal S8x4096x1024 .f32 :=
  addf (Cert.MlpRef1Ideal.Value.MID X YA YB WO)
    (Cert.MlpRef1Ideal.Value.FFN (Cert.MlpRef1Ideal.Value.NRM (Cert.MlpRef1Ideal.Value.MID X YA YB WO) G) W1 W2)

/-- One grid point: what the call stores at a row, from blocks that hold the arrays' rows `s r` of batch `b` and the
    whole weights, is the reference's row. -/
theorem core (X : FVec Ideal S8x4096x1024 .f32) (YA : FVec Ideal S8x512x4096 .bf16) (YB : FVec Ideal S8x4096x512 .bf16)
    (WO : FVec Ideal S2x1024x1024 .f32) (G : FVec Ideal S2x1024 .f32)
    (W1 : FVec Ideal S2x1024x4096 .f32) (W2 : FVec Ideal S2x4096x1024 .f32)
    (x : FVec Ideal S1x1024x1024 .f32) (ya : FVec Ideal S1x512x1024 .bf16) (yb : FVec Ideal S1x1024x512 .bf16)
    (wa wb : FVec Ideal S1x512x1024 .bf16) (g : FVec Ideal S1x1x1024 .f32)
    (u0 u1 u2 u3 v0 v1 v2 v3 : FVec Ideal S1x1024x1024 .bf16) (b : Fin 8) (s : Fin 1024 → Fin 4096) (r d : Fin 1024)
    (hx : ∀ r d, x (ix3 0 r d) = X (ix3 b (s r) d)) (hya : ∀ (r : Fin 1024) (k : Fin 512), ya (ix3 0 k r) = YA (ix3 b k (s r)))
    (hyb : ∀ r k, yb (ix3 0 r k) = YB (ix3 b (s r) k))
    (hwa : ∀ (k : Fin 512) d, wa (ix3 0 k d) = WO (ix3 1 ⟨k.val, by omega⟩ d))
    (hwb : ∀ (k : Fin 512) d, wb (ix3 0 k d) = WO (ix3 1 ⟨512 + k.val, by omega⟩ d))
    (hg : ∀ d, g (ix3 0 0 d) = G (ix2 1 d))
    (hu0 : ∀ k (f : Fin 1024), u0 (ix3 0 k f) = W1 (ix3 1 k ⟨0 * 1024 + f.val, by omega⟩))
    (hu1 : ∀ k (f : Fin 1024), u1 (ix3 0 k f) = W1 (ix3 1 k ⟨1 * 1024 + f.val, by omega⟩))
    (hu2 : ∀ k (f : Fin 1024), u2 (ix3 0 k f) = W1 (ix3 1 k ⟨2 * 1024 + f.val, by omega⟩))
    (hu3 : ∀ k (f : Fin 1024), u3 (ix3 0 k f) = W1 (ix3 1 k ⟨3 * 1024 + f.val, by omega⟩))
    (hv0 : ∀ (f : Fin 1024) d, v0 (ix3 0 f d) = W2 (ix3 1 ⟨0 * 1024 + f.val, by omega⟩ d))
    (hv1 : ∀ (f : Fin 1024) d, v1 (ix3 0 f d) = W2 (ix3 1 ⟨1 * 1024 + f.val, by omega⟩ d))
    (hv2 : ∀ (f : Fin 1024) d, v2 (ix3 0 f d) = W2 (ix3 1 ⟨2 * 1024 + f.val, by omega⟩ d))
    (hv3 : ∀ (f : Fin 1024) d, v3 (ix3 0 f d) = W2 (ix3 1 ⟨3 * 1024 + f.val, by omega⟩ d)) :
    k0_pay1 (F := Ideal) (k0_pay9 (F := Ideal) (k0_pay8 (F := Ideal) (k0_pay3 (F := Ideal) ya wa x yb wb g) u2
        (k0_pay7 (F := Ideal) (k0_pay6 (F := Ideal) (k0_pay3 (F := Ideal) ya wa x yb wb g) u1 (k0_pay5 (F := Ideal) (k0_pay3 (F := Ideal) ya wa x yb wb g) u0 (k0_pay4 (F := Ideal) ya wa x yb wb) v0) v1)) v2))
      (k0_pay10 (F := Ideal) (k0_pay3 (F := Ideal) ya wa x yb wb g) u3) (k0_pay11 (F := Ideal) v3) (constant S1024x1024 .f32 0x00000000#32) (ix3 0 r d)
    = REF X YA YB WO G W1 W2 (ix3 b (s r) d) := by
  have hmid : ∀ r d, k0_pay2 (F := Ideal) ya wa x yb wb (ix2 r d) = Cert.MlpRef1Ideal.Value.MID X YA YB WO (ix3 b (s r) d) := fun r d => by
    rw [pay2_at, Cert.MlpRef1Ideal.Value.mid_at]; simp only [hx, hya, hyb, hwa, hwb]
  have hnrm : ∀ r d, k0_pay3 (F := Ideal) ya wa x yb wb g (ix2 r d) = Cert.MlpRef1Ideal.Value.NRM (Cert.MlpRef1Ideal.Value.MID X YA YB WO) G (ix3 b (s r) d) := fun r d => by
    rw [pay3_at, Cert.MlpRef1Ideal.Value.nrm_at]; simp only [hmid, hg]
  have h4 : k0_pay4 (F := Ideal) ya wa x yb wb (ix3 0 r d) = Cert.MlpRef1Ideal.Value.MID X YA YB WO (ix3 b (s r) d) := by
    rw [← hmid]; pointwise [k0_pay4]
  rw [(pays_at _ _ _ _ r d).2.2.2, (pays_at _ _ _ _ r d).2.2.1, (pays_at _ _ _ _ r d).2.1, (pays_at _ _ _ _ r d).1, h4]
  show _ = Cert.MlpRef1Ideal.Value.MID X YA YB WO (ix3 b (s r) d) + Cert.MlpRef1Ideal.Value.FFN (Cert.MlpRef1Ideal.Value.NRM (Cert.MlpRef1Ideal.Value.MID X YA YB WO) G) W1 W2 (ix3 b (s r) d)
  rw [Cert.MlpRef1Ideal.Value.ffn_at, Fin.sum_univ_tiles 4 1024 rfl, Fin.sum_univ_four]
  simp only [chunk, hnrm, hu0, hu1, hu2, hu3, hv0, hv1, hv2, hv3, add_assoc]
  rfl

/-- The result array after the run. -/
theorem final (c : Dev nD) : (dats m 0 c).arrAt 7 (cfgs 0).N
    = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 7 _ (by decide +kernel) fun t _ y => ?_
  blk_simp
  rw [after0_7]; unfold outsAt0 out0_A_7; frame_out
  obtain ⟨r, d, rfl⟩ : ∃ (r d : Fin 1024), y = ix3 0 r d := ⟨y 1, y 2, by blk_ext [idx t]⟩
  have hc0 : (grid0.coords t 0).val < 8 := (grid0.coords t 0).isLt
  have hc1 : (grid0.coords t 1).val < 4 := (grid0.coords t 1).isLt
  refine (core (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) _ _ _ _ _ _ _ _ _ _ _ _ _ _ ⟨(grid0.coords t 0).val, hc0⟩
      (fun r => ⟨(grid0.coords t 1).val * 1024 + r.val, by omega⟩) r d
      ?_ ?_ ?_ ?_ ?_ ?_ ?_ ?_ ?_ ?_ ?_ ?_ ?_ ?_).trans ?_
  case refine_15 => exact congrArg _ (by blk_ext [idx t])
  all_goals intros; pointwise; blk_point [iblk, V, idx t]

end Cert.Mlp1Ideal.Value
end
-- ==== Proof.MlpClaims.lean ====
/- The claims about the feed-forward calls of both layers. -/
module

public import proofs.«01_k».proof.Defs
public import proofs.«01_k».proof.Proof.Gen.Mlp0.Frame
public import proofs.«01_k».proof.Proof.Gen.Mlp1.Frame
public import proofs.«01_k».proof.Proof.MlpValue0
public import proofs.«01_k».proof.Proof.MlpValue1
public import Idealize.ShloMosaic.Lib.Claim

@[expose] public section

set_option maxRecDepth 16384
noncomputable section
namespace Cert.Proof
open Idealize.ShloMosaic Idealize.ShloMosaic.TcCoe Idealize.SL.Sem

/-- The plain statement of layer 0 leaves its arguments as they were and declares no semaphore. -/
theorem frame_mlpRef0 : Cert.quiescent_MlpRef0Ideal := fun m ρ _ =>
  (θ_run Cert.MlpRef0Ideal.defs _ _).mono (fun r h => ⟨fun c => (h c).2, sem_eq_zero_of_no_sems (by decide) r.2⟩)
    (Cert.MlpRef0Ideal.Value.run (F := Ideal) m ρ)

/-- Over the reals the call of layer 0 computes the plain statement. -/
theorem algebraic_mlp0 : Cert.algebraic_Mlp0Ideal_MlpRef0Ideal := by
  pair_intro
  · run_from Cert.Mlp0Ideal.Gen.run_main m g
  · run_from Cert.MlpRef0Ideal.Value.run m' g'
    obtain ⟨h0, h1, h2, h3, h4, h5, h6⟩ := hagree c
    exact (Cert.MlpRef0Ideal.Value.res_eq m' c _ _ _ _ _ _ _ h0 h1 h2 h3 h4 h5 h6).trans (Cert.Mlp0Ideal.Value.final m c).symm

/-- The plain statement of layer 1 leaves its arguments as they were and declares no semaphore. -/
theorem frame_mlpRef1 : Cert.quiescent_MlpRef1Ideal := fun m ρ _ =>
  (θ_run Cert.MlpRef1Ideal.defs _ _).mono (fun r h => ⟨fun c => (h c).2, sem_eq_zero_of_no_sems (by decide) r.2⟩)
    (Cert.MlpRef1Ideal.Value.run (F := Ideal) m ρ)

/-- Over the reals the call of layer 1 computes the plain statement. -/
theorem algebraic_mlp1 : Cert.algebraic_Mlp1Ideal_MlpRef1Ideal := by
  pair_intro
  · run_from Cert.Mlp1Ideal.Gen.run_main m g
  · run_from Cert.MlpRef1Ideal.Value.run m' g'
    obtain ⟨h0, h1, h2, h3, h4, h5, h6⟩ := hagree c
    exact (Cert.MlpRef1Ideal.Value.res_eq m' c _ _ _ _ _ _ _ h0 h1 h2 h3 h4 h5 h6).trans (Cert.Mlp1Ideal.Value.final m c).symm

end Cert.Proof
end
-- ==== Proof.AttnSpec.lean ====
/- What one block of keys does to the attention's running state, head by head, in the kernel's own operations. -/
module

public import proofs.«01_k».proof.Proof.Gen.AttnIdeal.Frame
public import proofs.«01_k».proof.Proof.Gen.AttnIdeal.Skeleton
public import Idealize.ShloMosaic.Lib.Exec
public import Idealize.ShloMosaic.Lib.Tactic
public import Idealize.ShloMosaic.Lib.LoopRemainder
public import Idealize.ShloMosaic.Lib.Claim
public import Idealize.ShloMosaic.Lib.WholeRead
public import Idealize.ShloMosaic.Lib.Writes
public import Idealize.ShloMosaic.Lib.Tactic.Stretches
public import Idealize.ShloMosaic.Lib.Pointwise.Index

@[expose] public section

set_option maxRecDepth 16384

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The thread state the programs of this file run in. -/
abbrev MM (F : FTy → Type) [FloatOps F] [Named F] := MT nD τ sig Unit (Elt F) ℕ (UR sig nD τ) ℕ

/-- The entries of a rank-three array from the offsets on. -/
def slab {α : Type} {n0 n1 n2 : ℕ} [NeZero n0] [NeZero n1] [NeZero n2] {k0 k1 k2 : ℕ} (o0 o1 o2 : ℕ) (X : (⟨3, ![n0, n1, n2]⟩ : Shape).Idx → α) :
    (⟨3, ![k0, k1, k2]⟩ : Shape).Idx → α := fun x =>
  X (ix3 (Fin.ofNat n0 (o0 + (x 0 : Fin k0).val)) (Fin.ofNat n1 (o1 + (x 1 : Fin k1).val)) (Fin.ofNat n2 (o2 + (x 2 : Fin k2).val)))

/-- Eight arrays, one a head, as one. -/
def stk {α : Type} {n1 n2 : ℕ} (G : Fin 8 → (⟨3, ![1, n1, n2]⟩ : Shape).Idx → α) : (⟨3, ![8, n1, n2]⟩ : Shape).Idx → α := fun y =>
  G (y 0 : Fin 8) (ix3 (0 : Fin 1) (y 1 : Fin n1) (y 2 : Fin n2))

theorem idx_val {s : Shape} (off sz : Fin s.rank → ℕ) (inb) (x : (Rect.unit off sz inb).toLoadRect.shape.Idx) (a : Fin s.rank) :
    ((Rect.unit off sz inb).toLoadRect.idx x a).val = off a + (x a).val := by
  simp [Rect.unit, Rect.toLoadRect, LoadRect.idx]

theorem emb_val {s : Shape} (off sz : Fin s.rank → ℕ) (inb) (x : (Rect.unit off sz inb).shape.Idx) (a : Fin s.rank) :
    ((Rect.unit off sz inb).emb x a).val = off a + (x a).val := by
  simp [Rect.unit, Rect.emb]

/-- A load of a buffer held whole is the slab at its offsets. -/
theorem ld3 {n0 n1 n2 : ℕ} [NeZero n0] [NeZero n1] [NeZero n2] {k0 k1 k2 : ℕ} {e : EltTy} (r : Memref sig .tc .vmem ⟨3, ![n0, n1, n2]⟩ e) (hr : r.IsWhole)
    (X : (⟨3, ![n0, n1, n2]⟩ : Shape).Idx → Elt F e) (off : Fin 3 → ℕ) (inb : _) :
    View.readAt (Elt F) r.view (Rect.unit (s := ⟨3, ![n0, n1, n2]⟩) off (⟨3, ![k0, k1, k2]⟩ : Shape).size inb).toLoadRect (hr.unread X) = slab (off 0) (off 1) (off 2) X := by
  funext x
  refine (hr.readAt_unread X _ x).trans (congrArg X ?_)
  funext a; refine Fin.ext ?_
  have key : ∀ a, (((Rect.unit (s := ⟨3, ![n0, n1, n2]⟩) off (⟨3, ![k0, k1, k2]⟩ : Shape).size inb).toLoadRect.idx x a).val : ℕ) = (off a + (x a).val) % (![n0, n1, n2] a) := fun a => by
    rw [Nat.mod_eq_of_lt]
    · exact idx_val off _ inb x a
    · rw [← idx_val off _ inb x a]; exact ((Rect.unit (s := ⟨3, ![n0, n1, n2]⟩) off (⟨3, ![k0, k1, k2]⟩ : Shape).size inb).toLoadRect.idx x a).isLt
  match a with
  | ⟨0, _⟩ => exact key 0
  | ⟨1, _⟩ => exact key 1
  | ⟨2, _⟩ => exact key 2

theorem stk_emb {α : Type} {n1 n2 : ℕ} (G : Fin 8 → (⟨3, ![1, n1, n2]⟩ : Shape).Idx → α) (h : Fin 8) (inb : _)
    (x : (Rect.unit (s := ⟨3, ![8, n1, n2]⟩) ![h.val, 0, 0] (⟨3, ![1, n1, n2]⟩ : Shape).size inb).shape.Idx) :
    stk G ((Rect.unit (s := ⟨3, ![8, n1, n2]⟩) ![h.val, 0, 0] (⟨3, ![1, n1, n2]⟩ : Shape).size inb).emb x) = G h x := by
  have e := emb_val (s := ⟨3, ![8, n1, n2]⟩) ![h.val, 0, 0] (⟨3, ![1, n1, n2]⟩ : Shape).size inb x
  have x0 : (x 0).val = 0 := Nat.lt_one_iff.1 (x 0).isLt
  unfold stk
  congr 1
  · congr 1; exact Fin.ext ((e 0).trans (by rw [x0]; rfl))
  · funext a; refine Fin.ext ?_
    match a with
    | ⟨0, _⟩ => exact x0.symm
    | ⟨1, _⟩ => exact (e 1).trans (Nat.zero_add _)
    | ⟨2, _⟩ => exact (e 2).trans (Nat.zero_add _)

/-- The slab of one head is that head's array. -/
theorem slab_stk {α : Type} {n1 n2 : ℕ} [NeZero n1] [NeZero n2] (G : Fin 8 → (⟨3, ![1, n1, n2]⟩ : Shape).Idx → α) (h : Fin 8) :
    (slab h.val 0 0 (stk G) : (⟨3, ![1, n1, n2]⟩ : Shape).Idx → α) = G h := by
  funext x
  have x0 : (x 0 : Fin 1).val = 0 := Nat.lt_one_iff.1 (x 0).isLt
  have hh : (Fin.ofNat 8 (h.val + (x 0 : Fin 1).val)) = h := by refine Fin.ext ?_; rw [x0]; exact Nat.mod_eq_of_lt h.isLt
  have h1 : Fin.ofNat n1 (0 + (x 1 : Fin n1).val) = (x 1 : Fin n1) := by refine Fin.ext ?_; rw [Nat.zero_add]; exact Nat.mod_eq_of_lt (x 1).isLt
  have h2 : Fin.ofNat n2 (0 + (x 2 : Fin n2).val) = (x 2 : Fin n2) := by refine Fin.ext ?_; rw [Nat.zero_add]; exact Nat.mod_eq_of_lt (x 2).isLt
  show G (Fin.ofNat 8 (h.val + (x 0 : Fin 1).val)) (ix3 (0 : Fin 1) (Fin.ofNat n1 (0 + (x 1 : Fin n1).val)) (Fin.ofNat n2 (0 + (x 2 : Fin n2).val))) = G h x
  rw [hh, h1, h2]
  congr 1
  funext a; refine Fin.ext ?_
  match a with
  | ⟨0, _⟩ => exact x0.symm
  | ⟨1, _⟩ => rfl
  | ⟨2, _⟩ => rfl

theorem stk_mem {n1 n2 : ℕ} (y : (⟨3, ![8, n1, n2]⟩ : Shape).Idx) (h : ℕ) (inb : _) (hy : (y 0 : Fin 8).val = h) :
    y ∈ (Rect.unit (s := ⟨3, ![8, n1, n2]⟩) ![h, 0, 0] (⟨3, ![1, n1, n2]⟩ : Shape).size inb).set := by
  refine Rect.mem_set_unit.2 fun a => ?_
  match a with
  | ⟨0, _⟩ => exact ⟨hy.ge, hy.le.trans_lt (Nat.lt_succ_self h)⟩
  | ⟨1, _⟩ => exact ⟨Nat.zero_le _, (y 1).isLt.trans_le (Nat.zero_add _).ge⟩
  | ⟨2, _⟩ => exact ⟨Nat.zero_le _, (y 2).isLt.trans_le (Nat.zero_add _).ge⟩

/-- Eight stores, one a head, leave the eight arrays. -/
theorem stack8 {n1 n2 : ℕ} {e : EltTy} (v : View sig .tc .vmem (⟨3, ![8, n1, n2]⟩ : Shape) e) (f : v.ty.Contents (Elt F)) (G : Fin 8 → (⟨3, ![1, n1, n2]⟩ : Shape).Idx → Elt F e)
    (T : List (View.Piece (Elt F) (⟨3, ![8, n1, n2]⟩ : Shape) e)) (P0 P1 P2 P3 P4 P5 P6 P7 : (⟨3, ![1, n1, n2]⟩ : Shape).Idx → Elt F e) (i0 i1 i2 i3 i4 i5 i6 i7 : _)
    (h0 : P0 = G 0) (h1 : P1 = G 1) (h2 : P2 = G 2) (h3 : P3 = G 3) (h4 : P4 = G 4) (h5 : P5 = G 5) (h6 : P6 = G 6) (h7 : P7 = G 7) :
    v.read (Elt F) (v.writes (Elt F) f (⟨Rect.unit ![7, 0, 0] (⟨3, ![1, n1, n2]⟩ : Shape).size i7, P7⟩ :: ⟨Rect.unit ![6, 0, 0] (⟨3, ![1, n1, n2]⟩ : Shape).size i6, P6⟩ ::
      ⟨Rect.unit ![5, 0, 0] (⟨3, ![1, n1, n2]⟩ : Shape).size i5, P5⟩ :: ⟨Rect.unit ![4, 0, 0] (⟨3, ![1, n1, n2]⟩ : Shape).size i4, P4⟩ ::
      ⟨Rect.unit ![3, 0, 0] (⟨3, ![1, n1, n2]⟩ : Shape).size i3, P3⟩ :: ⟨Rect.unit ![2, 0, 0] (⟨3, ![1, n1, n2]⟩ : Shape).size i2, P2⟩ ::
      ⟨Rect.unit ![1, 0, 0] (⟨3, ![1, n1, n2]⟩ : Shape).size i1, P1⟩ :: ⟨Rect.unit ![0, 0, 0] (⟨3, ![1, n1, n2]⟩ : Shape).size i0, P0⟩ :: T)) = stk G := by
  subst h0 h1 h2 h3 h4 h5 h6 h7
  funext y
  refine View.read_writes_apply_of_pieces v (v.writes (Elt F) f T) (stk G) [⟨Rect.unit ![7, 0, 0] (⟨3, ![1, n1, n2]⟩ : Shape).size i7, G 7⟩, ⟨Rect.unit ![6, 0, 0] (⟨3, ![1, n1, n2]⟩ : Shape).size i6, G 6⟩, ⟨Rect.unit ![5, 0, 0] (⟨3, ![1, n1, n2]⟩ : Shape).size i5, G 5⟩, ⟨Rect.unit ![4, 0, 0] (⟨3, ![1, n1, n2]⟩ : Shape).size i4, G 4⟩, ⟨Rect.unit ![3, 0, 0] (⟨3, ![1, n1, n2]⟩ : Shape).size i3, G 3⟩, ⟨Rect.unit ![2, 0, 0] (⟨3, ![1, n1, n2]⟩ : Shape).size i2, G 2⟩, ⟨Rect.unit ![1, 0, 0] (⟨3, ![1, n1, n2]⟩ : Shape).size i1, G 1⟩, ⟨Rect.unit ![0, 0, 0] (⟨3, ![1, n1, n2]⟩ : Shape).size i0, G 0⟩] ?_ y ?_
  · simp only [List.forall_mem_cons, List.not_mem_nil, false_imp_iff, implies_true, and_true]
    exact ⟨fun x => (stk_emb G 7 i7 x).symm, fun x => (stk_emb G 6 i6 x).symm, fun x => (stk_emb G 5 i5 x).symm, fun x => (stk_emb G 4 i4 x).symm,
      fun x => (stk_emb G 3 i3 x).symm, fun x => (stk_emb G 2 i2 x).symm, fun x => (stk_emb G 1 i1 x).symm, fun x => (stk_emb G 0 i0 x).symm⟩
  · simp only [List.exists_mem_cons_iff, List.not_mem_nil, false_and, exists_false, or_false]
    have hy : (y 0 : Fin 8).val < 8 := (y 0 : Fin 8).isLt
    obtain h | h | h | h | h | h | h | h : (y 0 : Fin 8).val = 7 ∨ (y 0 : Fin 8).val = 6 ∨ (y 0 : Fin 8).val = 5 ∨ (y 0 : Fin 8).val = 4 ∨ (y 0 : Fin 8).val = 3 ∨ (y 0 : Fin 8).val = 2 ∨ (y 0 : Fin 8).val = 1 ∨ (y 0 : Fin 8).val = 0 := by omega
    all_goals simp only [stk_mem y _ _ h, true_or, or_true]

/-- A buffer held whole at contents that read `X` is held at `X`. -/
theorem to_unread (c : Dev nD) {s : Shape} {e : EltTy} {r : Memref sig .tc .vmem s e} (hr : r.IsWhole) {f : r.view.ty.Contents (Elt F)} {X : s.Idx → Elt F e} (h : r.view.read (Elt F) f = X) :
    (r.view.loc (c : Thread nD τ) ↦[r.view.set]{fullShare} f : sProp (MM F)) ⊢ (r.view.loc (c : Thread nD τ) ↦[r.view.set]{fullShare} hr.unread X) := by
  rw [← hr.eq_unread h]

variable (W : Fin 8 → FVec F S256x256 .bf16) (ki qi : IVec S256x256 32)

/-- One head's accumulator after a block: the old one rescaled and the block's weighted values added, the last rows the weights' sum. -/
def stepU (l : Vec F S1x256x256 .bf16) (m : Vec F S1x1x256 .f32) (v : Vec F S1x64x256 .bf16) (a : Vec F S1x80x256 .f32) : Vec F S1x80x256 .f32 :=
  k0_pay17 (k0_pay590 (F := F)) (k0_pay71 l) (k0_pay72 m) (k0_pay73 l m) (truncf .bf16 (k0_pay73 l m) bitsLt_bf16_f32) v a

/-- The same of the block on the diagonal, keys after a query masked. -/
def stepM (l : Vec F S1x256x256 .bf16) (m : Vec F S1x1x256 .f32) (v : Vec F S1x64x256 .bf16) (a : Vec F S1x80x256 .f32) : Vec F S1x80x256 .f32 :=
  k0_pay17 (k0_pay590 (F := F)) (k0_pay11 ki qi l) (k0_pay12 m) (k0_pay13 ki qi l m) (k0_pay15 ki qi l m) v a

/-- Head `h`'s logits of block `j` of the keys. -/
def lgH (K : Vec F S1x4096x1024 .bf16) (j : ℕ) (h : Fin 8) : Vec F S1x256x256 .bf16 := k0_pay3 (W h) (slab 0 (256 * j) (256 * (h.val / 2)) K)
/-- The logits of block `j`. -/
def lgS (K : Vec F S1x4096x1024 .bf16) (j : ℕ) : Vec F S8x256x256 .bf16 := stk (lgH W K j)

/-- The maxima after a block, -/
def mU (S : Vec F S8x256x256 .bf16) (M : Vec F S8x1x256 .f32) : Vec F S8x1x256 .f32 := stk fun h => k0_pay74 (slab h.val 0 0 S) (slab h.val 0 0 M)
/-- after the block on the diagonal; -/
def mM (S : Vec F S8x256x256 .bf16) (M : Vec F S8x1x256 .f32) : Vec F S8x1x256 .f32 := stk fun h => k0_pay14 ki qi (slab h.val 0 0 S) (slab h.val 0 0 M)
/-- the accumulators after block `j`, -/
def aU (S : Vec F S8x256x256 .bf16) (M : Vec F S8x1x256 .f32) (V : Vec F S1x512x4096 .bf16) (j : ℕ) (A : Vec F S8x80x256 .f32) : Vec F S8x80x256 .f32 :=
  stk fun h => stepU (slab h.val 0 0 S) (slab h.val 0 0 M) (slab 0 (64 * h.val) (256 * j) V) (slab h.val 0 0 A)
/-- after the block on the diagonal. -/
def aM (S : Vec F S8x256x256 .bf16) (M : Vec F S8x1x256 .f32) (V : Vec F S1x512x4096 .bf16) (j : ℕ) (A : Vec F S8x80x256 .f32) : Vec F S8x80x256 .f32 :=
  stk fun h => stepM ki qi (slab h.val 0 0 S) (slab h.val 0 0 M) (slab 0 (64 * h.val) (256 * j) V) (slab h.val 0 0 A)

end Cert.AttnIdeal.Fox

end
-- ==== Proof.AttnOffs.lean ====
/- Where the kernel's loads of keys and values start. -/
module

public import proofs.«01_k».proof.Proof.AttnSpec

@[expose] public section

set_option maxRecDepth 16384

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem off25a : ∀ (i : grid0.Coords) (k : Fin (k0_t1_loop i).trips), k0_off25 i k 1#32 = ![0, 256 * (2 * k.val + 2), 0] := by decide +kernel

theorem off25b : ∀ (i : grid0.Coords) (k : Fin (k0_t1_loop i).trips), k0_off25 i k 2#32 = ![0, 256 * (2 * k.val + 3), 0] := by decide +kernel

theorem off28a : ∀ (i : grid0.Coords) (k : Fin (k0_t1_loop i).trips), k0_off28 i k 1#32 = ![0, 256 * (2 * k.val + 2), 256] := by decide +kernel

theorem off28b : ∀ (i : grid0.Coords) (k : Fin (k0_t1_loop i).trips), k0_off28 i k 2#32 = ![0, 256 * (2 * k.val + 3), 256] := by decide +kernel

theorem off31a : ∀ (i : grid0.Coords) (k : Fin (k0_t1_loop i).trips), k0_off31 i k 1#32 = ![0, 256 * (2 * k.val + 2), 512] := by decide +kernel

theorem off31b : ∀ (i : grid0.Coords) (k : Fin (k0_t1_loop i).trips), k0_off31 i k 2#32 = ![0, 256 * (2 * k.val + 3), 512] := by decide +kernel

theorem off34a : ∀ (i : grid0.Coords) (k : Fin (k0_t1_loop i).trips), k0_off34 i k 1#32 = ![0, 256 * (2 * k.val + 2), 768] := by decide +kernel

theorem off34b : ∀ (i : grid0.Coords) (k : Fin (k0_t1_loop i).trips), k0_off34 i k 2#32 = ![0, 256 * (2 * k.val + 3), 768] := by decide +kernel

theorem off26 : ∀ (i : grid0.Coords) (k : Fin (k0_t1_loop i).trips), k0_off26 i k = ![0, 0, 256 * (2 * k.val + 1)] := by decide +kernel

theorem off27 : ∀ (i : grid0.Coords) (k : Fin (k0_t1_loop i).trips), k0_off27 i k = ![0, 64, 256 * (2 * k.val + 1)] := by decide +kernel

theorem off29 : ∀ (i : grid0.Coords) (k : Fin (k0_t1_loop i).trips), k0_off29 i k = ![0, 128, 256 * (2 * k.val + 1)] := by decide +kernel

theorem off30 : ∀ (i : grid0.Coords) (k : Fin (k0_t1_loop i).trips), k0_off30 i k = ![0, 192, 256 * (2 * k.val + 1)] := by decide +kernel

theorem off32 : ∀ (i : grid0.Coords) (k : Fin (k0_t1_loop i).trips), k0_off32 i k = ![0, 256, 256 * (2 * k.val + 1)] := by decide +kernel

theorem off33 : ∀ (i : grid0.Coords) (k : Fin (k0_t1_loop i).trips), k0_off33 i k = ![0, 320, 256 * (2 * k.val + 1)] := by decide +kernel

theorem off35 : ∀ (i : grid0.Coords) (k : Fin (k0_t1_loop i).trips), k0_off35 i k = ![0, 384, 256 * (2 * k.val + 1)] := by decide +kernel

theorem off36 : ∀ (i : grid0.Coords) (k : Fin (k0_t1_loop i).trips), k0_off36 i k = ![0, 448, 256 * (2 * k.val + 1)] := by decide +kernel

theorem off37 : ∀ (i : grid0.Coords) (k : Fin (k0_t1_loop i).trips), k0_off37 i k = ![0, 0, 256 * (2 * k.val + 2)] := by decide +kernel

theorem off38 : ∀ (i : grid0.Coords) (k : Fin (k0_t1_loop i).trips), k0_off38 i k = ![0, 64, 256 * (2 * k.val + 2)] := by decide +kernel

theorem off39 : ∀ (i : grid0.Coords) (k : Fin (k0_t1_loop i).trips), k0_off39 i k = ![0, 128, 256 * (2 * k.val + 2)] := by decide +kernel

theorem off40 : ∀ (i : grid0.Coords) (k : Fin (k0_t1_loop i).trips), k0_off40 i k = ![0, 192, 256 * (2 * k.val + 2)] := by decide +kernel

theorem off41 : ∀ (i : grid0.Coords) (k : Fin (k0_t1_loop i).trips), k0_off41 i k = ![0, 256, 256 * (2 * k.val + 2)] := by decide +kernel

theorem off42 : ∀ (i : grid0.Coords) (k : Fin (k0_t1_loop i).trips), k0_off42 i k = ![0, 320, 256 * (2 * k.val + 2)] := by decide +kernel

theorem off43 : ∀ (i : grid0.Coords) (k : Fin (k0_t1_loop i).trips), k0_off43 i k = ![0, 384, 256 * (2 * k.val + 2)] := by decide +kernel

theorem off44 : ∀ (i : grid0.Coords) (k : Fin (k0_t1_loop i).trips), k0_off44 i k = ![0, 448, 256 * (2 * k.val + 2)] := by decide +kernel

theorem off66 : ∀ i : grid0.Coords, k0_off66 i = ![0, 0, 256 * (i 2).val] := by decide +kernel

theorem off67 : ∀ i : grid0.Coords, k0_off67 i = ![0, 64, 256 * (i 2).val] := by decide +kernel

theorem off69 : ∀ i : grid0.Coords, k0_off69 i = ![0, 128, 256 * (i 2).val] := by decide +kernel

theorem off70 : ∀ i : grid0.Coords, k0_off70 i = ![0, 192, 256 * (i 2).val] := by decide +kernel

theorem off72 : ∀ i : grid0.Coords, k0_off72 i = ![0, 256, 256 * (i 2).val] := by decide +kernel

theorem off73 : ∀ i : grid0.Coords, k0_off73 i = ![0, 320, 256 * (i 2).val] := by decide +kernel

theorem off75 : ∀ i : grid0.Coords, k0_off75 i = ![0, 384, 256 * (i 2).val] := by decide +kernel

theorem off76 : ∀ i : grid0.Coords, k0_off76 i = ![0, 448, 256 * (i 2).val] := by decide +kernel

theorem off77 : ∀ i : grid0.Coords, k0_off77 i = ![0, 256 * (i 2).val, 0] := by decide +kernel

theorem off80 : ∀ i : grid0.Coords, k0_off80 i = ![0, 256 * (i 2).val, 256] := by decide +kernel

theorem off83 : ∀ i : grid0.Coords, k0_off83 i = ![0, 256 * (i 2).val, 512] := by decide +kernel

theorem off86 : ∀ i : grid0.Coords, k0_off86 i = ![0, 256 * (i 2).val, 768] := by decide +kernel

theorem off78 : ∀ i : grid0.Coords, k0_cond4 i = 1#1 → k0_off78 i = ![0, 0, 256 * ((i 2).val - 1)] := by decide +kernel

theorem off79 : ∀ i : grid0.Coords, k0_cond4 i = 1#1 → k0_off79 i = ![0, 64, 256 * ((i 2).val - 1)] := by decide +kernel

theorem off81 : ∀ i : grid0.Coords, k0_cond4 i = 1#1 → k0_off81 i = ![0, 128, 256 * ((i 2).val - 1)] := by decide +kernel

theorem off82 : ∀ i : grid0.Coords, k0_cond4 i = 1#1 → k0_off82 i = ![0, 192, 256 * ((i 2).val - 1)] := by decide +kernel

theorem off84 : ∀ i : grid0.Coords, k0_cond4 i = 1#1 → k0_off84 i = ![0, 256, 256 * ((i 2).val - 1)] := by decide +kernel

theorem off85 : ∀ i : grid0.Coords, k0_cond4 i = 1#1 → k0_off85 i = ![0, 320, 256 * ((i 2).val - 1)] := by decide +kernel

theorem off87 : ∀ i : grid0.Coords, k0_cond4 i = 1#1 → k0_off87 i = ![0, 384, 256 * ((i 2).val - 1)] := by decide +kernel

theorem off88 : ∀ i : grid0.Coords, k0_cond4 i = 1#1 → k0_off88 i = ![0, 448, 256 * ((i 2).val - 1)] := by decide +kernel

theorem off90 : ∀ i : grid0.Coords, k0_off90 i = ![0, 0, 256 * (i 2).val] := by decide +kernel

theorem off91 : ∀ i : grid0.Coords, k0_off91 i = ![0, 64, 256 * (i 2).val] := by decide +kernel

theorem off93 : ∀ i : grid0.Coords, k0_off93 i = ![0, 128, 256 * (i 2).val] := by decide +kernel

theorem off94 : ∀ i : grid0.Coords, k0_off94 i = ![0, 192, 256 * (i 2).val] := by decide +kernel

theorem off96 : ∀ i : grid0.Coords, k0_off96 i = ![0, 256, 256 * (i 2).val] := by decide +kernel

theorem off97 : ∀ i : grid0.Coords, k0_off97 i = ![0, 320, 256 * (i 2).val] := by decide +kernel

theorem off99 : ∀ i : grid0.Coords, k0_off99 i = ![0, 384, 256 * (i 2).val] := by decide +kernel

theorem off100 : ∀ i : grid0.Coords, k0_off100 i = ![0, 448, 256 * (i 2).val] := by decide +kernel

end Cert.AttnIdeal.Fox

end
-- ==== Proof.AttnA.lean ====
/- The first column of queries: its one block of keys, from logits made on the spot. -/
module

public import proofs.«01_k».proof.Proof.AttnOffs
public import Idealize.ShloMosaic.Lib.Pipeline.ReadBack

@[expose] public section

set_option maxRecDepth 16384

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The region's program. -/
def regA (i : grid0.Coords) (arg3 : Memref sig .tc .vmem S1x512x256 .bf16) (harg3 : arg3.IsWhole) (arg4 : Memref sig .tc .vmem S1x512x256 .bf16) (harg4 : arg4.IsWhole) (arg5 : Memref sig .tc .vmem S1x4096x1024 .bf16) (harg5 : arg5.IsWhole) (arg6 : Memref sig .tc .vmem S1x512x4096 .bf16) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x512x256 .bf16) (harg9 : arg9.IsWhole) (arg10 : Memref sig .tc .vmem S8x256x256 .bf16) (harg10 : arg10.IsWhole) (arg11 : Memref sig .tc .vmem S8x256x256 .bf16) (harg11 : arg11.IsWhole) (arg12 : Memref sig .tc .vmem S8x256x256 .bf16) (harg12 : arg12.IsWhole) (arg13 : Memref sig .tc .vmem S8x1x256 .f32) (harg13 : arg13.IsWhole) (arg14 : Memref sig .tc .vmem S8x80x256 .f32) (harg14 : arg14.IsWhole) (ki qi : IVec S256x256 32) (W W' : Fin 8 → FVec F S256x256 .bf16) (h1 : k0_cond1 i = 1#1) : Prog (TpuEff nD τ sig (Elt F) Λ₀ .tc) PUnit := do
  let ⟨v1063, v1069⟩ : Σ' (v1063 : FVec F S80x256 .f32), FVec F S80x256 .f32 ← k0_part13 i arg3 harg3 arg4 harg4 arg5 harg5 arg6 harg6 arg7 harg7 arg8 harg8 arg9 harg9 arg10 harg10 arg11 harg11 arg12 harg12 arg13 harg13 arg14 harg14 ki qi (W 0) (W 1) (W 2) (W 3) (W 4) (W 5) (W 6) (W 7) (W' 0) (W' 1) (W' 2) (W' 3) (W' 4) (W' 5) (W' 6) (W' 7) (k0_pay590 (F := F)) h1
  let v1071 : Vec F S1x80x256 .f32 ← Prog.lift (.load arg14 (Rect.unit (s := S8x80x256) ![7, 0, 0] S1x80x256.size inb_S8x80x256_S1x80x256_7_0_0).toLoadRect (View.loadsAt_vmem h_S1x80x256))
  Prog.lift (.store arg14 (Rect.unit (s := S8x80x256) ![7, 0, 0] S1x80x256.size inb_S8x80x256_S1x80x256_7_0_0) (k0_pay591 v1063 v1069) Finset.univ (View.stores_vmem_bits_univ h_S1x80x256 rfl) (.inl rfl))
  pure ⟨⟩

set_option maxHeartbeats 8000000 in
theorem regA_spec (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S1x4096x1024 .bf16) (harg5 : arg5.IsWhole) (arg6 : Memref sig .tc .vmem S1x512x4096 .bf16) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x512x256 .bf16) (harg9 : arg9.IsWhole) (arg10 : Memref sig .tc .vmem S8x256x256 .bf16) (harg10 : arg10.IsWhole) (arg11 : Memref sig .tc .vmem S8x256x256 .bf16) (harg11 : arg11.IsWhole) (arg12 : Memref sig .tc .vmem S8x256x256 .bf16) (harg12 : arg12.IsWhole) (arg13 : Memref sig .tc .vmem S8x1x256 .f32) (harg13 : arg13.IsWhole) (arg14 : Memref sig .tc .vmem S8x80x256 .f32) (harg14 : arg14.IsWhole) (ki qi : IVec S256x256 32) (W W' : Fin 8 → FVec F S256x256 .bf16) (h1 : k0_cond1 i = 1#1) (X5 : Vec F S1x4096x1024 .bf16) (X6 : Vec F S1x512x4096 .bf16) (X13 : Vec F S8x1x256 .f32) (X14 : Vec F S8x80x256 .f32) (E : Set ℕ) (K : PUnit → sProp (MM F)) :
    iprop((arg5.view.loc (c : Thread nD τ) ↦[arg5.view.set]{fullShare} harg5.unread X5) ∗ (arg6.view.loc (c : Thread nD τ) ↦[arg6.view.set]{fullShare} harg6.unread X6) ∗ (∃ f, arg12.view.loc (c : Thread nD τ) ↦[arg12.view.set]{fullShare} f) ∗ (arg13.view.loc (c : Thread nD τ) ↦[arg13.view.set]{fullShare} harg13.unread X13) ∗ (arg14.view.loc (c : Thread nD τ) ↦[arg14.view.set]{fullShare} harg14.unread X14)
      ∗ (iprop((arg5.view.loc (c : Thread nD τ) ↦[arg5.view.set]{fullShare} harg5.unread X5) ∗ (arg6.view.loc (c : Thread nD τ) ↦[arg6.view.set]{fullShare} harg6.unread X6) ∗ (arg12.view.loc (c : Thread nD τ) ↦[arg12.view.set]{fullShare} harg12.unread (lgS W' X5 0)) ∗ (arg13.view.loc (c : Thread nD τ) ↦[arg13.view.set]{fullShare} harg13.unread (stk fun h => k0_pay14 ki qi (lgH W X5 0 h) (slab h.val 0 0 X13))) ∗ (arg14.view.loc (c : Thread nD τ) ↦[arg14.view.set]{fullShare} harg14.unread (stk fun h => stepM ki qi (lgH W X5 0 h) (slab h.val 0 0 X13) (slab 0 (64 * h.val) (256 * 0) X6) (slab h.val 0 0 X14)))) -∗ K ⟨⟩))
    ⊢ wp frame (wpE (defs₀ (F := F)) Variants.none c none) E (regA i arg3 harg3 arg4 harg4 arg5 harg5 arg6 harg6 arg7 harg7 arg8 harg8 arg9 harg9 arg10 harg10 arg11 harg11 arg12 harg12 arg13 harg13 arg14 harg14 ki qi W W' h1) K := by
  unfold regA
  simp only [k0_part13_eq_skeleton]; unfold k0_part13_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  iintro ⟨H5, H6, ⟨%f12, H12⟩, H13, H14, Hk⟩
  sl_exec
  sl_step
  iapply Hk
  isplitl [H5]; · iexact H5
  isplitl [H6]; · iexact H6
  isplitl [H12]
  · refine (to_unread c harg12 (stack8 arg12.view _ (lgH W' X5 0) _ _ _ _ _ _ _ _ _ _ _ _ _ _ _ _ _ ?_ ?_ ?_ ?_ ?_ ?_ ?_ ?_))
    all_goals (sl_open_run; (try simp (disch := decide) only [↓View.readCov_cons_toLoadRect, ↓View.readCov_skip]); (repeat rw [ld3]); rfl)
  isplitl [H13]
  · refine (to_unread c harg13 (stack8 arg13.view _ (fun h => k0_pay14 ki qi (lgH W X5 0 h) (slab h.val 0 0 X13)) _ _ _ _ _ _ _ _ _ _ _ _ _ _ _ _ _ ?_ ?_ ?_ ?_ ?_ ?_ ?_ ?_))
    all_goals (sl_open_run; (try simp (disch := decide) only [↓View.readCov_cons_toLoadRect, ↓View.readCov_skip]); (repeat rw [ld3]); rfl)
  · refine (to_unread c harg14 (stack8 arg14.view _ (fun h => stepM ki qi (lgH W X5 0 h) (slab h.val 0 0 X13) (slab 0 (64 * h.val) (256 * 0) X6) (slab h.val 0 0 X14)) _ _ _ _ _ _ _ _ _ _ _ _ _ _ _ _ _ ?_ ?_ ?_ ?_ ?_ ?_ ?_ ?_))
    all_goals (sl_open_run; (try simp (disch := decide) only [↓View.readCov_cons_toLoadRect, ↓View.readCov_skip]); (repeat rw [ld3]); rfl)

end Cert.AttnIdeal.Fox

end
-- ==== Proof.AttnB.lean ====
/- The first block of keys where it is not also the last: its logits are held ready, and the next block's are left ready. -/
module

public import proofs.«01_k».proof.Proof.AttnOffs

@[expose] public section

set_option maxRecDepth 16384

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The region's program. -/
def regB (i : grid0.Coords) (arg3 : Memref sig .tc .vmem S1x512x256 .bf16) (harg3 : arg3.IsWhole) (arg4 : Memref sig .tc .vmem S1x512x256 .bf16) (harg4 : arg4.IsWhole) (arg5 : Memref sig .tc .vmem S1x4096x1024 .bf16) (harg5 : arg5.IsWhole) (arg6 : Memref sig .tc .vmem S1x512x4096 .bf16) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x512x256 .bf16) (harg9 : arg9.IsWhole) (arg10 : Memref sig .tc .vmem S8x256x256 .bf16) (harg10 : arg10.IsWhole) (arg11 : Memref sig .tc .vmem S8x256x256 .bf16) (harg11 : arg11.IsWhole) (arg12 : Memref sig .tc .vmem S8x256x256 .bf16) (harg12 : arg12.IsWhole) (arg13 : Memref sig .tc .vmem S8x1x256 .f32) (harg13 : arg13.IsWhole) (arg14 : Memref sig .tc .vmem S8x80x256 .f32) (harg14 : arg14.IsWhole) (W : Fin 8 → FVec F S256x256 .bf16) (h2 : k0_cond2 i = 1#1) : Prog (TpuEff nD τ sig (Elt F) Λ₀ .tc) PUnit := do
  let v969 : FVec F S1x80x256 .f32 ← k0_part23 i arg3 harg3 arg4 harg4 arg5 harg5 arg6 harg6 arg7 harg7 arg8 harg8 arg9 harg9 arg10 harg10 arg11 harg11 arg12 harg12 arg13 harg13 arg14 harg14 (W 0) (W 1) (W 2) (W 3) (W 4) (W 5) (W 6) (W 7) (k0_pay590 (F := F)) h2
  Prog.lift (.store arg14 (Rect.unit (s := S8x80x256) ![7, 0, 0] S1x80x256.size inb_S8x80x256_S1x80x256_7_0_0) v969 Finset.univ (View.stores_vmem_bits_univ h_S1x80x256 rfl) (.inl rfl))
  pure ⟨⟩

set_option maxHeartbeats 8000000 in
theorem regB_spec (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S1x4096x1024 .bf16) (harg5 : arg5.IsWhole) (arg6 : Memref sig .tc .vmem S1x512x4096 .bf16) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x512x256 .bf16) (harg9 : arg9.IsWhole) (arg10 : Memref sig .tc .vmem S8x256x256 .bf16) (harg10 : arg10.IsWhole) (arg11 : Memref sig .tc .vmem S8x256x256 .bf16) (harg11 : arg11.IsWhole) (arg12 : Memref sig .tc .vmem S8x256x256 .bf16) (harg12 : arg12.IsWhole) (arg13 : Memref sig .tc .vmem S8x1x256 .f32) (harg13 : arg13.IsWhole) (arg14 : Memref sig .tc .vmem S8x80x256 .f32) (harg14 : arg14.IsWhole) (W : Fin 8 → FVec F S256x256 .bf16) (h2 : k0_cond2 i = 1#1) (X5 : Vec F S1x4096x1024 .bf16) (X6 : Vec F S1x512x4096 .bf16) (X12 : Vec F S8x256x256 .bf16) (X13 : Vec F S8x1x256 .f32) (X14 : Vec F S8x80x256 .f32) (E : Set ℕ) (K : PUnit → sProp (MM F)) :
    iprop((arg5.view.loc (c : Thread nD τ) ↦[arg5.view.set]{fullShare} harg5.unread X5) ∗ (arg6.view.loc (c : Thread nD τ) ↦[arg6.view.set]{fullShare} harg6.unread X6) ∗ (∃ f, arg11.view.loc (c : Thread nD τ) ↦[arg11.view.set]{fullShare} f) ∗ (arg12.view.loc (c : Thread nD τ) ↦[arg12.view.set]{fullShare} harg12.unread X12) ∗ (arg13.view.loc (c : Thread nD τ) ↦[arg13.view.set]{fullShare} harg13.unread X13) ∗ (arg14.view.loc (c : Thread nD τ) ↦[arg14.view.set]{fullShare} harg14.unread X14)
      ∗ (iprop((arg5.view.loc (c : Thread nD τ) ↦[arg5.view.set]{fullShare} harg5.unread X5) ∗ (arg6.view.loc (c : Thread nD τ) ↦[arg6.view.set]{fullShare} harg6.unread X6) ∗ (arg11.view.loc (c : Thread nD τ) ↦[arg11.view.set]{fullShare} harg11.unread (lgS W X5 1)) ∗ (arg12.view.loc (c : Thread nD τ) ↦[arg12.view.set]{fullShare} harg12.unread X12) ∗ (arg13.view.loc (c : Thread nD τ) ↦[arg13.view.set]{fullShare} harg13.unread (mU X12 X13)) ∗ (arg14.view.loc (c : Thread nD τ) ↦[arg14.view.set]{fullShare} harg14.unread (aU X12 X13 X6 0 X14))) -∗ K ⟨⟩))
    ⊢ wp frame (wpE (defs₀ (F := F)) Variants.none c none) E (regB i arg3 harg3 arg4 harg4 arg5 harg5 arg6 harg6 arg7 harg7 arg8 harg8 arg9 harg9 arg10 harg10 arg11 harg11 arg12 harg12 arg13 harg13 arg14 harg14 W h2) K := by
  unfold regB
  simp only [k0_part23_eq_skeleton]; unfold k0_part23_skel
  simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  iintro ⟨H5, H6, ⟨%f11, H11⟩, H12, H13, H14, Hk⟩
  sl_exec
  sl_step
  iapply Hk
  isplitl [H5]; · iexact H5
  isplitl [H6]; · iexact H6
  isplitl [H11]
  · refine (to_unread c harg11 (stack8 arg11.view _ (lgH W X5 1) _ _ _ _ _ _ _ _ _ _ _ _ _ _ _ _ _ ?_ ?_ ?_ ?_ ?_ ?_ ?_ ?_))
    all_goals (sl_open_run; (repeat rw [ld3]); first | rfl | (simp only [slab_stk]; rfl))
  isplitl [H12]; · iexact H12
  isplitl [H13]
  · refine (to_unread c harg13 (stack8 arg13.view _ (fun h => k0_pay74 (slab h.val 0 0 X12) (slab h.val 0 0 X13)) _ _ _ _ _ _ _ _ _ _ _ _ _ _ _ _ _ ?_ ?_ ?_ ?_ ?_ ?_ ?_ ?_))
    all_goals (sl_open_run; (repeat rw [ld3]); first | rfl | (simp only [slab_stk]; rfl))
  · refine (to_unread c harg14 (stack8 arg14.view _ (fun h => stepU (slab h.val 0 0 X12) (slab h.val 0 0 X13) (slab 0 (64 * h.val) (256 * 0) X6) (slab h.val 0 0 X14)) _ _ _ _ _ _ _ _ _ _ _ _ _ _ _ _ _ ?_ ?_ ?_ ?_ ?_ ?_ ?_ ?_))
    all_goals (sl_open_run; (repeat rw [ld3]); first | rfl | (simp only [slab_stk]; rfl))

end Cert.AttnIdeal.Fox

end
-- ==== Proof.AttnC.lean ====
/- The block on the diagonal where its logits are held ready, and the next column's first logits. -/
module

public import proofs.«01_k».proof.Proof.AttnOffs

@[expose] public section

set_option maxRecDepth 16384

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The region's program. -/
def regC (i : grid0.Coords) (arg3 : Memref sig .tc .vmem S1x512x256 .bf16) (harg3 : arg3.IsWhole) (arg4 : Memref sig .tc .vmem S1x512x256 .bf16) (harg4 : arg4.IsWhole) (arg5 : Memref sig .tc .vmem S1x4096x1024 .bf16) (harg5 : arg5.IsWhole) (arg6 : Memref sig .tc .vmem S1x512x4096 .bf16) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x512x256 .bf16) (harg9 : arg9.IsWhole) (arg10 : Memref sig .tc .vmem S8x256x256 .bf16) (harg10 : arg10.IsWhole) (arg11 : Memref sig .tc .vmem S8x256x256 .bf16) (harg11 : arg11.IsWhole) (arg12 : Memref sig .tc .vmem S8x256x256 .bf16) (harg12 : arg12.IsWhole) (arg13 : Memref sig .tc .vmem S8x1x256 .f32) (harg13 : arg13.IsWhole) (arg14 : Memref sig .tc .vmem S8x80x256 .f32) (harg14 : arg14.IsWhole) (arg2 : BitVec 32) (ki qi : IVec S256x256 32) (W W' : Fin 8 → FVec F S256x256 .bf16) (h3 : k0_cond3 i = 1#1) : Prog (TpuEff nD τ sig (Elt F) Λ₀ .tc) PUnit := do
  let ⟨v640, v644, v661, v668⟩ : Σ' (v640 : FVec F S1x256 .f32) (v644 : FVec F S1x256 .f32) (v661 : FVec F S256x256 .bf16), FVec F S80x256 .bf16 ← k0_part64 i arg3 harg3 arg4 harg4 arg5 harg5 arg6 harg6 arg7 harg7 arg8 harg8 arg9 harg9 arg10 harg10 arg11 harg11 arg12 harg12 arg13 harg13 arg14 harg14 arg2 ki qi (W' 0) (k0_pay590 (F := F)) h3
  let ⟨v684, v686, v690, v694, v701⟩ : Σ' (v684 : FVec F S256x256 .bf16) (v686 : FVec F S1x256 .f32) (v690 : FVec F S1x256 .f32) (v694 : FVec F S1x256 .bf16), FVec F S256x256 .bf16 ← k0_part65 i arg3 harg3 arg4 harg4 arg5 harg5 arg6 harg6 arg7 harg7 arg8 harg8 arg9 harg9 arg10 harg10 arg11 harg11 arg12 harg12 arg13 harg13 arg14 harg14 ki qi (W' 1) h3 v640 v644 v661 v668
  let ⟨v730, v732, v736⟩ : Σ' (v730 : FVec F S256x256 .bf16) (v732 : FVec F S1x256 .f32), FVec F S1x256 .f32 ← k0_part66 i arg3 harg3 arg4 harg4 arg5 harg5 arg6 harg6 arg7 harg7 arg8 harg8 arg9 harg9 arg10 harg10 arg11 harg11 arg12 harg12 arg13 harg13 arg14 harg14 arg2 ki qi (k0_pay590 (F := F)) h3 v684 v686 v690 v694 v701
  k0_part67 i arg3 harg3 arg4 harg4 arg5 harg5 arg6 harg6 arg7 harg7 arg8 harg8 arg9 harg9 arg10 harg10 arg11 harg11 arg12 harg12 arg13 harg13 arg14 harg14 arg2 (W' 2) (k0_pay590 (F := F)) h3 v730 v732 v736
  let ⟨v807, v808⟩ : Σ' (v807 : FVec F S80x256 .f32), FVec F S1x256 .f32 ← k0_part68 i arg3 harg3 arg4 harg4 arg5 harg5 arg6 harg6 arg7 harg7 arg8 harg8 arg9 harg9 arg10 harg10 arg11 harg11 arg12 harg12 arg13 harg13 arg14 harg14 arg2 ki qi (W' 3) (k0_pay590 (F := F)) h3
  let ⟨v822, v824, v828, v832, v839⟩ : Σ' (v822 : FVec F S256x256 .bf16) (v824 : FVec F S1x256 .f32) (v828 : FVec F S1x256 .f32) (v832 : FVec F S1x256 .bf16), FVec F S256x256 .bf16 ← k0_part69 i arg3 harg3 arg4 harg4 arg5 harg5 arg6 harg6 arg7 harg7 arg8 harg8 arg9 harg9 arg10 harg10 arg11 harg11 arg12 harg12 arg13 harg13 arg14 harg14 ki qi (W' 4) h3 v807 v808
  let ⟨v868, v870, v874, v877⟩ : Σ' (v868 : FVec F S256x256 .bf16) (v870 : FVec F S1x256 .f32) (v874 : FVec F S1x256 .f32), FVec F S1x1x256 .f32 ← k0_part70 i arg3 harg3 arg4 harg4 arg5 harg5 arg6 harg6 arg7 harg7 arg8 harg8 arg9 harg9 arg10 harg10 arg11 harg11 arg12 harg12 arg13 harg13 arg14 harg14 arg2 ki qi (k0_pay590 (F := F)) h3 v822 v824 v828 v832 v839
  let ⟨v911, v912⟩ : Σ' (v911 : FVec F S256x256 .bf16), IVec S256x256 1 ← k0_part71 i arg3 harg3 arg4 harg4 arg5 harg5 arg6 harg6 arg7 harg7 arg8 harg8 arg9 harg9 arg10 harg10 arg11 harg11 arg12 harg12 arg13 harg13 arg14 harg14 arg2 ki qi (W' 5) (k0_pay590 (F := F)) h3 v868 v870 v874 v877
  let ⟨v945, v947⟩ : Σ' (v945 : FVec F S80x256 .f32), FVec F S1x256 .f32 ← k0_part72 i arg3 harg3 arg4 harg4 arg5 harg5 arg6 harg6 arg7 harg7 arg8 harg8 arg9 harg9 arg10 harg10 arg11 harg11 arg12 harg12 arg13 harg13 arg14 harg14 arg2 (W' 6) (k0_pay590 (F := F)) h3 v911 v912
  let ⟨v960, v962, v966, v981⟩ : Σ' (v960 : FVec F S256x256 .bf16) (v962 : FVec F S1x256 .f32) (v966 : FVec F S1x256 .f32), FVec F S256x256 .bf16 ← k0_part73 i arg3 harg3 arg4 harg4 arg5 harg5 arg6 harg6 arg7 harg7 arg8 harg8 arg9 harg9 arg10 harg10 arg11 harg11 arg12 harg12 arg13 harg13 arg14 harg14 ki qi (W' 7) h3 v945 v947
  let v988 : Vec F S1x64x256 .bf16 ← Prog.lift (.load arg6 (Rect.unit (s := S1x512x4096) (k0_off76 i) S1x64x256.size (k0_off76_inb i h3)).toLoadRect (View.loadsAt_vmem h_S1x64x256))
  let v994 : Vec F S1x80x256 .f32 ← Prog.lift (.load arg14 (Rect.unit (s := S8x80x256) ![7, 0, 0] S1x80x256.size inb_S8x80x256_S1x80x256_7_0_0).toLoadRect (View.loadsAt_vmem h_S1x80x256))
  let v999 : Vec F S1x80x256 .f32 ← Prog.lift (.load arg14 (Rect.unit (s := S8x80x256) ![7, 0, 0] S1x80x256.size inb_S8x80x256_S1x80x256_7_0_0).toLoadRect (View.loadsAt_vmem h_S1x80x256))
  Prog.lift (.store arg14 (Rect.unit (s := S8x80x256) ![7, 0, 0] S1x80x256.size inb_S8x80x256_S1x80x256_7_0_0) (k0_pay594 v960 v962 v966 v981 v988 v994) Finset.univ (View.stores_vmem_bits_univ h_S1x80x256 rfl) (.inl rfl))
  pure ⟨⟩

set_option maxHeartbeats 8000000 in
theorem regC_spec (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S1x4096x1024 .bf16) (harg5 : arg5.IsWhole) (arg6 : Memref sig .tc .vmem S1x512x4096 .bf16) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x512x256 .bf16) (harg9 : arg9.IsWhole) (arg10 : Memref sig .tc .vmem S8x256x256 .bf16) (harg10 : arg10.IsWhole) (arg11 : Memref sig .tc .vmem S8x256x256 .bf16) (harg11 : arg11.IsWhole) (arg12 : Memref sig .tc .vmem S8x256x256 .bf16) (harg12 : arg12.IsWhole) (arg13 : Memref sig .tc .vmem S8x1x256 .f32) (harg13 : arg13.IsWhole) (arg14 : Memref sig .tc .vmem S8x80x256 .f32) (harg14 : arg14.IsWhole) (arg2 : BitVec 32) (ki qi : IVec S256x256 32) (W W' : Fin 8 → FVec F S256x256 .bf16) (h3 : k0_cond3 i = 1#1) (X5 : Vec F S1x4096x1024 .bf16) (X6 : Vec F S1x512x4096 .bf16) (X11 : Vec F S8x256x256 .bf16) (X13 : Vec F S8x1x256 .f32) (X14 : Vec F S8x80x256 .f32) (E : Set ℕ) (K : PUnit → sProp (MM F)) :
    iprop((arg5.view.loc (c : Thread nD τ) ↦[arg5.view.set]{fullShare} harg5.unread X5) ∗ (arg6.view.loc (c : Thread nD τ) ↦[arg6.view.set]{fullShare} harg6.unread X6) ∗ (arg11.view.loc (c : Thread nD τ) ↦[arg11.view.set]{fullShare} harg11.unread X11) ∗ (∃ f, arg12.view.loc (c : Thread nD τ) ↦[arg12.view.set]{fullShare} f) ∗ (arg13.view.loc (c : Thread nD τ) ↦[arg13.view.set]{fullShare} harg13.unread X13) ∗ (arg14.view.loc (c : Thread nD τ) ↦[arg14.view.set]{fullShare} harg14.unread X14)
      ∗ (iprop((arg5.view.loc (c : Thread nD τ) ↦[arg5.view.set]{fullShare} harg5.unread X5) ∗ (arg6.view.loc (c : Thread nD τ) ↦[arg6.view.set]{fullShare} harg6.unread X6) ∗ (arg11.view.loc (c : Thread nD τ) ↦[arg11.view.set]{fullShare} harg11.unread X11) ∗ (arg12.view.loc (c : Thread nD τ) ↦[arg12.view.set]{fullShare} harg12.unread (lgS W' X5 0)) ∗ (arg13.view.loc (c : Thread nD τ) ↦[arg13.view.set]{fullShare} harg13.unread (mM ki qi X11 X13)) ∗ (arg14.view.loc (c : Thread nD τ) ↦[arg14.view.set]{fullShare} harg14.unread (aM ki qi X11 X13 X6 (i 2).val X14))) -∗ K ⟨⟩))
    ⊢ wp frame (wpE (defs₀ (F := F)) Variants.none c none) E (regC i arg3 harg3 arg4 harg4 arg5 harg5 arg6 harg6 arg7 harg7 arg8 harg8 arg9 harg9 arg10 harg10 arg11 harg11 arg12 harg12 arg13 harg13 arg14 harg14 arg2 ki qi W W' h3) K := by
  unfold regC
  skip
  simp only [k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton]
  iintro ⟨H5, H6, H11, ⟨%f12, H12⟩, H13, H14, Hk⟩
  sl_exec
  sl_step
  iapply Hk
  isplitl [H5]; · iexact H5
  isplitl [H6]; · iexact H6
  isplitl [H11]; · iexact H11
  isplitl [H12]
  · refine (to_unread c harg12 (stack8 arg12.view _ (lgH W' X5 0) _ _ _ _ _ _ _ _ _ _ _ _ _ _ _ _ _ ?_ ?_ ?_ ?_ ?_ ?_ ?_ ?_))
    all_goals (sl_open_run; (repeat rw [ld3]); (repeat first | rw [off66] | rw [off67] | rw [off69] | rw [off70] | rw [off72] | rw [off73] | rw [off75] | rw [off76]); first | rfl | (simp only [slab_stk]; rfl))
  isplitl [H13]
  · refine (to_unread c harg13 (stack8 arg13.view _ (fun h => k0_pay14 ki qi (slab h.val 0 0 X11) (slab h.val 0 0 X13)) _ _ _ _ _ _ _ _ _ _ _ _ _ _ _ _ _ ?_ ?_ ?_ ?_ ?_ ?_ ?_ ?_))
    all_goals (sl_open_run; (repeat rw [ld3]); (repeat first | rw [off66] | rw [off67] | rw [off69] | rw [off70] | rw [off72] | rw [off73] | rw [off75] | rw [off76]); first | rfl | (simp only [slab_stk]; rfl))
  · refine (to_unread c harg14 (stack8 arg14.view _ (fun h => stepM ki qi (slab h.val 0 0 X11) (slab h.val 0 0 X13) (slab 0 (64 * h.val) (256 * (i 2).val) X6) (slab h.val 0 0 X14)) _ _ _ _ _ _ _ _ _ _ _ _ _ _ _ _ _ ?_ ?_ ?_ ?_ ?_ ?_ ?_ ?_))
    all_goals (sl_open_run; (repeat rw [ld3]); (repeat first | rw [off66] | rw [off67] | rw [off69] | rw [off70] | rw [off72] | rw [off73] | rw [off75] | rw [off76]); first | rfl | (simp only [slab_stk]; rfl))

end Cert.AttnIdeal.Fox

end
-- ==== Proof.AttnD.lean ====
/- The last two blocks of an even column: the one before the diagonal from logits held ready, the diagonal's from logits made meanwhile. -/
module

public import proofs.«01_k».proof.Proof.AttnOffs
public import Idealize.ShloMosaic.Lib.Pipeline.ReadBack

@[expose] public section

set_option maxRecDepth 16384

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The region's program. -/
def regD (i : grid0.Coords) (arg3 : Memref sig .tc .vmem S1x512x256 .bf16) (harg3 : arg3.IsWhole) (arg4 : Memref sig .tc .vmem S1x512x256 .bf16) (harg4 : arg4.IsWhole) (arg5 : Memref sig .tc .vmem S1x4096x1024 .bf16) (harg5 : arg5.IsWhole) (arg6 : Memref sig .tc .vmem S1x512x4096 .bf16) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x512x256 .bf16) (harg9 : arg9.IsWhole) (arg10 : Memref sig .tc .vmem S8x256x256 .bf16) (harg10 : arg10.IsWhole) (arg11 : Memref sig .tc .vmem S8x256x256 .bf16) (harg11 : arg11.IsWhole) (arg12 : Memref sig .tc .vmem S8x256x256 .bf16) (harg12 : arg12.IsWhole) (arg13 : Memref sig .tc .vmem S8x1x256 .f32) (harg13 : arg13.IsWhole) (arg14 : Memref sig .tc .vmem S8x80x256 .f32) (harg14 : arg14.IsWhole) (arg2 : BitVec 32) (ki qi : IVec S256x256 32) (W W' : Fin 8 → FVec F S256x256 .bf16) (h4 : k0_cond4 i = 1#1) : Prog (TpuEff nD τ sig (Elt F) Λ₀ .tc) PUnit := do
  let v1351 : FVec F S80x256 .f32 ← k0_part94 i arg3 harg3 arg4 harg4 arg5 harg5 arg6 harg6 arg7 harg7 arg8 harg8 arg9 harg9 arg10 harg10 arg11 harg11 arg12 harg12 arg13 harg13 arg14 harg14 arg2 ki qi (W 0) (W 1) (W 2) (W 3) (W 4) (W 5) (W 6) (W 7) (W' 0) (W' 1) (W' 2) (W' 3) (W' 4) (W' 5) (W' 6) (W' 7) (k0_pay590 (F := F)) h4
  Prog.lift (.store arg14 (Rect.unit (s := S8x80x256) ![7, 0, 0] S1x80x256.size inb_S8x80x256_S1x80x256_7_0_0) (k0_pay595 v1351) Finset.univ (View.stores_vmem_bits_univ h_S1x80x256 rfl) (.inl rfl))
  pure ⟨⟩

set_option maxHeartbeats 8000000 in
theorem regD_spec (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S1x4096x1024 .bf16) (harg5 : arg5.IsWhole) (arg6 : Memref sig .tc .vmem S1x512x4096 .bf16) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x512x256 .bf16) (harg9 : arg9.IsWhole) (arg10 : Memref sig .tc .vmem S8x256x256 .bf16) (harg10 : arg10.IsWhole) (arg11 : Memref sig .tc .vmem S8x256x256 .bf16) (harg11 : arg11.IsWhole) (arg12 : Memref sig .tc .vmem S8x256x256 .bf16) (harg12 : arg12.IsWhole) (arg13 : Memref sig .tc .vmem S8x1x256 .f32) (harg13 : arg13.IsWhole) (arg14 : Memref sig .tc .vmem S8x80x256 .f32) (harg14 : arg14.IsWhole) (arg2 : BitVec 32) (ki qi : IVec S256x256 32) (W W' : Fin 8 → FVec F S256x256 .bf16) (h4 : k0_cond4 i = 1#1) (X5 : Vec F S1x4096x1024 .bf16) (X6 : Vec F S1x512x4096 .bf16) (X11 : Vec F S8x256x256 .bf16) (X13 : Vec F S8x1x256 .f32) (X14 : Vec F S8x80x256 .f32) (E : Set ℕ) (K : PUnit → sProp (MM F)) :
    iprop((arg5.view.loc (c : Thread nD τ) ↦[arg5.view.set]{fullShare} harg5.unread X5) ∗ (arg6.view.loc (c : Thread nD τ) ↦[arg6.view.set]{fullShare} harg6.unread X6) ∗ (∃ f, arg10.view.loc (c : Thread nD τ) ↦[arg10.view.set]{fullShare} f) ∗ (arg11.view.loc (c : Thread nD τ) ↦[arg11.view.set]{fullShare} harg11.unread X11) ∗ (∃ f, arg12.view.loc (c : Thread nD τ) ↦[arg12.view.set]{fullShare} f) ∗ (arg13.view.loc (c : Thread nD τ) ↦[arg13.view.set]{fullShare} harg13.unread X13) ∗ (arg14.view.loc (c : Thread nD τ) ↦[arg14.view.set]{fullShare} harg14.unread X14)
      ∗ (iprop((arg5.view.loc (c : Thread nD τ) ↦[arg5.view.set]{fullShare} harg5.unread X5) ∗ (arg6.view.loc (c : Thread nD τ) ↦[arg6.view.set]{fullShare} harg6.unread X6) ∗ (arg10.view.loc (c : Thread nD τ) ↦[arg10.view.set]{fullShare} harg10.unread (lgS W X5 (i 2).val)) ∗ (arg11.view.loc (c : Thread nD τ) ↦[arg11.view.set]{fullShare} harg11.unread X11) ∗ (arg12.view.loc (c : Thread nD τ) ↦[arg12.view.set]{fullShare} harg12.unread (lgS W' X5 0)) ∗ (arg13.view.loc (c : Thread nD τ) ↦[arg13.view.set]{fullShare} harg13.unread (stk fun h => k0_pay14 ki qi (lgH W X5 (i 2).val h) (k0_pay74 (slab h.val 0 0 X11) (slab h.val 0 0 X13)))) ∗ (arg14.view.loc (c : Thread nD τ) ↦[arg14.view.set]{fullShare} harg14.unread (stk fun h => stepM ki qi (lgH W X5 (i 2).val h) (k0_pay74 (slab h.val 0 0 X11) (slab h.val 0 0 X13)) (slab 0 (64 * h.val) (256 * (i 2).val) X6) (stepU (slab h.val 0 0 X11) (slab h.val 0 0 X13) (slab 0 (64 * h.val) (256 * ((i 2).val - 1)) X6) (slab h.val 0 0 X14))))) -∗ K ⟨⟩))
    ⊢ wp frame (wpE (defs₀ (F := F)) Variants.none c none) E (regD i arg3 harg3 arg4 harg4 arg5 harg5 arg6 harg6 arg7 harg7 arg8 harg8 arg9 harg9 arg10 harg10 arg11 harg11 arg12 harg12 arg13 harg13 arg14 harg14 arg2 ki qi W W' h4) K := by
  unfold regD
  simp only [k0_part94_eq_skeleton]; unfold k0_part94_skel
  simp only [k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton]
  iintro ⟨H5, H6, ⟨%f10, H10⟩, H11, ⟨%f12, H12⟩, H13, H14, Hk⟩
  sl_exec
  sl_step
  iapply Hk
  isplitl [H5]; · iexact H5
  isplitl [H6]; · iexact H6
  isplitl [H10]
  · refine (to_unread c harg10 (stack8 arg10.view _ (lgH W X5 (i 2).val) _ _ _ _ _ _ _ _ _ _ _ _ _ _ _ _ _ ?_ ?_ ?_ ?_ ?_ ?_ ?_ ?_))
    all_goals (sl_open_run; (try simp (disch := decide) only [↓View.readCov_cons_toLoadRect, ↓View.readCov_skip]); (repeat rw [ld3]); (repeat first | rw [off77] | rw [off80] | rw [off83] | rw [off86] | rw [off90] | rw [off91] | rw [off93] | rw [off94] | rw [off96] | rw [off97] | rw [off99] | rw [off100] | rw [off78 i h4] | rw [off79 i h4] | rw [off81 i h4] | rw [off82 i h4] | rw [off84 i h4] | rw [off85 i h4] | rw [off87 i h4] | rw [off88 i h4]); rfl)
  isplitl [H11]; · iexact H11
  isplitl [H12]
  · refine (to_unread c harg12 (stack8 arg12.view _ (lgH W' X5 0) _ _ _ _ _ _ _ _ _ _ _ _ _ _ _ _ _ ?_ ?_ ?_ ?_ ?_ ?_ ?_ ?_))
    all_goals (sl_open_run; (try simp (disch := decide) only [↓View.readCov_cons_toLoadRect, ↓View.readCov_skip]); (repeat rw [ld3]); (repeat first | rw [off77] | rw [off80] | rw [off83] | rw [off86] | rw [off90] | rw [off91] | rw [off93] | rw [off94] | rw [off96] | rw [off97] | rw [off99] | rw [off100] | rw [off78 i h4] | rw [off79 i h4] | rw [off81 i h4] | rw [off82 i h4] | rw [off84 i h4] | rw [off85 i h4] | rw [off87 i h4] | rw [off88 i h4]); rfl)
  isplitl [H13]
  · refine (to_unread c harg13 (stack8 arg13.view _ (fun h => k0_pay14 ki qi (lgH W X5 (i 2).val h) (k0_pay74 (slab h.val 0 0 X11) (slab h.val 0 0 X13))) _ _ _ _ _ _ _ _ _ _ _ _ _ _ _ _ _ ?_ ?_ ?_ ?_ ?_ ?_ ?_ ?_))
    all_goals (sl_open_run; (try simp (disch := decide) only [↓View.readCov_cons_toLoadRect, ↓View.readCov_skip]); (repeat rw [ld3]); (repeat first | rw [off77] | rw [off80] | rw [off83] | rw [off86] | rw [off90] | rw [off91] | rw [off93] | rw [off94] | rw [off96] | rw [off97] | rw [off99] | rw [off100] | rw [off78 i h4] | rw [off79 i h4] | rw [off81 i h4] | rw [off82 i h4] | rw [off84 i h4] | rw [off85 i h4] | rw [off87 i h4] | rw [off88 i h4]); rfl)
  · refine (to_unread c harg14 (stack8 arg14.view _ (fun h => stepM ki qi (lgH W X5 (i 2).val h) (k0_pay74 (slab h.val 0 0 X11) (slab h.val 0 0 X13)) (slab 0 (64 * h.val) (256 * (i 2).val) X6) (stepU (slab h.val 0 0 X11) (slab h.val 0 0 X13) (slab 0 (64 * h.val) (256 * ((i 2).val - 1)) X6) (slab h.val 0 0 X14))) _ _ _ _ _ _ _ _ _ _ _ _ _ _ _ _ _ ?_ ?_ ?_ ?_ ?_ ?_ ?_ ?_))
    all_goals (sl_open_run; (try simp (disch := decide) only [↓View.readCov_cons_toLoadRect, ↓View.readCov_skip]); (repeat rw [ld3]); (repeat first | rw [off77] | rw [off80] | rw [off83] | rw [off86] | rw [off90] | rw [off91] | rw [off93] | rw [off94] | rw [off96] | rw [off97] | rw [off99] | rw [off100] | rw [off78 i h4] | rw [off79 i h4] | rw [off81 i h4] | rw [off82 i h4] | rw [off84 i h4] | rw [off85 i h4] | rw [off87 i h4] | rw [off88 i h4]); rfl)

end Cert.AttnIdeal.Fox

end
-- ==== Proof.AttnT.lean ====
/- Two blocks of keys wholly before the diagonal, each from logits made while the one before it is taken in. -/
module

public import proofs.«01_k».proof.Proof.AttnOffs
public import Idealize.ShloMosaic.Lib.Pipeline.ReadBack

@[expose] public section

set_option maxRecDepth 16384

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option maxHeartbeats 8000000 in
theorem trip_spec (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S1x4096x1024 .bf16) (harg5 : arg5.IsWhole) (arg6 : Memref sig .tc .vmem S1x512x4096 .bf16) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x512x256 .bf16) (harg9 : arg9.IsWhole) (arg10 : Memref sig .tc .vmem S8x256x256 .bf16) (harg10 : arg10.IsWhole) (arg11 : Memref sig .tc .vmem S8x256x256 .bf16) (harg11 : arg11.IsWhole) (arg12 : Memref sig .tc .vmem S8x256x256 .bf16) (harg12 : arg12.IsWhole) (arg13 : Memref sig .tc .vmem S8x1x256 .f32) (harg13 : arg13.IsWhole) (arg14 : Memref sig .tc .vmem S8x80x256 .f32) (harg14 : arg14.IsWhole) (arg2 : BitVec 32) (ki qi : IVec S256x256 32) (W W' : Fin 8 → FVec F S256x256 .bf16) (v523 : FVec F S8x80x256 .f32) (k : Fin (k0_t1_loop i).trips) (X5 : Vec F S1x4096x1024 .bf16) (X6 : Vec F S1x512x4096 .bf16) (X11 : Vec F S8x256x256 .bf16) (X13 : Vec F S8x1x256 .f32) (X14 : Vec F S8x80x256 .f32) (E : Set ℕ) (K : PUnit → sProp (MM F)) :
    iprop((arg5.view.loc (c : Thread nD τ) ↦[arg5.view.set]{fullShare} harg5.unread X5) ∗ (arg6.view.loc (c : Thread nD τ) ↦[arg6.view.set]{fullShare} harg6.unread X6) ∗ (∃ f, arg10.view.loc (c : Thread nD τ) ↦[arg10.view.set]{fullShare} f) ∗ (arg11.view.loc (c : Thread nD τ) ↦[arg11.view.set]{fullShare} harg11.unread X11) ∗ (arg13.view.loc (c : Thread nD τ) ↦[arg13.view.set]{fullShare} harg13.unread X13) ∗ (arg14.view.loc (c : Thread nD τ) ↦[arg14.view.set]{fullShare} harg14.unread X14)
      ∗ (iprop((arg5.view.loc (c : Thread nD τ) ↦[arg5.view.set]{fullShare} harg5.unread X5) ∗ (arg6.view.loc (c : Thread nD τ) ↦[arg6.view.set]{fullShare} harg6.unread X6) ∗ (arg10.view.loc (c : Thread nD τ) ↦[arg10.view.set]{fullShare} harg10.unread (lgS W X5 (2 * k.val + 2))) ∗ (arg11.view.loc (c : Thread nD τ) ↦[arg11.view.set]{fullShare} harg11.unread (lgS W X5 (2 * k.val + 3))) ∗ (arg13.view.loc (c : Thread nD τ) ↦[arg13.view.set]{fullShare} harg13.unread (stk fun h => k0_pay74 (lgH W X5 (2 * k.val + 2) h) (k0_pay74 (slab h.val 0 0 X11) (slab h.val 0 0 X13)))) ∗ (arg14.view.loc (c : Thread nD τ) ↦[arg14.view.set]{fullShare} harg14.unread (stk fun h => stepU (lgH W X5 (2 * k.val + 2) h) (k0_pay74 (slab h.val 0 0 X11) (slab h.val 0 0 X13)) (slab 0 (64 * h.val) (256 * (2 * k.val + 2)) X6) (stepU (slab h.val 0 0 X11) (slab h.val 0 0 X13) (slab 0 (64 * h.val) (256 * (2 * k.val + 1)) X6) (slab h.val 0 0 X14))))) -∗ K ⟨⟩))
    ⊢ wp frame (wpE (defs₀ (F := F)) Variants.none c none) E (k0_t1_body i arg3 harg3 arg4 harg4 arg5 harg5 arg6 harg6 arg7 harg7 arg8 harg8 arg9 harg9 arg10 harg10 arg11 harg11 arg12 harg12 arg13 harg13 arg14 harg14 arg2 ki qi (W 0) (W 1) (W 2) (W 3) (W 4) (W 5) (W 6) (W 7) (W' 0) (W' 1) (W' 2) (W' 3) (W' 4) (W' 5) (W' 6) (W' 7) v523 k ⟨⟩) K := by
  unfold k0_t1_body
  skip
  simp only [k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
  iintro ⟨H5, H6, ⟨%f10, H10⟩, H11, H13, H14, Hk⟩
  sl_exec
  sl_step
  iapply Hk
  isplitl [H5]; · iexact H5
  isplitl [H6]; · iexact H6
  isplitl [H10]
  · refine (to_unread c harg10 (stack8 arg10.view _ (lgH W X5 (2 * k.val + 2)) _ _ _ _ _ _ _ _ _ _ _ _ _ _ _ _ _ ?_ ?_ ?_ ?_ ?_ ?_ ?_ ?_))
    all_goals (sl_open_run; (try simp (disch := decide) only [↓View.readCov_cons_toLoadRect, ↓View.readCov_skip]); (repeat rw [ld3]); (repeat first | rw [off25a] | rw [off25b] | rw [off28a] | rw [off28b] | rw [off31a] | rw [off31b] | rw [off34a] | rw [off34b] | rw [off26] | rw [off27] | rw [off29] | rw [off30] | rw [off32] | rw [off33] | rw [off35] | rw [off36] | rw [off37] | rw [off38] | rw [off39] | rw [off40] | rw [off41] | rw [off42] | rw [off43] | rw [off44]); rfl)
  isplitl [H11]
  · refine (to_unread c harg11 (stack8 arg11.view _ (lgH W X5 (2 * k.val + 3)) _ _ _ _ _ _ _ _ _ _ _ _ _ _ _ _ _ ?_ ?_ ?_ ?_ ?_ ?_ ?_ ?_))
    all_goals (sl_open_run; (try simp (disch := decide) only [↓View.readCov_cons_toLoadRect, ↓View.readCov_skip]); (repeat rw [ld3]); (repeat first | rw [off25a] | rw [off25b] | rw [off28a] | rw [off28b] | rw [off31a] | rw [off31b] | rw [off34a] | rw [off34b] | rw [off26] | rw [off27] | rw [off29] | rw [off30] | rw [off32] | rw [off33] | rw [off35] | rw [off36] | rw [off37] | rw [off38] | rw [off39] | rw [off40] | rw [off41] | rw [off42] | rw [off43] | rw [off44]); rfl)
  isplitl [H13]
  · refine (to_unread c harg13 (stack8 arg13.view _ (fun h => k0_pay74 (lgH W X5 (2 * k.val + 2) h) (k0_pay74 (slab h.val 0 0 X11) (slab h.val 0 0 X13))) _ _ _ _ _ _ _ _ _ _ _ _ _ _ _ _ _ ?_ ?_ ?_ ?_ ?_ ?_ ?_ ?_))
    all_goals (sl_open_run; (try simp (disch := decide) only [↓View.readCov_cons_toLoadRect, ↓View.readCov_skip]); (repeat rw [ld3]); (repeat first | rw [off25a] | rw [off25b] | rw [off28a] | rw [off28b] | rw [off31a] | rw [off31b] | rw [off34a] | rw [off34b] | rw [off26] | rw [off27] | rw [off29] | rw [off30] | rw [off32] | rw [off33] | rw [off35] | rw [off36] | rw [off37] | rw [off38] | rw [off39] | rw [off40] | rw [off41] | rw [off42] | rw [off43] | rw [off44]); rfl)
  · refine (to_unread c harg14 (stack8 arg14.view _ (fun h => stepU (lgH W X5 (2 * k.val + 2) h) (k0_pay74 (slab h.val 0 0 X11) (slab h.val 0 0 X13)) (slab 0 (64 * h.val) (256 * (2 * k.val + 2)) X6) (stepU (slab h.val 0 0 X11) (slab h.val 0 0 X13) (slab 0 (64 * h.val) (256 * (2 * k.val + 1)) X6) (slab h.val 0 0 X14))) _ _ _ _ _ _ _ _ _ _ _ _ _ _ _ _ _ ?_ ?_ ?_ ?_ ?_ ?_ ?_ ?_))
    all_goals (sl_open_run; (try simp (disch := decide) only [↓View.readCov_cons_toLoadRect, ↓View.readCov_skip]); (repeat rw [ld3]); (repeat first | rw [off25a] | rw [off25b] | rw [off28a] | rw [off28b] | rw [off31a] | rw [off31b] | rw [off34a] | rw [off34b] | rw [off26] | rw [off27] | rw [off29] | rw [off30] | rw [off32] | rw [off33] | rw [off35] | rw [off36] | rw [off37] | rw [off38] | rw [off39] | rw [off40] | rw [off41] | rw [off42] | rw [off43] | rw [off44]); rfl)

end Cert.AttnIdeal.Fox

end
-- ==== Proof.AttnMid.lean ====
/- The attention body's middle, cut into the regions a column of queries runs. -/
module

public import proofs.«01_k».proof.Proof.AttnA
public import proofs.«01_k».proof.Proof.AttnB
public import proofs.«01_k».proof.Proof.AttnC
public import proofs.«01_k».proof.Proof.AttnD
public import proofs.«01_k».proof.Proof.AttnT
public import proofs.«01_k».proof.Proof.Gen.AttnIdeal.Loops

@[expose] public section

set_option maxRecDepth 16384

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (i : grid0.Coords)

/-- The accumulators cleared. -/
def clr (arg3 : Memref sig .tc .vmem S1x512x256 .bf16) (harg3 : arg3.IsWhole) (arg4 : Memref sig .tc .vmem S1x512x256 .bf16) (harg4 : arg4.IsWhole) (arg5 : Memref sig .tc .vmem S1x4096x1024 .bf16) (harg5 : arg5.IsWhole) (arg6 : Memref sig .tc .vmem S1x512x4096 .bf16) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x512x256 .bf16) (harg9 : arg9.IsWhole) (arg10 : Memref sig .tc .vmem S8x256x256 .bf16) (harg10 : arg10.IsWhole) (arg11 : Memref sig .tc .vmem S8x256x256 .bf16) (harg11 : arg11.IsWhole) (arg12 : Memref sig .tc .vmem S8x256x256 .bf16) (harg12 : arg12.IsWhole) (arg13 : Memref sig .tc .vmem S8x1x256 .f32) (harg13 : arg13.IsWhole) (arg14 : Memref sig .tc .vmem S8x80x256 .f32) (harg14 : arg14.IsWhole) (v523 : FVec F S8x80x256 .f32) : Prog (TpuEff nD τ sig (Elt F) Λ₀ .tc) PUnit :=
  Prog.lift (.store arg14 (Rect.unit (s := S8x80x256) ![0, 0, 0] S8x80x256.size inb_S8x80x256_S8x80x256_0_0_0) v523 Finset.univ (View.stores_vmem_bits_univ h_S8x80x256 rfl) (.inl rfl))

/-- The loop over the pairs of blocks. -/
def lp1 (arg3 : Memref sig .tc .vmem S1x512x256 .bf16) (harg3 : arg3.IsWhole) (arg4 : Memref sig .tc .vmem S1x512x256 .bf16) (harg4 : arg4.IsWhole) (arg5 : Memref sig .tc .vmem S1x4096x1024 .bf16) (harg5 : arg5.IsWhole) (arg6 : Memref sig .tc .vmem S1x512x4096 .bf16) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x512x256 .bf16) (harg9 : arg9.IsWhole) (arg10 : Memref sig .tc .vmem S8x256x256 .bf16) (harg10 : arg10.IsWhole) (arg11 : Memref sig .tc .vmem S8x256x256 .bf16) (harg11 : arg11.IsWhole) (arg12 : Memref sig .tc .vmem S8x256x256 .bf16) (harg12 : arg12.IsWhole) (arg13 : Memref sig .tc .vmem S8x1x256 .f32) (harg13 : arg13.IsWhole) (arg14 : Memref sig .tc .vmem S8x80x256 .f32) (harg14 : arg14.IsWhole) (arg2 : BitVec 32) (ki qi : IVec S256x256 32) (W W' : Fin 8 → FVec F S256x256 .bf16) (v523 : FVec F S8x80x256 .f32) : Prog (TpuEff nD τ sig (Elt F) Λ₀ .tc) Unit :=
  Scf.Loop.for (k0_t1_loop i) (k0_t1_ok i) ⟨⟩ (k0_t1_body i arg3 harg3 arg4 harg4 arg5 harg5 arg6 harg6 arg7 harg7 arg8 harg8 arg9 harg9 arg10 harg10 arg11 harg11 arg12 harg12 arg13 harg13 arg14 harg14 arg2 ki qi (W 0) (W 1) (W 2) (W 3) (W 4) (W 5) (W 6) (W 7) (W' 0) (W' 1) (W' 2) (W' 3) (W' 4) (W' 5) (W' 6) (W' 7) v523)

/-- The remainder loop, which is empty. -/
def lp2 (arg3 : Memref sig .tc .vmem S1x512x256 .bf16) (harg3 : arg3.IsWhole) (arg4 : Memref sig .tc .vmem S1x512x256 .bf16) (harg4 : arg4.IsWhole) (arg5 : Memref sig .tc .vmem S1x4096x1024 .bf16) (harg5 : arg5.IsWhole) (arg6 : Memref sig .tc .vmem S1x512x4096 .bf16) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x512x256 .bf16) (harg9 : arg9.IsWhole) (arg10 : Memref sig .tc .vmem S8x256x256 .bf16) (harg10 : arg10.IsWhole) (arg11 : Memref sig .tc .vmem S8x256x256 .bf16) (harg11 : arg11.IsWhole) (arg12 : Memref sig .tc .vmem S8x256x256 .bf16) (harg12 : arg12.IsWhole) (arg13 : Memref sig .tc .vmem S8x1x256 .f32) (harg13 : arg13.IsWhole) (arg14 : Memref sig .tc .vmem S8x80x256 .f32) (harg14 : arg14.IsWhole) (arg2 : BitVec 32) (ki qi : IVec S256x256 32) (W W' : Fin 8 → FVec F S256x256 .bf16) (v523 : FVec F S8x80x256 .f32) (v543 : BitVec 32) : Prog (TpuEff nD τ sig (Elt F) Λ₀ .tc) Unit :=
  Scf.Loop.for (k0_t2_loop i) (k0_t2_ok i) ⟨⟩ (k0_t2_body i arg3 harg3 arg4 harg4 arg5 harg5 arg6 harg6 arg7 harg7 arg8 harg8 arg9 harg9 arg10 harg10 arg11 harg11 arg12 harg12 arg13 harg13 arg14 harg14 arg2 ki qi (W 0) (W 1) (W 2) (W 3) (W 4) (W 5) (W 6) (W 7) (W' 0) (W' 1) (W' 2) (W' 3) (W' 4) (W' 5) (W' 6) (W' 7) v523 v543)

/-- The word the loops' bounds come from. -/
def bnd (arg2 : BitVec 32) : BitVec 32 :=
  Scalar.addi 0#32 (Scalar.muli (Scalar.divsi (Scalar.subi (Scalar.shrui (Scalar.maxsi (Scalar.subi arg2 1#32) 0#32) 1#32) 0#32) 1#32) 1#32)

theorem mid0_eq (arg3 : Memref sig .tc .vmem S1x512x256 .bf16) (harg3 : arg3.IsWhole) (arg4 : Memref sig .tc .vmem S1x512x256 .bf16) (harg4 : arg4.IsWhole) (arg5 : Memref sig .tc .vmem S1x4096x1024 .bf16) (harg5 : arg5.IsWhole) (arg6 : Memref sig .tc .vmem S1x512x4096 .bf16) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x512x256 .bf16) (harg9 : arg9.IsWhole) (arg10 : Memref sig .tc .vmem S8x256x256 .bf16) (harg10 : arg10.IsWhole) (arg11 : Memref sig .tc .vmem S8x256x256 .bf16) (harg11 : arg11.IsWhole) (arg12 : Memref sig .tc .vmem S8x256x256 .bf16) (harg12 : arg12.IsWhole) (arg13 : Memref sig .tc .vmem S8x1x256 .f32) (harg13 : arg13.IsWhole) (arg14 : Memref sig .tc .vmem S8x80x256 .f32) (harg14 : arg14.IsWhole) (arg2 : BitVec 32) (ki qi : IVec S256x256 32) (W W' : Fin 8 → FVec F S256x256 .bf16) (v523 : FVec F S8x80x256 .f32) (h1 : k0_cond1 i = 1#1) (h2 : ¬k0_cond2 i = 1#1) (h3 : ¬k0_cond3 i = 1#1) (h4 : ¬k0_cond4 i = 1#1) :
    k0_part109 i arg3 harg3 arg4 harg4 arg5 harg5 arg6 harg6 arg7 harg7 arg8 harg8 arg9 harg9 arg10 harg10 arg11 harg11 arg12 harg12 arg13 harg13 arg14 harg14 arg2 ki qi (W 0) (W 1) (W 2) (W 3) (W 4) (W 5) (W 6) (W 7) (W' 0) (W' 1) (W' 2) (W' 3) (W' 4) (W' 5) (W' 6) (W' 7) v523 = (clr arg3 harg3 arg4 harg4 arg5 harg5 arg6 harg6 arg7 harg7 arg8 harg8 arg9 harg9 arg10 harg10 arg11 harg11 arg12 harg12 arg13 harg13 arg14 harg14 v523 >>= fun _ => regA i arg3 harg3 arg4 harg4 arg5 harg5 arg6 harg6 arg7 harg7 arg8 harg8 arg9 harg9 arg10 harg10 arg11 harg11 arg12 harg12 arg13 harg13 arg14 harg14 ki qi W W' h1 >>= fun _ => lp1 i arg3 harg3 arg4 harg4 arg5 harg5 arg6 harg6 arg7 harg7 arg8 harg8 arg9 harg9 arg10 harg10 arg11 harg11 arg12 harg12 arg13 harg13 arg14 harg14 arg2 ki qi W W' v523 >>= fun _ => lp2 i arg3 harg3 arg4 harg4 arg5 harg5 arg6 harg6 arg7 harg7 arg8 harg8 arg9 harg9 arg10 harg10 arg11 harg11 arg12 harg12 arg13 harg13 arg14 harg14 arg2 ki qi W W' v523 (bnd arg2) >>= fun _ => (pure ⟨⟩ : Prog (TpuEff nD τ sig (Elt F) Λ₀ .tc) PUnit) >>= fun _ => pure ⟨⟩) := by
  rw [k0_part109_eq_skeleton]; unfold k0_part109_skel
  simp only [dif_pos h1, dif_neg h2, dif_neg h3, dif_neg h4, bind_assoc, pure_bind]
  simp only [regA, regB, regC, regD, bind_assoc, pure_bind]
  rfl

theorem mid1_eq (arg3 : Memref sig .tc .vmem S1x512x256 .bf16) (harg3 : arg3.IsWhole) (arg4 : Memref sig .tc .vmem S1x512x256 .bf16) (harg4 : arg4.IsWhole) (arg5 : Memref sig .tc .vmem S1x4096x1024 .bf16) (harg5 : arg5.IsWhole) (arg6 : Memref sig .tc .vmem S1x512x4096 .bf16) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x512x256 .bf16) (harg9 : arg9.IsWhole) (arg10 : Memref sig .tc .vmem S8x256x256 .bf16) (harg10 : arg10.IsWhole) (arg11 : Memref sig .tc .vmem S8x256x256 .bf16) (harg11 : arg11.IsWhole) (arg12 : Memref sig .tc .vmem S8x256x256 .bf16) (harg12 : arg12.IsWhole) (arg13 : Memref sig .tc .vmem S8x1x256 .f32) (harg13 : arg13.IsWhole) (arg14 : Memref sig .tc .vmem S8x80x256 .f32) (harg14 : arg14.IsWhole) (arg2 : BitVec 32) (ki qi : IVec S256x256 32) (W W' : Fin 8 → FVec F S256x256 .bf16) (v523 : FVec F S8x80x256 .f32) (h1 : ¬k0_cond1 i = 1#1) (h2 : k0_cond2 i = 1#1) (h3 : k0_cond3 i = 1#1) (h4 : ¬k0_cond4 i = 1#1) :
    k0_part109 i arg3 harg3 arg4 harg4 arg5 harg5 arg6 harg6 arg7 harg7 arg8 harg8 arg9 harg9 arg10 harg10 arg11 harg11 arg12 harg12 arg13 harg13 arg14 harg14 arg2 ki qi (W 0) (W 1) (W 2) (W 3) (W 4) (W 5) (W 6) (W 7) (W' 0) (W' 1) (W' 2) (W' 3) (W' 4) (W' 5) (W' 6) (W' 7) v523 = (clr arg3 harg3 arg4 harg4 arg5 harg5 arg6 harg6 arg7 harg7 arg8 harg8 arg9 harg9 arg10 harg10 arg11 harg11 arg12 harg12 arg13 harg13 arg14 harg14 v523 >>= fun _ => regB i arg3 harg3 arg4 harg4 arg5 harg5 arg6 harg6 arg7 harg7 arg8 harg8 arg9 harg9 arg10 harg10 arg11 harg11 arg12 harg12 arg13 harg13 arg14 harg14 W h2 >>= fun _ => lp1 i arg3 harg3 arg4 harg4 arg5 harg5 arg6 harg6 arg7 harg7 arg8 harg8 arg9 harg9 arg10 harg10 arg11 harg11 arg12 harg12 arg13 harg13 arg14 harg14 arg2 ki qi W W' v523 >>= fun _ => lp2 i arg3 harg3 arg4 harg4 arg5 harg5 arg6 harg6 arg7 harg7 arg8 harg8 arg9 harg9 arg10 harg10 arg11 harg11 arg12 harg12 arg13 harg13 arg14 harg14 arg2 ki qi W W' v523 (bnd arg2) >>= fun _ => regC i arg3 harg3 arg4 harg4 arg5 harg5 arg6 harg6 arg7 harg7 arg8 harg8 arg9 harg9 arg10 harg10 arg11 harg11 arg12 harg12 arg13 harg13 arg14 harg14 arg2 ki qi W W' h3 >>= fun _ => pure ⟨⟩) := by
  rw [k0_part109_eq_skeleton]; unfold k0_part109_skel
  simp only [dif_neg h1, dif_pos h2, dif_pos h3, dif_neg h4, bind_assoc, pure_bind]
  simp only [regA, regB, regC, regD, bind_assoc, pure_bind]
  rfl

theorem mid2_eq (arg3 : Memref sig .tc .vmem S1x512x256 .bf16) (harg3 : arg3.IsWhole) (arg4 : Memref sig .tc .vmem S1x512x256 .bf16) (harg4 : arg4.IsWhole) (arg5 : Memref sig .tc .vmem S1x4096x1024 .bf16) (harg5 : arg5.IsWhole) (arg6 : Memref sig .tc .vmem S1x512x4096 .bf16) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x512x256 .bf16) (harg9 : arg9.IsWhole) (arg10 : Memref sig .tc .vmem S8x256x256 .bf16) (harg10 : arg10.IsWhole) (arg11 : Memref sig .tc .vmem S8x256x256 .bf16) (harg11 : arg11.IsWhole) (arg12 : Memref sig .tc .vmem S8x256x256 .bf16) (harg12 : arg12.IsWhole) (arg13 : Memref sig .tc .vmem S8x1x256 .f32) (harg13 : arg13.IsWhole) (arg14 : Memref sig .tc .vmem S8x80x256 .f32) (harg14 : arg14.IsWhole) (arg2 : BitVec 32) (ki qi : IVec S256x256 32) (W W' : Fin 8 → FVec F S256x256 .bf16) (v523 : FVec F S8x80x256 .f32) (h1 : ¬k0_cond1 i = 1#1) (h2 : k0_cond2 i = 1#1) (h3 : ¬k0_cond3 i = 1#1) (h4 : k0_cond4 i = 1#1) :
    k0_part109 i arg3 harg3 arg4 harg4 arg5 harg5 arg6 harg6 arg7 harg7 arg8 harg8 arg9 harg9 arg10 harg10 arg11 harg11 arg12 harg12 arg13 harg13 arg14 harg14 arg2 ki qi (W 0) (W 1) (W 2) (W 3) (W 4) (W 5) (W 6) (W 7) (W' 0) (W' 1) (W' 2) (W' 3) (W' 4) (W' 5) (W' 6) (W' 7) v523 = (clr arg3 harg3 arg4 harg4 arg5 harg5 arg6 harg6 arg7 harg7 arg8 harg8 arg9 harg9 arg10 harg10 arg11 harg11 arg12 harg12 arg13 harg13 arg14 harg14 v523 >>= fun _ => regB i arg3 harg3 arg4 harg4 arg5 harg5 arg6 harg6 arg7 harg7 arg8 harg8 arg9 harg9 arg10 harg10 arg11 harg11 arg12 harg12 arg13 harg13 arg14 harg14 W h2 >>= fun _ => lp1 i arg3 harg3 arg4 harg4 arg5 harg5 arg6 harg6 arg7 harg7 arg8 harg8 arg9 harg9 arg10 harg10 arg11 harg11 arg12 harg12 arg13 harg13 arg14 harg14 arg2 ki qi W W' v523 >>= fun _ => lp2 i arg3 harg3 arg4 harg4 arg5 harg5 arg6 harg6 arg7 harg7 arg8 harg8 arg9 harg9 arg10 harg10 arg11 harg11 arg12 harg12 arg13 harg13 arg14 harg14 arg2 ki qi W W' v523 (bnd arg2) >>= fun _ => regD i arg3 harg3 arg4 harg4 arg5 harg5 arg6 harg6 arg7 harg7 arg8 harg8 arg9 harg9 arg10 harg10 arg11 harg11 arg12 harg12 arg13 harg13 arg14 harg14 arg2 ki qi W W' h4 >>= fun _ => pure ⟨⟩) := by
  rw [k0_part109_eq_skeleton]; unfold k0_part109_skel
  simp only [dif_neg h1, dif_pos h2, dif_neg h3, dif_pos h4, bind_assoc, pure_bind]
  simp only [regA, regB, regC, regD, bind_assoc, pure_bind]
  rfl

end Cert.AttnIdeal.Fox

end
-- ==== Proof.AttnEnds.lean ====
/- What a column of queries starts from — its own and the next column's projections laid out as weights — and what it writes out. -/
module

public import proofs.«01_k».proof.Proof.AttnSpec
public import Idealize.ShloMosaic.Lib.Pipeline.ReadBack

@[expose] public section

set_option maxRecDepth 16384

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- Eight heads' outputs, one under the other. -/
def rows {α : Type} (G : Fin 8 → S1x64x256.Idx → α) : S1x512x256.Idx → α := fun y =>
  G (Fin.ofNat 8 ((y 1 : Fin 512).val / 64)) (ix3 (0 : Fin 1) (Fin.ofNat 64 ((y 1 : Fin 512).val % 64)) (y 2 : Fin 256))

theorem rows_emb {α : Type} (G : Fin 8 → S1x64x256.Idx → α) (h : Fin 8) (o : ℕ) (ho : o = 64 * h.val) (inb : _)
    (x : (Rect.unit (s := S1x512x256) ![0, o, 0] S1x64x256.size inb).shape.Idx) :
    rows G ((Rect.unit (s := S1x512x256) ![0, o, 0] S1x64x256.size inb).emb x) = G h x := by
  subst ho
  have e := emb_val (s := S1x512x256) ![0, 64 * h.val, 0] S1x64x256.size inb x
  have x0 : (x 0).val = 0 := Nat.lt_one_iff.1 (x 0).isLt
  have x1 : (x 1).val < 64 := (x 1).isLt
  have e1 : (((Rect.unit (s := S1x512x256) ![0, 64 * h.val, 0] S1x64x256.size inb).emb x 1 : Fin 512)).val = 64 * h.val + (x 1).val := e 1
  have e2 : (((Rect.unit (s := S1x512x256) ![0, 64 * h.val, 0] S1x64x256.size inb).emb x 2 : Fin 256)).val = (x 2).val := (e 2).trans (Nat.zero_add _)
  unfold rows
  rw [e1, show (64 * h.val + (x 1).val) / 64 = h.val by omega, show (64 * h.val + (x 1).val) % 64 = (x 1).val by omega]
  congr 1
  · congr 1; exact Fin.ext (Nat.mod_eq_of_lt h.isLt)
  · funext a; refine Fin.ext ?_
    match a with
    | ⟨0, _⟩ => exact x0.symm
    | ⟨1, _⟩ => exact Nat.mod_eq_of_lt x1
    | ⟨2, _⟩ => exact e2

theorem rows_mem (y : S1x512x256.Idx) (o : ℕ) (inb : _) (h1 : o ≤ (y 1 : Fin 512).val) (h2 : (y 1 : Fin 512).val < o + 64) :
    y ∈ (Rect.unit (s := S1x512x256) ![0, o, 0] S1x64x256.size inb).set := by
  refine Rect.mem_set_unit.2 fun a => ?_
  match a with
  | ⟨0, _⟩ => exact ⟨Nat.zero_le _, (y 0).isLt.trans_le (Nat.zero_add _).ge⟩
  | ⟨1, _⟩ => exact ⟨h1, h2⟩
  | ⟨2, _⟩ => exact ⟨Nat.zero_le _, (y 2).isLt.trans_le (Nat.zero_add _).ge⟩

/-- Eight stores, one a head, leave the heads' outputs. -/
theorem stack9 (v : View sig .tc .vmem S1x512x256 .bf16) (f : v.ty.Contents (Elt F)) (G : Fin 8 → S1x64x256.Idx → Elt F .bf16)
    (P0 P1 P2 P3 P4 P5 P6 P7 : S1x64x256.Idx → Elt F .bf16) (i0 i1 i2 i3 i4 i5 i6 i7 : _)
    (h0 : P0 = G 0) (h1 : P1 = G 1) (h2 : P2 = G 2) (h3 : P3 = G 3) (h4 : P4 = G 4) (h5 : P5 = G 5) (h6 : P6 = G 6) (h7 : P7 = G 7) :
    v.read (Elt F) (v.writes (Elt F) f (⟨Rect.unit ![0, 448, 0] S1x64x256.size i7, P7⟩ :: ⟨Rect.unit ![0, 384, 0] S1x64x256.size i6, P6⟩ :: ⟨Rect.unit ![0, 320, 0] S1x64x256.size i5, P5⟩ :: ⟨Rect.unit ![0, 256, 0] S1x64x256.size i4, P4⟩ :: ⟨Rect.unit ![0, 192, 0] S1x64x256.size i3, P3⟩ :: ⟨Rect.unit ![0, 128, 0] S1x64x256.size i2, P2⟩ :: ⟨Rect.unit ![0, 64, 0] S1x64x256.size i1, P1⟩ :: ⟨Rect.unit ![0, 0, 0] S1x64x256.size i0, P0⟩ :: [])) = rows G := by
  subst h0 h1 h2 h3 h4 h5 h6 h7
  funext y
  refine View.read_writes_apply_of_pieces v f (rows G) [⟨Rect.unit ![0, 448, 0] S1x64x256.size i7, G 7⟩, ⟨Rect.unit ![0, 384, 0] S1x64x256.size i6, G 6⟩, ⟨Rect.unit ![0, 320, 0] S1x64x256.size i5, G 5⟩, ⟨Rect.unit ![0, 256, 0] S1x64x256.size i4, G 4⟩, ⟨Rect.unit ![0, 192, 0] S1x64x256.size i3, G 3⟩, ⟨Rect.unit ![0, 128, 0] S1x64x256.size i2, G 2⟩, ⟨Rect.unit ![0, 64, 0] S1x64x256.size i1, G 1⟩, ⟨Rect.unit ![0, 0, 0] S1x64x256.size i0, G 0⟩] ?_ y ?_
  · simp only [List.forall_mem_cons, List.not_mem_nil, false_imp_iff, implies_true, and_true]
    exact ⟨fun x => (rows_emb G 7 448 rfl i7 x).symm, fun x => (rows_emb G 6 384 rfl i6 x).symm, fun x => (rows_emb G 5 320 rfl i5 x).symm, fun x => (rows_emb G 4 256 rfl i4 x).symm, fun x => (rows_emb G 3 192 rfl i3 x).symm, fun x => (rows_emb G 2 128 rfl i2 x).symm, fun x => (rows_emb G 1 64 rfl i1 x).symm, fun x => (rows_emb G 0 0 rfl i0 x).symm⟩
  · simp only [List.exists_mem_cons_iff, List.not_mem_nil, false_and, exists_false, or_false]
    have hy : (y 1 : Fin 512).val < 512 := (y 1 : Fin 512).isLt
    obtain h | h | h | h | h | h | h | h : (448 ≤ (y 1 : Fin 512).val ∧ (y 1 : Fin 512).val < 448 + 64) ∨ (384 ≤ (y 1 : Fin 512).val ∧ (y 1 : Fin 512).val < 384 + 64) ∨ (320 ≤ (y 1 : Fin 512).val ∧ (y 1 : Fin 512).val < 320 + 64) ∨ (256 ≤ (y 1 : Fin 512).val ∧ (y 1 : Fin 512).val < 256 + 64) ∨ (192 ≤ (y 1 : Fin 512).val ∧ (y 1 : Fin 512).val < 192 + 64) ∨ (128 ≤ (y 1 : Fin 512).val ∧ (y 1 : Fin 512).val < 128 + 64) ∨ (64 ≤ (y 1 : Fin 512).val ∧ (y 1 : Fin 512).val < 64 + 64) ∨ (0 ≤ (y 1 : Fin 512).val ∧ (y 1 : Fin 512).val < 0 + 64) := by omega
    all_goals simp only [rows_mem y _ _ h.1 h.2, true_or, or_true]

/-- One store of everything leaves what was stored. -/
theorem whole3 {n0 n1 n2 : ℕ} {e : EltTy} (v : View sig .tc .vmem (⟨3, ![n0, n1, n2]⟩ : Shape) e) (f : v.ty.Contents (Elt F)) (P : (⟨3, ![n0, n1, n2]⟩ : Shape).Idx → Elt F e) (inb : _) :
    v.read (Elt F) (v.writes (Elt F) f [⟨Rect.unit ![0, 0, 0] (⟨3, ![n0, n1, n2]⟩ : Shape).size inb, P⟩]) = P := by
  have he : ∀ x : (⟨3, ![n0, n1, n2]⟩ : Shape).Idx, (Rect.unit (s := ⟨3, ![n0, n1, n2]⟩) ![0, 0, 0] (⟨3, ![n0, n1, n2]⟩ : Shape).size inb).emb x = x := fun x => by
    funext a; refine Fin.ext ?_
    have e := emb_val (s := ⟨3, ![n0, n1, n2]⟩) ![0, 0, 0] (⟨3, ![n0, n1, n2]⟩ : Shape).size inb x
    match a with
    | ⟨0, _⟩ => exact (e 0).trans (Nat.zero_add _)
    | ⟨1, _⟩ => exact (e 1).trans (Nat.zero_add _)
    | ⟨2, _⟩ => exact (e 2).trans (Nat.zero_add _)
  funext y
  refine View.read_writes_apply_of_pieces v f P [⟨Rect.unit ![0, 0, 0] (⟨3, ![n0, n1, n2]⟩ : Shape).size inb, P⟩] ?_ y ?_
  · simp only [List.forall_mem_cons, List.not_mem_nil, false_imp_iff, implies_true, and_true]
    exact fun x => congrArg P (he x).symm
  · refine ⟨_, List.mem_cons_self, ?_⟩
    show y ∈ (Rect.unit (s := ⟨3, ![n0, n1, n2]⟩) ![0, 0, 0] (⟨3, ![n0, n1, n2]⟩ : Shape).size inb).set
    refine Rect.mem_set_unit.2 fun a => ?_
    match a with
    | ⟨0, _⟩ => exact ⟨Nat.zero_le _, (y 0).isLt.trans_le (Nat.zero_add _).ge⟩
    | ⟨1, _⟩ => exact ⟨Nat.zero_le _, (y 1).isLt.trans_le (Nat.zero_add _).ge⟩
    | ⟨2, _⟩ => exact ⟨Nat.zero_le _, (y 2).isLt.trans_le (Nat.zero_add _).ge⟩

/-- The weights of the heads in the first half of a pair, -/
def wE (p : ℕ) (Q : Vec F S1x512x256 .bf16) (N : Vec F S1x64x256 .f32) : FVec F S256x256 .bf16 := k0_pay536 (slab 0 (128 * p) 0 Q) (slab 0 (16 * p) 0 N)
/-- and in the second. -/
def wO (p : ℕ) (Q : Vec F S1x512x256 .bf16) (N : Vec F S1x64x256 .f32) : FVec F S256x256 .bf16 :=
  k0_pay537 (iota .tc S128x256 32 [0] iota_S128x256_d0_w32) (iota .tc S8x256 32 [0] iota_S8x256_d0_w32) (slab 0 (128 * p) 0 Q) (slab 0 (16 * p + 8) 0 N)
/-- The eight heads' weights. -/
def Wof (Q : Vec F S1x512x256 .bf16) (N : Vec F S1x64x256 .f32) : Fin 8 → FVec F S256x256 .bf16 :=
  ![wE 0 Q N, wO 0 Q N, wE 1 Q N, wO 1 Q N, wE 2 Q N, wO 2 Q N, wE 3 Q N, wO 3 Q N]

/-- What a column begins with. -/
def pro (i : grid0.Coords) (arg3 : Memref sig .tc .vmem S1x512x256 .bf16) (harg3 : arg3.IsWhole) (arg4 : Memref sig .tc .vmem S1x512x256 .bf16) (harg4 : arg4.IsWhole) (arg5 : Memref sig .tc .vmem S1x4096x1024 .bf16) (harg5 : arg5.IsWhole) (arg6 : Memref sig .tc .vmem S1x512x4096 .bf16) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x512x256 .bf16) (harg9 : arg9.IsWhole) (arg10 : Memref sig .tc .vmem S8x256x256 .bf16) (harg10 : arg10.IsWhole) (arg11 : Memref sig .tc .vmem S8x256x256 .bf16) (harg11 : arg11.IsWhole) (arg12 : Memref sig .tc .vmem S8x256x256 .bf16) (harg12 : arg12.IsWhole) (arg13 : Memref sig .tc .vmem S8x1x256 .f32) (harg13 : arg13.IsWhole) (arg14 : Memref sig .tc .vmem S8x80x256 .f32) (harg14 : arg14.IsWhole) : Prog (TpuEff nD τ sig (Elt F) Λ₀ .tc) (BitVec 32 × IVec S256x256 32 × IVec S256x256 32 × FVec F S8x80x256 .f32 × (Fin 8 → FVec F S256x256 .bf16) × (Fin 8 → FVec F S256x256 .bf16)) := do
  let ⟨arg2, v0, v1, v2, v3, v35⟩ : Σ' (arg2 : BitVec 32) (v0 : IVec S128x256 32) (v1 : IVec S8x256 32) (v2 : IVec S256x256 32) (v3 : IVec S256x256 32), FVec F S256x256 .bf16 ← k0_part95 i arg3 harg3 arg4 harg4 arg5 harg5 arg6 harg6 arg7 harg7 arg8 harg8 arg9 harg9 arg10 harg10 arg11 harg11 arg12 harg12 arg13 harg13 arg14 harg14
  let ⟨v67, v69, v71, v73⟩ : Σ' (v67 : FVec F S256x256 .bf16) (v69 : FVec F S128x256 .bf16) (v71 : IVec S128x256 1), IVec S128x256 1 ← k0_part96 i arg3 harg3 arg4 harg4 arg5 harg5 arg6 harg6 arg7 harg7 arg8 harg8 arg9 harg9 arg10 harg10 arg11 harg11 arg12 harg12 arg13 harg13 arg14 harg14 v0 v1
  let ⟨v99, v108, v110⟩ : Σ' (v99 : FVec F S256x256 .bf16) (v108 : FVec F S128x256 .bf16), FVec F S8x256 .f32 ← k0_part97 i arg3 harg3 arg4 harg4 arg5 harg5 arg6 harg6 arg7 harg7 arg8 harg8 arg9 harg9 arg10 harg10 arg11 harg11 arg12 harg12 arg13 harg13 arg14 harg14 v0 v1 v69 v71 v73
  let ⟨v131, v140, v143, v145, v146, v147⟩ : Σ' (v131 : FVec F S256x256 .bf16) (v140 : FVec F S128x256 .bf16) (v143 : FVec F S8x256 .f32) (v145 : IVec S8x256 1) (v146 : FVec F S8x256 .f32), FVec F S8x256 .f32 ← k0_part98 i arg3 harg3 arg4 harg4 arg5 harg5 arg6 harg6 arg7 harg7 arg8 harg8 arg9 harg9 arg10 harg10 arg11 harg11 arg12 harg12 arg13 harg13 arg14 harg14 v0 v1 v108 v110
  let ⟨v163, v172, v175, v180, v185⟩ : Σ' (v163 : FVec F S256x256 .bf16) (v172 : FVec F S128x256 .bf16) (v175 : FVec F S8x256 .f32) (v180 : FVec F S8x256 .f32), FVec F S8x256 .f32 ← k0_part99 i arg3 harg3 arg4 harg4 arg5 harg5 arg6 harg6 arg7 harg7 arg8 harg8 arg9 harg9 arg10 harg10 arg11 harg11 arg12 harg12 arg13 harg13 arg14 harg14 v0 v1 v140 v143 v145 v146 v147
  let ⟨v195, v204, v217, v223, cst_115⟩ : Σ' (v195 : FVec F S256x256 .bf16) (v204 : FVec F S128x256 .bf16) (v217 : FVec F S8x256 .f32) (v223 : FVec F S8x256 .f32), F .f32 ← k0_part100 i arg3 harg3 arg4 harg4 arg5 harg5 arg6 harg6 arg7 harg7 arg8 harg8 arg9 harg9 arg10 harg10 arg11 harg11 arg12 harg12 arg13 harg13 arg14 harg14 v0 v1 v172 v175 v180 v185
  let ⟨v227, v259, v261⟩ : Σ' (v227 : FVec F S256x256 .bf16) (v259 : FVec F S256x256 .bf16), FVec F S128x256 .bf16 ← k0_part101 i arg3 harg3 arg4 harg4 arg5 harg5 arg6 harg6 arg7 harg7 arg8 harg8 arg9 harg9 arg10 harg10 arg11 harg11 arg12 harg12 arg13 harg13 arg14 harg14 v0 v1 v204 v217 v223 cst_115
  let ⟨v291, v293, v298, v299⟩ : Σ' (v291 : FVec F S256x256 .bf16) (v293 : FVec F S128x256 .bf16) (v298 : IVec S128x256 1), FVec F S128x256 .bf16 ← k0_part102 i arg3 harg3 arg4 harg4 arg5 harg5 arg6 harg6 arg7 harg7 arg8 harg8 arg9 harg9 arg10 harg10 arg11 harg11 arg12 harg12 arg13 harg13 arg14 harg14 v0 v1 v261
  let ⟨v323, v332, v335, c3_i32_182⟩ : Σ' (v323 : FVec F S256x256 .bf16) (v332 : FVec F S128x256 .bf16) (v335 : FVec F S8x256 .f32), BitVec 32 ← k0_part103 i arg3 harg3 arg4 harg4 arg5 harg5 arg6 harg6 arg7 harg7 arg8 harg8 arg9 harg9 arg10 harg10 arg11 harg11 arg12 harg12 arg13 harg13 arg14 harg14 v0 v1 v293 v298 v299
  let ⟨v355, v364, v367, v372, v373⟩ : Σ' (v355 : FVec F S256x256 .bf16) (v364 : FVec F S128x256 .bf16) (v367 : FVec F S8x256 .f32) (v372 : FVec F S8x256 .f32), IVec S8x256 32 ← k0_part104 i arg3 harg3 arg4 harg4 arg5 harg5 arg6 harg6 arg7 harg7 arg8 harg8 arg9 harg9 arg10 harg10 arg11 harg11 arg12 harg12 arg13 harg13 arg14 harg14 v0 v1 v332 v335 c3_i32_182
  let ⟨v387, v396, v399, v404, v409, v411⟩ : Σ' (v387 : FVec F S256x256 .bf16) (v396 : FVec F S128x256 .bf16) (v399 : FVec F S8x256 .f32) (v404 : FVec F S8x256 .f32) (v409 : FVec F S8x256 .f32), IVec S8x256 1 ← k0_part105 i arg3 harg3 arg4 harg4 arg5 harg5 arg6 harg6 arg7 harg7 arg8 harg8 arg9 harg9 arg10 harg10 arg11 harg11 arg12 harg12 arg13 harg13 arg14 harg14 v0 v1 v364 v367 v372 v373
  let ⟨v419, v428, v450⟩ : Σ' (v419 : FVec F S256x256 .bf16) (v428 : FVec F S128x256 .bf16), FVec F S128x256 .bf16 ← k0_part106 i arg3 harg3 arg4 harg4 arg5 harg5 arg6 harg6 arg7 harg7 arg8 harg8 arg9 harg9 arg10 harg10 arg11 harg11 arg12 harg12 arg13 harg13 arg14 harg14 v0 v1 v396 v399 v404 v409 v411
  let ⟨v451, v483, v485, v487⟩ : Σ' (v451 : FVec F S256x256 .bf16) (v483 : FVec F S256x256 .bf16) (v485 : FVec F S128x256 .bf16), IVec S128x256 1 ← k0_part107 i arg3 harg3 arg4 harg4 arg5 harg5 arg6 harg6 arg7 harg7 arg8 harg8 arg9 harg9 arg10 harg10 arg11 harg11 arg12 harg12 arg13 harg13 arg14 harg14 v0 v1 v428 v450
  let ⟨v515, v523⟩ : Σ' (v515 : FVec F S256x256 .bf16), FVec F S8x80x256 .f32 ← k0_part108 i arg3 harg3 arg4 harg4 arg5 harg5 arg6 harg6 arg7 harg7 arg8 harg8 arg9 harg9 arg10 harg10 arg11 harg11 arg12 harg12 arg13 harg13 arg14 harg14 v0 v1 v485 v487
  pure (arg2, v2, v3, v523, ![v35, v67, v99, v131, v163, v195, v227, v259], ![v291, v323, v355, v387, v419, v451, v483, v515])

/-- What it ends with. -/
def epi (i : grid0.Coords) (arg3 : Memref sig .tc .vmem S1x512x256 .bf16) (harg3 : arg3.IsWhole) (arg4 : Memref sig .tc .vmem S1x512x256 .bf16) (harg4 : arg4.IsWhole) (arg5 : Memref sig .tc .vmem S1x4096x1024 .bf16) (harg5 : arg5.IsWhole) (arg6 : Memref sig .tc .vmem S1x512x4096 .bf16) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x512x256 .bf16) (harg9 : arg9.IsWhole) (arg10 : Memref sig .tc .vmem S8x256x256 .bf16) (harg10 : arg10.IsWhole) (arg11 : Memref sig .tc .vmem S8x256x256 .bf16) (harg11 : arg11.IsWhole) (arg12 : Memref sig .tc .vmem S8x256x256 .bf16) (harg12 : arg12.IsWhole) (arg13 : Memref sig .tc .vmem S8x1x256 .f32) (harg13 : arg13.IsWhole) (arg14 : Memref sig .tc .vmem S8x80x256 .f32) (harg14 : arg14.IsWhole) : Prog (TpuEff nD τ sig (Elt F) Λ₀ .tc) PUnit := do
  k0_part110 i arg3 harg3 arg4 harg4 arg5 harg5 arg6 harg6 arg7 harg7 arg8 harg8 arg9 harg9 arg10 harg10 arg11 harg11 arg12 harg12 arg13 harg13 arg14 harg14
  k0_part111 i arg3 harg3 arg4 harg4 arg5 harg5 arg6 harg6 arg7 harg7 arg8 harg8 arg9 harg9 arg10 harg10 arg11 harg11 arg12 harg12 arg13 harg13 arg14 harg14
  let v614 : Vec F S1x64x256 .f32 ← Prog.lift (.load arg14 (Rect.unit (s := S8x80x256) ![6, 0, 0] S1x64x256.size inb_S8x80x256_S1x64x256_6_0_0).toLoadRect (View.loadsAt_vmem h_S1x64x256))
  let v616 : Vec F S1x1x256 .f32 ← Prog.lift (.load arg14 (Rect.unit (s := S8x80x256) ![6, 64, 0] S1x1x256.size inb_S8x80x256_S1x1x256_6_64_0).toLoadRect (View.loadsAt_vmem h_S1x1x256))
  let v621 : Vec F S1x64x256 .bf16 ← Prog.lift (.load arg9 (Rect.unit (s := S1x512x256) ![0, 384, 0] S1x64x256.size inb_S1x512x256_S1x64x256_0_384_0).toLoadRect (View.loadsAt_vmem h_S1x64x256))
  Prog.lift (.store arg9 (Rect.unit (s := S1x512x256) ![0, 384, 0] S1x64x256.size inb_S1x512x256_S1x64x256_0_384_0) (k0_pay1 v614 v616) Finset.univ (View.stores_vmem h_S1x64x256 (harg9.storeExact_slice rfl _ packedbf16_S1x512x256_S1x64x256_0_384_0) (fun _ => rfl)) (.inl rfl))
  let v624 : Vec F S1x64x256 .f32 ← Prog.lift (.load arg14 (Rect.unit (s := S8x80x256) ![7, 0, 0] S1x64x256.size inb_S8x80x256_S1x64x256_7_0_0).toLoadRect (View.loadsAt_vmem h_S1x64x256))
  let v626 : Vec F S1x1x256 .f32 ← Prog.lift (.load arg14 (Rect.unit (s := S8x80x256) ![7, 64, 0] S1x1x256.size inb_S8x80x256_S1x1x256_7_64_0).toLoadRect (View.loadsAt_vmem h_S1x1x256))
  let v631 : Vec F S1x64x256 .bf16 ← Prog.lift (.load arg9 (Rect.unit (s := S1x512x256) ![0, 448, 0] S1x64x256.size inb_S1x512x256_S1x64x256_0_448_0).toLoadRect (View.loadsAt_vmem h_S1x64x256))
  Prog.lift (.store arg9 (Rect.unit (s := S1x512x256) ![0, 448, 0] S1x64x256.size inb_S1x512x256_S1x64x256_0_448_0) (k0_pay2 v624 v626) Finset.univ (View.stores_vmem h_S1x64x256 (harg9.storeExact_slice rfl _ packedbf16_S1x512x256_S1x64x256_0_448_0) (fun _ => rfl)) (.inl rfl))
  pure ⟨⟩

theorem body_eq (i : grid0.Coords) (arg3 : Memref sig .tc .vmem S1x512x256 .bf16) (harg3 : arg3.IsWhole) (arg4 : Memref sig .tc .vmem S1x512x256 .bf16) (harg4 : arg4.IsWhole) (arg5 : Memref sig .tc .vmem S1x4096x1024 .bf16) (harg5 : arg5.IsWhole) (arg6 : Memref sig .tc .vmem S1x512x4096 .bf16) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x512x256 .bf16) (harg9 : arg9.IsWhole) (arg10 : Memref sig .tc .vmem S8x256x256 .bf16) (harg10 : arg10.IsWhole) (arg11 : Memref sig .tc .vmem S8x256x256 .bf16) (harg11 : arg11.IsWhole) (arg12 : Memref sig .tc .vmem S8x256x256 .bf16) (harg12 : arg12.IsWhole) (arg13 : Memref sig .tc .vmem S8x1x256 .f32) (harg13 : arg13.IsWhole) (arg14 : Memref sig .tc .vmem S8x80x256 .f32) (harg14 : arg14.IsWhole) : cc0_fox_attn (F := F) i arg3 harg3 arg4 harg4 arg5 harg5 arg6 harg6 arg7 harg7 arg8 harg8 arg9 harg9 arg10 harg10 arg11 harg11 arg12 harg12 arg13 harg13 arg14 harg14 = (pro i arg3 harg3 arg4 harg4 arg5 harg5 arg6 harg6 arg7 harg7 arg8 harg8 arg9 harg9 arg10 harg10 arg11 harg11 arg12 harg12 arg13 harg13 arg14 harg14 >>= fun r => k0_part109 i arg3 harg3 arg4 harg4 arg5 harg5 arg6 harg6 arg7 harg7 arg8 harg8 arg9 harg9 arg10 harg10 arg11 harg11 arg12 harg12 arg13 harg13 arg14 harg14 r.1 r.2.1 r.2.2.1 (r.2.2.2.2.1 0) (r.2.2.2.2.1 1) (r.2.2.2.2.1 2) (r.2.2.2.2.1 3) (r.2.2.2.2.1 4) (r.2.2.2.2.1 5) (r.2.2.2.2.1 6) (r.2.2.2.2.1 7) (r.2.2.2.2.2 0) (r.2.2.2.2.2 1) (r.2.2.2.2.2 2) (r.2.2.2.2.2 3) (r.2.2.2.2.2 4) (r.2.2.2.2.2 5) (r.2.2.2.2.2 6) (r.2.2.2.2.2 7) r.2.2.2.1 >>= fun _ => epi i arg3 harg3 arg4 harg4 arg5 harg5 arg6 harg6 arg7 harg7 arg8 harg8 arg9 harg9 arg10 harg10 arg11 harg11 arg12 harg12 arg13 harg13 arg14 harg14) := by
  rw [cc0_fox_attn_eq_skeleton]; unfold cc0_fox_attn_skel
  simp only [pro, epi, bind_assoc, pure_bind]
  rfl

set_option maxHeartbeats 4000000 in
theorem pro_spec (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S1x4096x1024 .bf16) (harg5 : arg5.IsWhole) (arg6 : Memref sig .tc .vmem S1x512x4096 .bf16) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x512x256 .bf16) (harg9 : arg9.IsWhole) (arg10 : Memref sig .tc .vmem S8x256x256 .bf16) (harg10 : arg10.IsWhole) (arg11 : Memref sig .tc .vmem S8x256x256 .bf16) (harg11 : arg11.IsWhole) (arg12 : Memref sig .tc .vmem S8x256x256 .bf16) (harg12 : arg12.IsWhole) (arg13 : Memref sig .tc .vmem S8x1x256 .f32) (harg13 : arg13.IsWhole) (arg14 : Memref sig .tc .vmem S8x80x256 .f32) (harg14 : arg14.IsWhole) (X3 X4 : Vec F S1x512x256 .bf16) (X7 X8 : Vec F S1x64x256 .f32) (E : Set ℕ) (K : (BitVec 32 × IVec S256x256 32 × IVec S256x256 32 × FVec F S8x80x256 .f32 × (Fin 8 → FVec F S256x256 .bf16) × (Fin 8 → FVec F S256x256 .bf16)) → sProp (MM F)) :
    iprop((arg3.view.loc (c : Thread nD τ) ↦[arg3.view.set]{fullShare} harg3.unread X3) ∗ (arg4.view.loc (c : Thread nD τ) ↦[arg4.view.set]{fullShare} harg4.unread X4) ∗ (arg7.view.loc (c : Thread nD τ) ↦[arg7.view.set]{fullShare} harg7.unread X7) ∗ (arg8.view.loc (c : Thread nD τ) ↦[arg8.view.set]{fullShare} harg8.unread X8) ∗ (∃ f, arg13.view.loc (c : Thread nD τ) ↦[arg13.view.set]{fullShare} f) ∗ (∃ f, arg14.view.loc (c : Thread nD τ) ↦[arg14.view.set]{fullShare} f)
      ∗ (iprop((arg3.view.loc (c : Thread nD τ) ↦[arg3.view.set]{fullShare} harg3.unread X3) ∗ (arg4.view.loc (c : Thread nD τ) ↦[arg4.view.set]{fullShare} harg4.unread X4) ∗ (arg7.view.loc (c : Thread nD τ) ↦[arg7.view.set]{fullShare} harg7.unread X7) ∗ (arg8.view.loc (c : Thread nD τ) ↦[arg8.view.set]{fullShare} harg8.unread X8) ∗ (arg13.view.loc (c : Thread nD τ) ↦[arg13.view.set]{fullShare} harg13.unread (k0_pay588 (F := F))) ∗ (∃ f, arg14.view.loc (c : Thread nD τ) ↦[arg14.view.set]{fullShare} f)) -∗
        K (BitVec.ofNat 32 (i 2).val, iota .tc S256x256 32 [0] iota_S256x256_d0_w32, iota .tc S256x256 32 [1] iota_S256x256_d1_w32, k0_pay589 (F := F), Wof X3 X7, Wof X4 X8)))
    ⊢ wp frame (wpE (defs₀ (F := F)) Variants.none c none) E (pro i arg3 harg3 arg4 harg4 arg5 harg5 arg6 harg6 arg7 harg7 arg8 harg8 arg9 harg9 arg10 harg10 arg11 harg11 arg12 harg12 arg13 harg13 arg14 harg14) K := by
  unfold pro
  simp only [k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton]
  iintro ⟨H3, H4, H7, H8, ⟨%f13, H13⟩, ⟨%f14, H14⟩, Hk⟩
  have hK : ∀ r r', r = r' → (K r : sProp (MM F)) ⊢ K r' := fun r r' e => e ▸ .rfl
  sl_exec
  sl_step
  iapply (hK _ _ ?_)
  swap
  iapply Hk
  isplitl [H3]; · iexact H3
  isplitl [H4]; · iexact H4
  isplitl [H7]; · iexact H7
  isplitl [H8]; · iexact H8
  isplitl [H13]
  · refine to_unread c harg13 ?_
    sl_open_run
    exact whole3 _ _ _ _
  · iexists _; iexact H14
  · sl_open_run; (repeat rw [ld3]); rfl

set_option maxHeartbeats 4000000 in
theorem epi_spec (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S1x4096x1024 .bf16) (harg5 : arg5.IsWhole) (arg6 : Memref sig .tc .vmem S1x512x4096 .bf16) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x512x256 .bf16) (harg9 : arg9.IsWhole) (arg10 : Memref sig .tc .vmem S8x256x256 .bf16) (harg10 : arg10.IsWhole) (arg11 : Memref sig .tc .vmem S8x256x256 .bf16) (harg11 : arg11.IsWhole) (arg12 : Memref sig .tc .vmem S8x256x256 .bf16) (harg12 : arg12.IsWhole) (arg13 : Memref sig .tc .vmem S8x1x256 .f32) (harg13 : arg13.IsWhole) (arg14 : Memref sig .tc .vmem S8x80x256 .f32) (harg14 : arg14.IsWhole) (X14 : Vec F S8x80x256 .f32) (E : Set ℕ) (K : PUnit → sProp (MM F)) :
    iprop((∃ f, arg9.view.loc (c : Thread nD τ) ↦[arg9.view.set]{fullShare} f) ∗ (arg14.view.loc (c : Thread nD τ) ↦[arg14.view.set]{fullShare} harg14.unread X14)
      ∗ (iprop((arg9.view.loc (c : Thread nD τ) ↦[arg9.view.set]{fullShare} harg9.unread (rows fun h => k0_pay1 (slab h.val 0 0 X14) (slab h.val 64 0 X14))) ∗ (arg14.view.loc (c : Thread nD τ) ↦[arg14.view.set]{fullShare} harg14.unread X14)) -∗ K ⟨⟩))
    ⊢ wp frame (wpE (defs₀ (F := F)) Variants.none c none) E (epi i arg3 harg3 arg4 harg4 arg5 harg5 arg6 harg6 arg7 harg7 arg8 harg8 arg9 harg9 arg10 harg10 arg11 harg11 arg12 harg12 arg13 harg13 arg14 harg14) K := by
  unfold epi
  simp only [k0_part110_eq_skeleton, k0_part111_eq_skeleton]
  iintro ⟨⟨%f9, H9⟩, H14, Hk⟩
  sl_exec
  sl_step
  iapply Hk
  isplitl [H9]
  · refine (to_unread c harg9 (stack9 arg9.view _ (fun h => k0_pay1 (slab h.val 0 0 X14) (slab h.val 64 0 X14)) _ _ _ _ _ _ _ _ _ _ _ _ _ _ _ _ ?_ ?_ ?_ ?_ ?_ ?_ ?_ ?_))
    all_goals (sl_open_run; (repeat rw [ld3]); rfl)
  · iexact H14

end Cert.AttnIdeal.Fox

end
-- ==== Proof.AttnCol.lean ====
/- A column of queries against its blocks of keys: what the maxima and the accumulators hold block after block, and what they end at. -/
module

public import proofs.«01_k».proof.Proof.AttnMid
public import proofs.«01_k».proof.Proof.AttnEnds

@[expose] public section

set_option maxRecDepth 16384

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- Head `h`'s maxima after `j` blocks, -/
def hM (W : Fin 8 → FVec F S256x256 .bf16) (K : Vec F S1x4096x1024 .bf16) (h : Fin 8) : ℕ → Vec F S1x1x256 .f32
  | 0 => slab h.val 0 0 (k0_pay588 (F := F))
  | j + 1 => k0_pay74 (lgH W K j h) (hM W K h j)

/-- its accumulator after `j` blocks, -/
def hA (W : Fin 8 → FVec F S256x256 .bf16) (K : Vec F S1x4096x1024 .bf16) (V : Vec F S1x512x4096 .bf16) (h : Fin 8) : ℕ → Vec F S1x80x256 .f32
  | 0 => slab h.val 0 0 (k0_pay589 (F := F))
  | j + 1 => stepU (lgH W K j h) (hM W K h j) (slab 0 (64 * h.val) (256 * j) V) (hA W K V h j)

/-- and after the block on the diagonal, the `n`th. -/
def hO (ki qi : IVec S256x256 32) (W : Fin 8 → FVec F S256x256 .bf16) (K : Vec F S1x4096x1024 .bf16) (V : Vec F S1x512x4096 .bf16) (n : ℕ) (h : Fin 8) : Vec F S1x80x256 .f32 :=
  stepM ki qi (lgH W K n h) (hM W K h n) (slab 0 (64 * h.val) (256 * n) V) (hA W K V h n)

theorem stk_slab {α : Type} {n1 n2 : ℕ} [NeZero n1] [NeZero n2] (X : (⟨3, ![8, n1, n2]⟩ : Shape).Idx → α) : stk (fun h => slab h.val 0 0 X) = X := by
  funext y
  show X (ix3 (Fin.ofNat 8 ((y 0 : Fin 8).val + 0)) (Fin.ofNat n1 (0 + (y 1 : Fin n1).val)) (Fin.ofNat n2 (0 + (y 2 : Fin n2).val))) = X y
  congr 1
  funext a; refine Fin.ext ?_
  match a with
  | ⟨0, _⟩ => exact Nat.mod_eq_of_lt (y 0).isLt
  | ⟨1, _⟩ => exact (congrArg (· % n1) (Nat.zero_add _)).trans (Nat.mod_eq_of_lt (y 1).isLt)
  | ⟨2, _⟩ => exact (congrArg (· % n2) (Nat.zero_add _)).trans (Nat.mod_eq_of_lt (y 2).isLt)

theorem trips0 : ∀ i : grid0.Coords, k0_cond1 i = 1#1 → (k0_t1_loop i).trips = 0 ∧ (i 2).val = 0 := by decide +kernel
theorem trips1 : ∀ i : grid0.Coords, k0_cond3 i = 1#1 → 2 * (k0_t1_loop i).trips + 1 = (i 2).val := by decide +kernel
theorem trips2 : ∀ i : grid0.Coords, k0_cond4 i = 1#1 → 2 * (k0_t1_loop i).trips + 2 = (i 2).val := by decide +kernel
theorem tripsr : ∀ i : grid0.Coords, (k0_t2_loop i).trips = 0 := by decide +kernel

variable (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S1x4096x1024 .bf16) (harg5 : arg5.IsWhole) (arg6 : Memref sig .tc .vmem S1x512x4096 .bf16) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x512x256 .bf16) (harg9 : arg9.IsWhole) (arg10 : Memref sig .tc .vmem S8x256x256 .bf16) (harg10 : arg10.IsWhole) (arg11 : Memref sig .tc .vmem S8x256x256 .bf16) (harg11 : arg11.IsWhole) (arg12 : Memref sig .tc .vmem S8x256x256 .bf16) (harg12 : arg12.IsWhole) (arg13 : Memref sig .tc .vmem S8x1x256 .f32) (harg13 : arg13.IsWhole) (arg14 : Memref sig .tc .vmem S8x80x256 .f32) (harg14 : arg14.IsWhole) (ki qi : IVec S256x256 32) (W W' : Fin 8 → FVec F S256x256 .bf16)
  (X5 : Vec F S1x4096x1024 .bf16) (X6 : Vec F S1x512x4096 .bf16) (E : Set ℕ)

theorem clr_spec (v523 : FVec F S8x80x256 .f32) (K : PUnit → sProp (MM F)) :
    iprop((∃ f, arg14.view.loc (c : Thread nD τ) ↦[arg14.view.set]{fullShare} f) ∗ (iprop((arg14.view.loc (c : Thread nD τ) ↦[arg14.view.set]{fullShare} harg14.unread v523)) -∗ K ⟨⟩)) ⊢ wp frame (wpE (defs₀ (F := F)) Variants.none c none) E (clr arg3 harg3 arg4 harg4 arg5 harg5 arg6 harg6 arg7 harg7 arg8 harg8 arg9 harg9 arg10 harg10 arg11 harg11 arg12 harg12 arg13 harg13 arg14 harg14 v523) K := by
  unfold clr
  iintro ⟨⟨%f, H⟩, Hk⟩
  sl_exec
  sl_step
  iapply Hk
  refine to_unread c harg14 ?_
  sl_open_run
  exact whole3 _ _ _ _

/-- The loop takes the state after one block to the state after one block and two more a trip. -/
theorem lp1_spec (arg2 : BitVec 32) (v523 : FVec F S8x80x256 .f32) (K : PUnit → sProp (MM F)) :
    iprop((arg5.view.loc (c : Thread nD τ) ↦[arg5.view.set]{fullShare} harg5.unread X5) ∗ (arg6.view.loc (c : Thread nD τ) ↦[arg6.view.set]{fullShare} harg6.unread X6) ∗ (∃ f, arg10.view.loc (c : Thread nD τ) ↦[arg10.view.set]{fullShare} f) ∗ (arg11.view.loc (c : Thread nD τ) ↦[arg11.view.set]{fullShare} harg11.unread (lgS W X5 1)) ∗ (arg13.view.loc (c : Thread nD τ) ↦[arg13.view.set]{fullShare} harg13.unread (stk fun h => hM W X5 h 1)) ∗ (arg14.view.loc (c : Thread nD τ) ↦[arg14.view.set]{fullShare} harg14.unread (stk fun h => hA W X5 X6 h 1))
      ∗ (iprop((arg5.view.loc (c : Thread nD τ) ↦[arg5.view.set]{fullShare} harg5.unread X5) ∗ (arg6.view.loc (c : Thread nD τ) ↦[arg6.view.set]{fullShare} harg6.unread X6) ∗ (∃ f, arg10.view.loc (c : Thread nD τ) ↦[arg10.view.set]{fullShare} f) ∗ (arg11.view.loc (c : Thread nD τ) ↦[arg11.view.set]{fullShare} harg11.unread (lgS W X5 (2 * (k0_t1_loop i).trips + 1))) ∗ (arg13.view.loc (c : Thread nD τ) ↦[arg13.view.set]{fullShare} harg13.unread (stk fun h => hM W X5 h (2 * (k0_t1_loop i).trips + 1))) ∗ (arg14.view.loc (c : Thread nD τ) ↦[arg14.view.set]{fullShare} harg14.unread (stk fun h => hA W X5 X6 h (2 * (k0_t1_loop i).trips + 1)))) -∗ K ⟨⟩))
    ⊢ wp frame (wpE (defs₀ (F := F)) Variants.none c none) E (lp1 i arg3 harg3 arg4 harg4 arg5 harg5 arg6 harg6 arg7 harg7 arg8 harg8 arg9 harg9 arg10 harg10 arg11 harg11 arg12 harg12 arg13 harg13 arg14 harg14 arg2 ki qi W W' v523) K := by
  unfold lp1
  iintro ⟨H5, H6, H10, H11, H13, H14, Hk⟩
  iapply (Scf.wp_for frame (wpE (defs₀ (F := F)) Variants.none c none) E _ _ _ (k0_t1_ok i) _ _
    (fun k _ => iprop((arg5.view.loc (c : Thread nD τ) ↦[arg5.view.set]{fullShare} harg5.unread X5) ∗ (arg6.view.loc (c : Thread nD τ) ↦[arg6.view.set]{fullShare} harg6.unread X6) ∗ (∃ f, arg10.view.loc (c : Thread nD τ) ↦[arg10.view.set]{fullShare} f) ∗ (arg11.view.loc (c : Thread nD τ) ↦[arg11.view.set]{fullShare} harg11.unread (lgS W X5 (2 * k + 1))) ∗ (arg13.view.loc (c : Thread nD τ) ↦[arg13.view.set]{fullShare} harg13.unread (stk fun h => hM W X5 h (2 * k + 1))) ∗ (arg14.view.loc (c : Thread nD τ) ↦[arg14.view.set]{fullShare} harg14.unread (stk fun h => hA W X5 X6 h (2 * k + 1))))) ?_)
  · intro k acc
    iintro ⟨H5, H6, H10, H11, H13, H14⟩
    iapply (trip_spec c i arg3 harg3 arg4 harg4 arg5 harg5 arg6 harg6 arg7 harg7 arg8 harg8 arg9 harg9 arg10 harg10 arg11 harg11 arg12 harg12 arg13 harg13 arg14 harg14 arg2 ki qi W W' v523 k X5 X6 (lgS W X5 (2 * k.val + 1)) (stk fun h => hM W X5 h (2 * k.val + 1)) (stk fun h => hA W X5 X6 h (2 * k.val + 1)) E _)
    isplitl [H5]; · iexact H5
    isplitl [H6]; · iexact H6
    isplitl [H10]; · iexact H10
    isplitl [H11]; · iexact H11
    isplitl [H13]; · iexact H13
    isplitl [H14]; · iexact H14
    iintro ⟨H5, H6, H10, H11, H13, H14⟩
    isplitl [H5]; · iexact H5
    isplitl [H6]; · iexact H6
    isplitl [H10]; · iexists _; iexact H10
    simp only [lgS, slab_stk]
    isplitl [H11]; · iexact H11
    isplitl [H13]; · iexact H13
    iexact H14
  · isplitr [Hk]
    · isplitl [H5]; · iexact H5
      isplitl [H6]; · iexact H6
      isplitl [H10]; · iexact H10
      isplitl [H11]; · iexact H11
      isplitl [H13]; · iexact H13
      iexact H14
    · iintro %acc H
      iapply Hk; iexact H

theorem lp1z_spec (arg2 : BitVec 32) (v523 : FVec F S8x80x256 .f32) (hz : (k0_t1_loop i).trips = 0) (K : PUnit → sProp (MM F)) :
    K ⟨⟩ ⊢ wp frame (wpE (defs₀ (F := F)) Variants.none c none) E (lp1 i arg3 harg3 arg4 harg4 arg5 harg5 arg6 harg6 arg7 harg7 arg8 harg8 arg9 harg9 arg10 harg10 arg11 harg11 arg12 harg12 arg13 harg13 arg14 harg14 arg2 ki qi W W' v523) K := by
  unfold lp1
  iintro H
  iapply (Scf.wp_for frame (wpE (defs₀ (F := F)) Variants.none c none) E _ _ _ (k0_t1_ok i) _ _ (fun _ _ => iprop(K ⟨⟩)) ?_)
  · intro k acc
    exact absurd k.isLt (by have : Scf.trips (k0_t1_loop i).lb (k0_t1_loop i).ub (k0_t1_loop i).st = 0 := hz; omega)
  · isplitl [H]; · iexact H
    iintro %acc H
    iexact H

/-- The remainder loop does nothing. -/
theorem lp2_spec (arg2 : BitVec 32) (v523 : FVec F S8x80x256 .f32) (w : BitVec 32) (K : PUnit → sProp (MM F)) :
    K ⟨⟩ ⊢ wp frame (wpE (defs₀ (F := F)) Variants.none c none) E (lp2 i arg3 harg3 arg4 harg4 arg5 harg5 arg6 harg6 arg7 harg7 arg8 harg8 arg9 harg9 arg10 harg10 arg11 harg11 arg12 harg12 arg13 harg13 arg14 harg14 arg2 ki qi W W' v523 w) K := by
  unfold lp2
  iintro H
  iapply (Scf.wp_for frame (wpE (defs₀ (F := F)) Variants.none c none) E _ _ _ (k0_t2_ok i) _ _ (fun _ _ => iprop(K ⟨⟩)) ?_)
  · intro k acc
    exact absurd k.isLt (by have := tripsr i; have : Scf.trips (k0_t2_loop i).lb (k0_t2_loop i).ub (k0_t2_loop i).st = 0 := this; omega)
  · isplitl [H]; · iexact H
    iintro %acc H
    iexact H

theorem mid0_spec (arg2 : BitVec 32) (h1 : k0_cond1 i = 1#1) (h2 : ¬k0_cond2 i = 1#1) (h3 : ¬k0_cond3 i = 1#1) (h4 : ¬k0_cond4 i = 1#1) (K : PUnit → sProp (MM F)) :
    iprop((arg5.view.loc (c : Thread nD τ) ↦[arg5.view.set]{fullShare} harg5.unread X5) ∗ (arg6.view.loc (c : Thread nD τ) ↦[arg6.view.set]{fullShare} harg6.unread X6) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (arg13.view.loc (c : Thread nD τ) ↦[arg13.view.set]{fullShare} harg13.unread (k0_pay588 (F := F))) ∗ (∃ f, arg14.view.loc (c : Thread nD τ) ↦[arg14.view.set]{fullShare} f) ∗ (iprop((arg5.view.loc (c : Thread nD τ) ↦[arg5.view.set]{fullShare} harg5.unread X5) ∗ (arg6.view.loc (c : Thread nD τ) ↦[arg6.view.set]{fullShare} harg6.unread X6) ∗ (∃ f, arg10.view.loc (c : Thread nD τ) ↦[arg10.view.set]{fullShare} f) ∗ (∃ f, arg11.view.loc (c : Thread nD τ) ↦[arg11.view.set]{fullShare} f) ∗ (arg12.view.loc (c : Thread nD τ) ↦[arg12.view.set]{fullShare} harg12.unread (lgS W' X5 0)) ∗ (∃ f, arg13.view.loc (c : Thread nD τ) ↦[arg13.view.set]{fullShare} f) ∗ (arg14.view.loc (c : Thread nD τ) ↦[arg14.view.set]{fullShare} harg14.unread (stk (hO ki qi W X5 X6 (i 2).val)))) -∗ K ⟨⟩))
    ⊢ wp frame (wpE (defs₀ (F := F)) Variants.none c none) E (k0_part109 i arg3 harg3 arg4 harg4 arg5 harg5 arg6 harg6 arg7 harg7 arg8 harg8 arg9 harg9 arg10 harg10 arg11 harg11 arg12 harg12 arg13 harg13 arg14 harg14 arg2 ki qi (W 0) (W 1) (W 2) (W 3) (W 4) (W 5) (W 6) (W 7) (W' 0) (W' 1) (W' 2) (W' 3) (W' 4) (W' 5) (W' 6) (W' 7) (k0_pay589 (F := F))) K := by
  rw [mid0_eq i arg3 harg3 arg4 harg4 arg5 harg5 arg6 harg6 arg7 harg7 arg8 harg8 arg9 harg9 arg10 harg10 arg11 harg11 arg12 harg12 arg13 harg13 arg14 harg14 arg2 ki qi W W' (k0_pay589 (F := F)) h1 h2 h3 h4]
  iintro ⟨H5, H6, H10, H11, H12, H13, H14, Hk⟩
  rw [wp_bind]
  iapply (clr_spec c arg3 harg3 arg4 harg4 arg5 harg5 arg6 harg6 arg7 harg7 arg8 harg8 arg9 harg9 arg10 harg10 arg11 harg11 arg12 harg12 arg13 harg13 arg14 harg14 E (k0_pay589 (F := F)) _)
  isplitl [H14]; · iexact H14
  iintro H14
  rw [wp_bind]
  iapply (regA_spec c i arg3 harg3 arg4 harg4 arg5 harg5 arg6 harg6 arg7 harg7 arg8 harg8 arg9 harg9 arg10 harg10 arg11 harg11 arg12 harg12 arg13 harg13 arg14 harg14 ki qi W W' h1 X5 X6 (k0_pay588 (F := F)) (k0_pay589 (F := F)) E _)
  isplitl [H5]; · iexact H5
  isplitl [H6]; · iexact H6
  isplitl [H12]; · iexact H12
  isplitl [H13]; · iexact H13
  isplitl [H14]; · iexact H14
  iintro ⟨H5, H6, H12, H13, H14⟩
  rw [wp_bind]
  iapply (lp1z_spec c i arg3 harg3 arg4 harg4 arg5 harg5 arg6 harg6 arg7 harg7 arg8 harg8 arg9 harg9 arg10 harg10 arg11 harg11 arg12 harg12 arg13 harg13 arg14 harg14 ki qi W W' E arg2 (k0_pay589 (F := F)) (trips0 i h1).1 _)
  rw [wp_bind]
  iapply (lp2_spec c i arg3 harg3 arg4 harg4 arg5 harg5 arg6 harg6 arg7 harg7 arg8 harg8 arg9 harg9 arg10 harg10 arg11 harg11 arg12 harg12 arg13 harg13 arg14 harg14 ki qi W W' E arg2 (k0_pay589 (F := F)) _ _)
  rw [wp_bind]
  iapply (le_wp_ret _ _ _ _ _)
  iapply (le_wp_ret _ _ _ _ _)
  iapply Hk
  isplitl [H5]; · iexact H5
  isplitl [H6]; · iexact H6
  isplitl [H10]; · iexact H10
  isplitl [H11]; · iexact H11
  isplitl [H12]; · iexact H12
  isplitl [H13]; · iexists _; iexact H13
  rw [(trips0 i h1).2]
  iexact H14

theorem mid1_spec (arg2 : BitVec 32) (h1 : ¬k0_cond1 i = 1#1) (h2 : k0_cond2 i = 1#1) (h3 : k0_cond3 i = 1#1) (h4 : ¬k0_cond4 i = 1#1) (K : PUnit → sProp (MM F)) :
    iprop((arg5.view.loc (c : Thread nD τ) ↦[arg5.view.set]{fullShare} harg5.unread X5) ∗ (arg6.view.loc (c : Thread nD τ) ↦[arg6.view.set]{fullShare} harg6.unread X6) ∗ (∃ f, arg10.view.loc (c : Thread nD τ) ↦[arg10.view.set]{fullShare} f) ∗ (∃ f, arg11.view.loc (c : Thread nD τ) ↦[arg11.view.set]{fullShare} f) ∗ (arg12.view.loc (c : Thread nD τ) ↦[arg12.view.set]{fullShare} harg12.unread (lgS W X5 0)) ∗ (arg13.view.loc (c : Thread nD τ) ↦[arg13.view.set]{fullShare} harg13.unread (k0_pay588 (F := F))) ∗ (∃ f, arg14.view.loc (c : Thread nD τ) ↦[arg14.view.set]{fullShare} f) ∗ (iprop((arg5.view.loc (c : Thread nD τ) ↦[arg5.view.set]{fullShare} harg5.unread X5) ∗ (arg6.view.loc (c : Thread nD τ) ↦[arg6.view.set]{fullShare} harg6.unread X6) ∗ (∃ f, arg10.view.loc (c : Thread nD τ) ↦[arg10.view.set]{fullShare} f) ∗ (∃ f, arg11.view.loc (c : Thread nD τ) ↦[arg11.view.set]{fullShare} f) ∗ (arg12.view.loc (c : Thread nD τ) ↦[arg12.view.set]{fullShare} harg12.unread (lgS W' X5 0)) ∗ (∃ f, arg13.view.loc (c : Thread nD τ) ↦[arg13.view.set]{fullShare} f) ∗ (arg14.view.loc (c : Thread nD τ) ↦[arg14.view.set]{fullShare} harg14.unread (stk (hO ki qi W X5 X6 (i 2).val)))) -∗ K ⟨⟩))
    ⊢ wp frame (wpE (defs₀ (F := F)) Variants.none c none) E (k0_part109 i arg3 harg3 arg4 harg4 arg5 harg5 arg6 harg6 arg7 harg7 arg8 harg8 arg9 harg9 arg10 harg10 arg11 harg11 arg12 harg12 arg13 harg13 arg14 harg14 arg2 ki qi (W 0) (W 1) (W 2) (W 3) (W 4) (W 5) (W 6) (W 7) (W' 0) (W' 1) (W' 2) (W' 3) (W' 4) (W' 5) (W' 6) (W' 7) (k0_pay589 (F := F))) K := by
  rw [mid1_eq i arg3 harg3 arg4 harg4 arg5 harg5 arg6 harg6 arg7 harg7 arg8 harg8 arg9 harg9 arg10 harg10 arg11 harg11 arg12 harg12 arg13 harg13 arg14 harg14 arg2 ki qi W W' (k0_pay589 (F := F)) h1 h2 h3 h4]
  iintro ⟨H5, H6, H10, H11, H12, H13, H14, Hk⟩
  rw [wp_bind]
  iapply (clr_spec c arg3 harg3 arg4 harg4 arg5 harg5 arg6 harg6 arg7 harg7 arg8 harg8 arg9 harg9 arg10 harg10 arg11 harg11 arg12 harg12 arg13 harg13 arg14 harg14 E (k0_pay589 (F := F)) _)
  isplitl [H14]; · iexact H14
  iintro H14
  rw [wp_bind]
  iapply (regB_spec c i arg3 harg3 arg4 harg4 arg5 harg5 arg6 harg6 arg7 harg7 arg8 harg8 arg9 harg9 arg10 harg10 arg11 harg11 arg12 harg12 arg13 harg13 arg14 harg14 W h2 X5 X6 (lgS W X5 0) (k0_pay588 (F := F)) (k0_pay589 (F := F)) E _)
  isplitl [H5]; · iexact H5
  isplitl [H6]; · iexact H6
  isplitl [H11]; · iexact H11
  isplitl [H12]; · iexact H12
  isplitl [H13]; · iexact H13
  isplitl [H14]; · iexact H14
  iintro ⟨H5, H6, H11, H12, H13, H14⟩
  rw [wp_bind]
  iapply (lp1_spec c i arg3 harg3 arg4 harg4 arg5 harg5 arg6 harg6 arg7 harg7 arg8 harg8 arg9 harg9 arg10 harg10 arg11 harg11 arg12 harg12 arg13 harg13 arg14 harg14 ki qi W W' X5 X6 E arg2 (k0_pay589 (F := F)) _)
  simp only [mU, aU, lgS, slab_stk]
  isplitl [H5]; · iexact H5
  isplitl [H6]; · iexact H6
  isplitl [H10]; · iexact H10
  isplitl [H11]; · iexact H11
  isplitl [H13]; · iexact H13
  isplitl [H14]; · iexact H14
  iintro ⟨H5, H6, H10, H11, H13, H14⟩
  rw [wp_bind]
  iapply (lp2_spec c i arg3 harg3 arg4 harg4 arg5 harg5 arg6 harg6 arg7 harg7 arg8 harg8 arg9 harg9 arg10 harg10 arg11 harg11 arg12 harg12 arg13 harg13 arg14 harg14 ki qi W W' E arg2 (k0_pay589 (F := F)) _ _)
  rw [wp_bind]
  iapply (regC_spec c i arg3 harg3 arg4 harg4 arg5 harg5 arg6 harg6 arg7 harg7 arg8 harg8 arg9 harg9 arg10 harg10 arg11 harg11 arg12 harg12 arg13 harg13 arg14 harg14 arg2 ki qi W W' h3 X5 X6 (lgS W X5 (2 * (k0_t1_loop i).trips + 1)) (stk fun h => hM W X5 h (2 * (k0_t1_loop i).trips + 1)) (stk fun h => hA W X5 X6 h (2 * (k0_t1_loop i).trips + 1)) E _)
  isplitl [H5]; · iexact H5
  isplitl [H6]; · iexact H6
  isplitl [H11]; · iexact H11
  isplitl [H12]; · iexists _; iexact H12
  isplitl [H13]; · iexact H13
  isplitl [H14]; · iexact H14
  iintro ⟨H5, H6, H11, H12, H13, H14⟩
  iapply (le_wp_ret _ _ _ _ _)
  iapply Hk
  isplitl [H5]; · iexact H5
  isplitl [H6]; · iexact H6
  isplitl [H10]; · iexact H10
  isplitl [H11]; · iexists _; iexact H11
  isplitl [H12]; · iexact H12
  isplitl [H13]; · iexists _; iexact H13
  simp only [aM, lgS, slab_stk, trips1 i h3]
  iexact H14

theorem mid2_spec (arg2 : BitVec 32) (h1 : ¬k0_cond1 i = 1#1) (h2 : k0_cond2 i = 1#1) (h3 : ¬k0_cond3 i = 1#1) (h4 : k0_cond4 i = 1#1) (K : PUnit → sProp (MM F)) :
    iprop((arg5.view.loc (c : Thread nD τ) ↦[arg5.view.set]{fullShare} harg5.unread X5) ∗ (arg6.view.loc (c : Thread nD τ) ↦[arg6.view.set]{fullShare} harg6.unread X6) ∗ (∃ f, arg10.view.loc (c : Thread nD τ) ↦[arg10.view.set]{fullShare} f) ∗ (∃ f, arg11.view.loc (c : Thread nD τ) ↦[arg11.view.set]{fullShare} f) ∗ (arg12.view.loc (c : Thread nD τ) ↦[arg12.view.set]{fullShare} harg12.unread (lgS W X5 0)) ∗ (arg13.view.loc (c : Thread nD τ) ↦[arg13.view.set]{fullShare} harg13.unread (k0_pay588 (F := F))) ∗ (∃ f, arg14.view.loc (c : Thread nD τ) ↦[arg14.view.set]{fullShare} f) ∗ (iprop((arg5.view.loc (c : Thread nD τ) ↦[arg5.view.set]{fullShare} harg5.unread X5) ∗ (arg6.view.loc (c : Thread nD τ) ↦[arg6.view.set]{fullShare} harg6.unread X6) ∗ (∃ f, arg10.view.loc (c : Thread nD τ) ↦[arg10.view.set]{fullShare} f) ∗ (∃ f, arg11.view.loc (c : Thread nD τ) ↦[arg11.view.set]{fullShare} f) ∗ (arg12.view.loc (c : Thread nD τ) ↦[arg12.view.set]{fullShare} harg12.unread (lgS W' X5 0)) ∗ (∃ f, arg13.view.loc (c : Thread nD τ) ↦[arg13.view.set]{fullShare} f) ∗ (arg14.view.loc (c : Thread nD τ) ↦[arg14.view.set]{fullShare} harg14.unread (stk (hO ki qi W X5 X6 (i 2).val)))) -∗ K ⟨⟩))
    ⊢ wp frame (wpE (defs₀ (F := F)) Variants.none c none) E (k0_part109 i arg3 harg3 arg4 harg4 arg5 harg5 arg6 harg6 arg7 harg7 arg8 harg8 arg9 harg9 arg10 harg10 arg11 harg11 arg12 harg12 arg13 harg13 arg14 harg14 arg2 ki qi (W 0) (W 1) (W 2) (W 3) (W 4) (W 5) (W 6) (W 7) (W' 0) (W' 1) (W' 2) (W' 3) (W' 4) (W' 5) (W' 6) (W' 7) (k0_pay589 (F := F))) K := by
  rw [mid2_eq i arg3 harg3 arg4 harg4 arg5 harg5 arg6 harg6 arg7 harg7 arg8 harg8 arg9 harg9 arg10 harg10 arg11 harg11 arg12 harg12 arg13 harg13 arg14 harg14 arg2 ki qi W W' (k0_pay589 (F := F)) h1 h2 h3 h4]
  iintro ⟨H5, H6, H10, H11, H12, H13, H14, Hk⟩
  rw [wp_bind]
  iapply (clr_spec c arg3 harg3 arg4 harg4 arg5 harg5 arg6 harg6 arg7 harg7 arg8 harg8 arg9 harg9 arg10 harg10 arg11 harg11 arg12 harg12 arg13 harg13 arg14 harg14 E (k0_pay589 (F := F)) _)
  isplitl [H14]; · iexact H14
  iintro H14
  rw [wp_bind]
  iapply (regB_spec c i arg3 harg3 arg4 harg4 arg5 harg5 arg6 harg6 arg7 harg7 arg8 harg8 arg9 harg9 arg10 harg10 arg11 harg11 arg12 harg12 arg13 harg13 arg14 harg14 W h2 X5 X6 (lgS W X5 0) (k0_pay588 (F := F)) (k0_pay589 (F := F)) E _)
  isplitl [H5]; · iexact H5
  isplitl [H6]; · iexact H6
  isplitl [H11]; · iexact H11
  isplitl [H12]; · iexact H12
  isplitl [H13]; · iexact H13
  isplitl [H14]; · iexact H14
  iintro ⟨H5, H6, H11, H12, H13, H14⟩
  rw [wp_bind]
  iapply (lp1_spec c i arg3 harg3 arg4 harg4 arg5 harg5 arg6 harg6 arg7 harg7 arg8 harg8 arg9 harg9 arg10 harg10 arg11 harg11 arg12 harg12 arg13 harg13 arg14 harg14 ki qi W W' X5 X6 E arg2 (k0_pay589 (F := F)) _)
  simp only [mU, aU, lgS, slab_stk]
  isplitl [H5]; · iexact H5
  isplitl [H6]; · iexact H6
  isplitl [H10]; · iexact H10
  isplitl [H11]; · iexact H11
  isplitl [H13]; · iexact H13
  isplitl [H14]; · iexact H14
  iintro ⟨H5, H6, H10, H11, H13, H14⟩
  rw [wp_bind]
  iapply (lp2_spec c i arg3 harg3 arg4 harg4 arg5 harg5 arg6 harg6 arg7 harg7 arg8 harg8 arg9 harg9 arg10 harg10 arg11 harg11 arg12 harg12 arg13 harg13 arg14 harg14 ki qi W W' E arg2 (k0_pay589 (F := F)) _ _)
  rw [wp_bind]
  iapply (regD_spec c i arg3 harg3 arg4 harg4 arg5 harg5 arg6 harg6 arg7 harg7 arg8 harg8 arg9 harg9 arg10 harg10 arg11 harg11 arg12 harg12 arg13 harg13 arg14 harg14 arg2 ki qi W W' h4 X5 X6 (lgS W X5 (2 * (k0_t1_loop i).trips + 1)) (stk fun h => hM W X5 h (2 * (k0_t1_loop i).trips + 1)) (stk fun h => hA W X5 X6 h (2 * (k0_t1_loop i).trips + 1)) E _)
  isplitl [H5]; · iexact H5
  isplitl [H6]; · iexact H6
  isplitl [H10]; · iexact H10
  isplitl [H11]; · iexact H11
  isplitl [H12]; · iexists _; iexact H12
  isplitl [H13]; · iexact H13
  isplitl [H14]; · iexact H14
  iintro ⟨H5, H6, H10, H11, H12, H13, H14⟩
  iapply (le_wp_ret _ _ _ _ _)
  iapply Hk
  isplitl [H5]; · iexact H5
  isplitl [H6]; · iexact H6
  isplitl [H10]; · iexists _; iexact H10
  isplitl [H11]; · iexists _; iexact H11
  isplitl [H12]; · iexact H12
  isplitl [H13]; · iexists _; iexact H13
  have e : 2 * (k0_t1_loop i).trips + 1 = (i 2).val - 1 := by have := trips2 i h4; omega
  obtain ⟨n, hn⟩ : ∃ n, (i 2).val = n + 1 := ⟨_, (trips2 i h4).symm⟩
  simp only [lgS, slab_stk, e, hn, Nat.add_sub_cancel]
  iexact H14

end Cert.AttnIdeal.Fox

end
-- ==== Proof.AttnBody.lean ====
/- The attention kernel's grid: what each column is given, what it leaves, and the run. -/
module

public import proofs.«01_k».proof.Proof.AttnCol
public import Idealize.ShloMosaic.Lib.Pipeline.ValueKit.Geometry

@[expose] public section

set_option maxRecDepth 16384

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- Which of the body's conditional regions a column runs: the first column, an odd one, a later even one. -/
def Case (i : grid0.Coords) : Prop :=
  (k0_cond1 i = 1#1 ∧ ¬k0_cond2 i = 1#1 ∧ ¬k0_cond3 i = 1#1 ∧ ¬k0_cond4 i = 1#1)
  ∨ (¬k0_cond1 i = 1#1 ∧ k0_cond2 i = 1#1 ∧ k0_cond3 i = 1#1 ∧ ¬k0_cond4 i = 1#1)
  ∨ (¬k0_cond1 i = 1#1 ∧ k0_cond2 i = 1#1 ∧ ¬k0_cond3 i = 1#1 ∧ k0_cond4 i = 1#1)

instance (i : grid0.Coords) : Decidable (Case i) := by unfold Case; infer_instance

/-- Every point of the grid is one of the three. -/
theorem case_of : ∀ t : Fin cfg0.N, Case (grid0.coords t) := (by decide +kernel : ∀ t : Fin grid0.N, Case (grid0.coords t))

/-- The key's number in its block, -/
abbrev kI : IVec S256x256 32 := iota .tc S256x256 32 [0] iota_S256x256_d0_w32
/-- and the query's in its column. -/
abbrev qI : IVec S256x256 32 := iota .tc S256x256 32 [1] iota_S256x256_d1_w32

/-- What column `n` writes out, from its projections, its biases and the keys and values. -/
def outv (n : ℕ) (Q : Vec F S1x512x256 .bf16) (K : Vec F S1x4096x1024 .bf16) (V : Vec F S1x512x4096 .bf16) (N : Vec F S1x64x256 .f32) : Vec F S1x512x256 .bf16 :=
  rows fun h => k0_pay1 (slab h.val 0 0 (stk (hO kI qI (Wof Q N) K V n))) (slab h.val 64 0 (stk (hO kI qI (Wof Q N) K V n)))

/-- The first block's logits, which a column works out for the next. -/
abbrev lg0 (Q : Vec F S1x512x256 .bf16) (K : Vec F S1x4096x1024 .bf16) (N : Vec F S1x64x256 .f32) : Vec F S8x256x256 .bf16 := lgS (Wof Q N) K 0

/-- The end of the body, from the state its columns leave. -/
theorem fin (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S1x4096x1024 .bf16) (harg5 : arg5.IsWhole) (arg6 : Memref sig .tc .vmem S1x512x4096 .bf16) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x512x256 .bf16) (harg9 : arg9.IsWhole) (arg10 : Memref sig .tc .vmem S8x256x256 .bf16) (harg10 : arg10.IsWhole) (arg11 : Memref sig .tc .vmem S8x256x256 .bf16) (harg11 : arg11.IsWhole) (arg12 : Memref sig .tc .vmem S8x256x256 .bf16) (harg12 : arg12.IsWhole) (arg13 : Memref sig .tc .vmem S8x1x256 .f32) (harg13 : arg13.IsWhole) (arg14 : Memref sig .tc .vmem S8x80x256 .f32) (harg14 : arg14.IsWhole) (x0 x1 : Vec F S1x512x256 .bf16) (x2 : Vec F S1x4096x1024 .bf16) (x3 : Vec F S1x512x4096 .bf16) (x4 x5 : Vec F S1x64x256 .f32) (E : Set ℕ) (K : PUnit → sProp (MM F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (arg12.view.loc (c : Thread nD τ) ↦[arg12.view.set]{fullShare} harg12.unread (lgS (Wof x1 x5) x2 0)) ∗ (∃ f, arg13.view.loc (c : Thread nD τ) ↦[arg13.view.set]{fullShare} f) ∗ (arg14.view.loc (c : Thread nD τ) ↦[arg14.view.set]{fullShare} harg14.unread (stk (hO kI qI (Wof x0 x4) x2 x3 (i 2).val)))
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outv (i 2).val x0 x2 x3 x4) ∗ (∃ d, owns (c : Thread nD τ) arg10 fullShare d) ∗ (∃ d, owns (c : Thread nD τ) arg11 fullShare d) ∗ owns (c : Thread nD τ) arg12 fullShare (lg0 x1 x2 x5) ∗ (∃ d, owns (c : Thread nD τ) arg13 fullShare d) ∗ (∃ d, owns (c : Thread nD τ) arg14 fullShare d)) -∗ K ⟨⟩))
    ⊢ wp frame (wpE (defs₀ (F := F)) Variants.none c none) E (epi i arg3 harg3 arg4 harg4 arg5 harg5 arg6 harg6 arg7 harg7 arg8 harg8 arg9 harg9 arg10 harg10 arg11 harg11 arg12 harg12 arg13 harg13 arg14 harg14) K := by
  iintro ⟨H3, H4, H5, H6, H7, H8, H9, ⟨%f10, H10⟩, ⟨%f11, H11⟩, H12, ⟨%f13, H13⟩, H14, Hk⟩
  iapply (epi_spec c i arg3 harg3 arg4 harg4 arg5 harg5 arg6 harg6 arg7 harg7 arg8 harg8 arg9 harg9 arg10 harg10 arg11 harg11 arg12 harg12 arg13 harg13 arg14 harg14 (stk (hO kI qI (Wof x0 x4) x2 x3 (i 2).val)) E K)
  isplitl [H9]; · iexact H9
  isplitl [H14]; · iexact H14
  iintro ⟨H9, H14⟩
  iapply Hk
  isplitl [H3]; · iexact H3
  isplitl [H4]; · iexact H4
  isplitl [H5]; · iexact H5
  isplitl [H6]; · iexact H6
  isplitl [H7]; · iexact H7
  isplitl [H8]; · iexact H8
  unfold owns
  isplitl [H9]
  · iexists _; isplitr; swap; · iexact H9
    ipureintro; exact harg9.read_unread _
  isplitl [H10]
  · iexists _; iexists _; isplitr; swap; · iexact H10
    ipureintro; rfl
  isplitl [H11]
  · iexists _; iexists _; isplitr; swap; · iexact H11
    ipureintro; rfl
  isplitl [H12]
  · iexists _; isplitr; swap; · iexact H12
    ipureintro; exact harg12.read_unread _
  isplitl [H13]
  · iexists _; iexists _; isplitr; swap; · iexact H13
    ipureintro; rfl
  iexists _; iexists _; isplitr; swap; · iexact H14
  ipureintro; rfl

set_option maxHeartbeats 4000000 in
/-- The body: given the first block's logits (the first column works them out itself) it writes its output and leaves the next column's. -/
theorem run (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S1x4096x1024 .bf16) (harg5 : arg5.IsWhole) (arg6 : Memref sig .tc .vmem S1x512x4096 .bf16) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x512x256 .bf16) (harg9 : arg9.IsWhole) (arg10 : Memref sig .tc .vmem S8x256x256 .bf16) (harg10 : arg10.IsWhole) (arg11 : Memref sig .tc .vmem S8x256x256 .bf16) (harg11 : arg11.IsWhole) (arg12 : Memref sig .tc .vmem S8x256x256 .bf16) (harg12 : arg12.IsWhole) (arg13 : Memref sig .tc .vmem S8x1x256 .f32) (harg13 : arg13.IsWhole) (arg14 : Memref sig .tc .vmem S8x80x256 .f32) (harg14 : arg14.IsWhole) (x0 x1 : Vec F S1x512x256 .bf16) (x2 : Vec F S1x4096x1024 .bf16) (x3 : Vec F S1x512x4096 .bf16) (x4 x5 : Vec F S1x64x256 .f32) (d : Vec F S8x256x256 .bf16) (hd : (i 2).val ≠ 0 → d = lg0 x0 x2 x4) (hc : Case i) (E : Set ℕ) (K : PUnit → sProp (MM F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare d ∗ (∃ d, owns (c : Thread nD τ) arg13 fullShare d) ∗ (∃ d, owns (c : Thread nD τ) arg14 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outv (i 2).val x0 x2 x3 x4) ∗ (∃ d, owns (c : Thread nD τ) arg10 fullShare d) ∗ (∃ d, owns (c : Thread nD τ) arg11 fullShare d) ∗ owns (c : Thread nD τ) arg12 fullShare (lg0 x1 x2 x5) ∗ (∃ d, owns (c : Thread nD τ) arg13 fullShare d) ∗ (∃ d, owns (c : Thread nD τ) arg14 fullShare d)) -∗ K ⟨⟩))
    ⊢ wp frame (wpE (defs₀ (F := F)) Variants.none c none) E (cc0_fox_attn i arg3 harg3 arg4 harg4 arg5 harg5 arg6 harg6 arg7 harg7 arg8 harg8 arg9 harg9 arg10 harg10 arg11 harg11 arg12 harg12 arg13 harg13 arg14 harg14) K := by
  rw [body_eq]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%d13, %f13, -, H13⟩, ⟨%d14, %f14, -, H14⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12
  rw [wp_bind]
  iapply (pro_spec c i arg3 harg3 arg4 harg4 arg5 harg5 arg6 harg6 arg7 harg7 arg8 harg8 arg9 harg9 arg10 harg10 arg11 harg11 arg12 harg12 arg13 harg13 arg14 harg14 x0 x1 x4 x5 E _)
  isplitl [H3]; · iexact H3
  isplitl [H4]; · iexact H4
  isplitl [H7]; · iexact H7
  isplitl [H8]; · iexact H8
  isplitl [H13]; · iexists _; iexact H13
  isplitl [H14]; · iexists _; iexact H14
  iintro ⟨H3, H4, H7, H8, H13, H14⟩
  dsimp only
  rw [wp_bind]
  rcases hc with ⟨h1, h2, h3, h4⟩ | ⟨h1, h2, h3, h4⟩ | ⟨h1, h2, h3, h4⟩
  · iapply (mid0_spec c i arg3 harg3 arg4 harg4 arg5 harg5 arg6 harg6 arg7 harg7 arg8 harg8 arg9 harg9 arg10 harg10 arg11 harg11 arg12 harg12 arg13 harg13 arg14 harg14 kI qI (Wof x0 x4) (Wof x1 x5) x2 x3 E (BitVec.ofNat 32 (i 2).val) h1 h2 h3 h4 _)
    isplitl [H5]; · iexact H5
    isplitl [H6]; · iexact H6
    isplitl [H10]; · iexists _; iexact H10
    isplitl [H11]; · iexists _; iexact H11
    isplitl [H12]; · iexists _; iexact H12
    isplitl [H13]; · iexact H13
    isplitl [H14]; · iexact H14
    iintro ⟨H5, H6, H10, H11, H12, H13, H14⟩
    iapply (fin c i arg3 harg3 arg4 harg4 arg5 harg5 arg6 harg6 arg7 harg7 arg8 harg8 arg9 harg9 arg10 harg10 arg11 harg11 arg12 harg12 arg13 harg13 arg14 harg14 x0 x1 x2 x3 x4 x5 E K)
    unfold owns
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexact H10
    isplitl [H11]; · iexact H11
    isplitl [H12]; · iexact H12
    isplitl [H13]; · iexact H13
    isplitl [H14]; · iexact H14
    iexact Hk
  · iapply (mid1_spec c i arg3 harg3 arg4 harg4 arg5 harg5 arg6 harg6 arg7 harg7 arg8 harg8 arg9 harg9 arg10 harg10 arg11 harg11 arg12 harg12 arg13 harg13 arg14 harg14 kI qI (Wof x0 x4) (Wof x1 x5) x2 x3 E (BitVec.ofNat 32 (i 2).val) h1 h2 h3 h4 _)
    isplitl [H5]; · iexact H5
    isplitl [H6]; · iexact H6
    isplitl [H10]; · iexists _; iexact H10
    isplitl [H11]; · iexists _; iexact H11
    obtain rfl := hd (by have := trips1 i h3; omega)
    isplitl [H12]; · iexact H12
    isplitl [H13]; · iexact H13
    isplitl [H14]; · iexact H14
    iintro ⟨H5, H6, H10, H11, H12, H13, H14⟩
    iapply (fin c i arg3 harg3 arg4 harg4 arg5 harg5 arg6 harg6 arg7 harg7 arg8 harg8 arg9 harg9 arg10 harg10 arg11 harg11 arg12 harg12 arg13 harg13 arg14 harg14 x0 x1 x2 x3 x4 x5 E K)
    unfold owns
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexact H10
    isplitl [H11]; · iexact H11
    isplitl [H12]; · iexact H12
    isplitl [H13]; · iexact H13
    isplitl [H14]; · iexact H14
    iexact Hk
  · iapply (mid2_spec c i arg3 harg3 arg4 harg4 arg5 harg5 arg6 harg6 arg7 harg7 arg8 harg8 arg9 harg9 arg10 harg10 arg11 harg11 arg12 harg12 arg13 harg13 arg14 harg14 kI qI (Wof x0 x4) (Wof x1 x5) x2 x3 E (BitVec.ofNat 32 (i 2).val) h1 h2 h3 h4 _)
    isplitl [H5]; · iexact H5
    isplitl [H6]; · iexact H6
    isplitl [H10]; · iexists _; iexact H10
    isplitl [H11]; · iexists _; iexact H11
    obtain rfl := hd (by have := trips2 i h4; omega)
    isplitl [H12]; · iexact H12
    isplitl [H13]; · iexact H13
    isplitl [H14]; · iexact H14
    iintro ⟨H5, H6, H10, H11, H12, H13, H14⟩
    iapply (fin c i arg3 harg3 arg4 harg4 arg5 harg5 arg6 harg6 arg7 harg7 arg8 harg8 arg9 harg9 arg10 harg10 arg11 harg11 arg12 harg12 arg13 harg13 arg14 harg14 x0 x1 x2 x3 x4 x5 E K)
    unfold owns
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexact H10
    isplitl [H11]; · iexact H11
    isplitl [H12]; · iexact H12
    isplitl [H13]; · iexact H13
    isplitl [H14]; · iexact H14
    iexact Hk

end Cert.AttnIdeal.Fox

end
-- ==== Proof.AttnRun.lean ====
/- The attention kernel run over its grid, its output followed. -/
module

public import proofs.«01_k».proof.Proof.AttnBody

@[expose] public section

set_option maxRecDepth 16384

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- What the launch hands the region, buffer by buffer. -/
theorem PhiA_eq (c : Dev nD) : (Pipeline.ΦA spec0 c : sProp (MM F)) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

variable (m : (ℓ : Loc nD τ sig) → Buf (Elt F) ℓ) (ρ : Dev nD → PrngReg)

theorem idx : ∀ t : Fin cfg0.N, win0_0.index t = ![(grid0.coords t 0).val, 0, (grid0.coords t 2).val]
    ∧ win0_1.index t = ![(grid0.coords t 0).val, 0, min ((grid0.coords t 2).val + 1) 15]
    ∧ win0_2.index t = ![(grid0.coords t 0).val, 0, 0]
    ∧ win0_3.index t = ![(grid0.coords t 0).val, 0, 0]
    ∧ win0_4.index t = ![(grid0.coords t 0).val, 0, (grid0.coords t 2).val]
    ∧ win0_5.index t = ![(grid0.coords t 0).val, 0, min ((grid0.coords t 2).val + 1) 15]
    ∧ win0_6.index t = ![(grid0.coords t 0).val, 0, (grid0.coords t 2).val] :=
  (by decide +kernel : ∀ t : Fin grid0.N, _)

theorem next : ∀ t u : Fin cfg0.N, u.val + 1 = t.val → (grid0.coords t 2).val ≠ 0 → (grid0.coords t 0).val = (grid0.coords u 0).val ∧ (grid0.coords t 2).val = min ((grid0.coords u 2).val + 1) 15 :=
  (by decide +kernel : ∀ t u : Fin grid0.N, _)

theorem first : ∀ t : Fin cfg0.N, t.val = 0 → (grid0.coords t 2).val = 0 := (by decide +kernel : ∀ t : Fin grid0.N, _)

theorem fit {o v k n : ℕ} (hv : v < k) (h : o + k ≤ n) : o + v = (o + v) % n := (Nat.mod_eq_of_lt (by omega)).symm
theorem fit0 {v k n : ℕ} (hv : v < k) (h : k ≤ n) : v = v % n := (Nat.mod_eq_of_lt (by omega)).symm

variable (m : (ℓ : Loc nD τ sig) → Buf (Elt F) ℓ) (ρ : Dev nD → PrngReg)

theorem blk0 (c : Dev nD) (t : Fin cfg0.N) : (iblk m c 0 t : Vec F S1x512x256 .bf16) = slab (grid0.coords t 0).val 0 (256 * ((grid0.coords t 2).val)) (m ((c : Thread nD τ).loc main_arg0)) := by
  have hc0 : (grid0.coords t 0).val < 8 := (grid0.coords t 0).isLt
  have hc2 : (grid0.coords t 2).val < 16 := (grid0.coords t 2).isLt
  funext y
  unfold iblk slab
  blk_simp
  refine congrArg (m ((c : Thread nD τ).loc main_arg0)) ?_
  idx_bounds y
  funext a; refine Fin.ext ?_
  match a with
  | ⟨0, _⟩ => blk_simp [idx t]; exact fit0 (k := 8) (n := 8) hc0 (le_refl _)
  | ⟨1, _⟩ => blk_simp [idx t]; exact fit0 (k := 512) (n := 512) (y 1).isLt (by omega)
  | ⟨2, _⟩ => blk_simp [idx t]; (try rw [Nat.mul_comm 256]); exact fit (k := 256) (n := 4096) (y 2).isLt (by omega)

theorem blk1 (c : Dev nD) (t : Fin cfg0.N) : (iblk m c 1 t : Vec F S1x512x256 .bf16) = slab (grid0.coords t 0).val 0 (256 * (min ((grid0.coords t 2).val + 1) 15)) (m ((c : Thread nD τ).loc main_arg0)) := by
  have hc0 : (grid0.coords t 0).val < 8 := (grid0.coords t 0).isLt
  have hc2 : (grid0.coords t 2).val < 16 := (grid0.coords t 2).isLt
  funext y
  unfold iblk slab
  blk_simp
  refine congrArg (m ((c : Thread nD τ).loc main_arg0)) ?_
  idx_bounds y
  funext a; refine Fin.ext ?_
  match a with
  | ⟨0, _⟩ => blk_simp [idx t]; exact fit0 (k := 8) (n := 8) hc0 (le_refl _)
  | ⟨1, _⟩ => blk_simp [idx t]; exact fit0 (k := 512) (n := 512) (y 1).isLt (by omega)
  | ⟨2, _⟩ => blk_simp [idx t]; (try rw [Nat.mul_comm 256]); exact fit (k := 256) (n := 4096) (y 2).isLt (by omega)

theorem blk2 (c : Dev nD) (t : Fin cfg0.N) : (iblk m c 2 t : Vec F S1x4096x1024 .bf16) = slab (grid0.coords t 0).val 0 (0) (m ((c : Thread nD τ).loc main_arg1)) := by
  have hc0 : (grid0.coords t 0).val < 8 := (grid0.coords t 0).isLt
  have hc2 : (grid0.coords t 2).val < 16 := (grid0.coords t 2).isLt
  funext y
  unfold iblk slab
  blk_simp
  refine congrArg (m ((c : Thread nD τ).loc main_arg1)) ?_
  idx_bounds y
  funext a; refine Fin.ext ?_
  match a with
  | ⟨0, _⟩ => blk_simp [idx t]; exact fit0 (k := 8) (n := 8) hc0 (le_refl _)
  | ⟨1, _⟩ => blk_simp [idx t]; exact fit0 (k := 4096) (n := 4096) (y 1).isLt (by omega)
  | ⟨2, _⟩ => blk_simp [idx t]; (try rw [Nat.mul_comm 256]); exact fit0 (k := 1024) (n := 1024) (y 2).isLt (by omega)

theorem blk3 (c : Dev nD) (t : Fin cfg0.N) : (iblk m c 3 t : Vec F S1x512x4096 .bf16) = slab (grid0.coords t 0).val 0 (0) (m ((c : Thread nD τ).loc main_arg2)) := by
  have hc0 : (grid0.coords t 0).val < 8 := (grid0.coords t 0).isLt
  have hc2 : (grid0.coords t 2).val < 16 := (grid0.coords t 2).isLt
  funext y
  unfold iblk slab
  blk_simp
  refine congrArg (m ((c : Thread nD τ).loc main_arg2)) ?_
  idx_bounds y
  funext a; refine Fin.ext ?_
  match a with
  | ⟨0, _⟩ => blk_simp [idx t]; exact fit0 (k := 8) (n := 8) hc0 (le_refl _)
  | ⟨1, _⟩ => blk_simp [idx t]; exact fit0 (k := 512) (n := 512) (y 1).isLt (by omega)
  | ⟨2, _⟩ => blk_simp [idx t]; (try rw [Nat.mul_comm 256]); exact fit0 (k := 4096) (n := 4096) (y 2).isLt (by omega)

theorem blk4 (c : Dev nD) (t : Fin cfg0.N) : (iblk m c 4 t : Vec F S1x64x256 .f32) = slab (grid0.coords t 0).val 0 (256 * ((grid0.coords t 2).val)) (m ((c : Thread nD τ).loc main_arg3)) := by
  have hc0 : (grid0.coords t 0).val < 8 := (grid0.coords t 0).isLt
  have hc2 : (grid0.coords t 2).val < 16 := (grid0.coords t 2).isLt
  funext y
  unfold iblk slab
  blk_simp
  refine congrArg (m ((c : Thread nD τ).loc main_arg3)) ?_
  idx_bounds y
  funext a; refine Fin.ext ?_
  match a with
  | ⟨0, _⟩ => blk_simp [idx t]; exact fit0 (k := 8) (n := 8) hc0 (le_refl _)
  | ⟨1, _⟩ => blk_simp [idx t]; exact fit0 (k := 64) (n := 64) (y 1).isLt (by omega)
  | ⟨2, _⟩ => blk_simp [idx t]; (try rw [Nat.mul_comm 256]); exact fit (k := 256) (n := 4096) (y 2).isLt (by omega)

theorem blk5 (c : Dev nD) (t : Fin cfg0.N) : (iblk m c 5 t : Vec F S1x64x256 .f32) = slab (grid0.coords t 0).val 0 (256 * (min ((grid0.coords t 2).val + 1) 15)) (m ((c : Thread nD τ).loc main_arg3)) := by
  have hc0 : (grid0.coords t 0).val < 8 := (grid0.coords t 0).isLt
  have hc2 : (grid0.coords t 2).val < 16 := (grid0.coords t 2).isLt
  funext y
  unfold iblk slab
  blk_simp
  refine congrArg (m ((c : Thread nD τ).loc main_arg3)) ?_
  idx_bounds y
  funext a; refine Fin.ext ?_
  match a with
  | ⟨0, _⟩ => blk_simp [idx t]; exact fit0 (k := 8) (n := 8) hc0 (le_refl _)
  | ⟨1, _⟩ => blk_simp [idx t]; exact fit0 (k := 64) (n := 64) (y 1).isLt (by omega)
  | ⟨2, _⟩ => blk_simp [idx t]; (try rw [Nat.mul_comm 256]); exact fit (k := 256) (n := 4096) (y 2).isLt (by omega)

/-- After a column: the first block's logits of the one after it. -/
def carried (c : Dev nD) (u : Fin cfg0.N) : Vec F S8x256x256 .bf16 := lg0 (iblk m c 1 u) (iblk m c 2 u) (iblk m c 5 u)

/-- The scratch between columns: the fourth buffer carries those logits. -/
def Phi (c : Dev nD) (n : ℕ) : sProp (MM F) := iprop(iprop((∃ d, owns (c : Thread nD τ) (Memref.whole cc0_scratch0) fullShare d) ∗ (∃ d, owns (c : Thread nD τ) (Memref.whole cc0_scratch1) fullShare d) ∗ (∃ d, ⌜∀ u : Fin cfg0.N, u.val + 1 = n → d = carried m c u⌝ ∗ owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r))

/-- The proof data: the arrays as launched, each input's buffer at its block, the output's at what the column writes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outv (grid0.coords t 2).val (iblk m c 0 t) (iblk m c 2 t) (iblk m c 3 t) (iblk m c 4 t) : Vec F S1x512x256 .bf16)
    | ⟨_ + 7, h⟩ => absurd h (Nat.not_lt.2 (Nat.le_add_left _ _))
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outv (grid0.coords t 2).val (iblk m c 0 t) (iblk m c 2 t) (iblk m c 3 t) (iblk m c 4 t) : Vec F S1x512x256 .bf16) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem carried_eq (c : Dev nD) (t u : Fin cfg0.N) (h : u.val + 1 = t.val) (hn : (grid0.coords t 2).val ≠ 0) : carried m c u = lg0 (iblk m c 0 t) (iblk m c 2 t) (iblk m c 4 t) := by
  obtain ⟨e0, e2⟩ := next t u h hn
  have h1 : (iblk m c 1 u : Vec F S1x512x256 .bf16) = iblk m c 0 t := by rw [blk1 m c u, blk0 m c t, e0, e2]
  have h2 : (iblk m c 2 u : Vec F S1x4096x1024 .bf16) = iblk m c 2 t := by rw [blk2 m c u, blk2 m c t, e0]
  have h3 : (iblk m c 5 u : Vec F S1x64x256 .f32) = iblk m c 4 t := by rw [blk5 m c u, blk4 m c t, e0, e2]
  exact congr (congr (congrArg lg0 h1) h2) h3

/-- What the body is called with at point `t`, -/
def bodyPre (c : Dev nD) (t : Fin cfg0.N) : sProp (MM F) :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))

/-- and what it returns. -/
def bodyPost (c : Dev nD) (t : Fin cfg0.N) : sProp (MM F) :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = Phi m c (t.val + 1) from rfl, show (dats m 0 c).Φ t.castSucc = Phi m c t.val from rfl]
  unfold Phi
  iintro ⟨⟨⟨S0, S1, ⟨%d, %hd, S2⟩, S3, S4⟩, Hg⟩, Ho, ⟨%d0, H0⟩, ⟨%d1, H1⟩, ⟨%d2, H2⟩, ⟨%d3, H3⟩, ⟨%d4, H4⟩, ⟨%d5, H5⟩, ⟨%d6, H6⟩⟩
  iapply (run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) d
    (fun hn => by
      have h0 : t.val ≠ 0 := fun h => hn (first t h)
      have hu : t.val - 1 < cfg0.N := lt_of_le_of_lt (Nat.sub_le _ _) t.isLt
      exact (hd ⟨t.val - 1, hu⟩ (by show t.val - 1 + 1 = t.val; omega)).trans (carried_eq m c t ⟨t.val - 1, hu⟩ (by show t.val - 1 + 1 = t.val; omega) hn))
    (case_of t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  isplitl [S4]; · iexact S4
  iintro ⟨H0, H1, H2, H3, H4, H5, H6, S0, S1, S2, S3, S4⟩
  isplitl [S0 S1 S2 S3 S4 Hg]
  · isplitl [S0 S1 S2 S3 S4]
    · isplitl [S0]; · iexact S0
      isplitl [S1]; · iexact S1
      isplitl [S2]
      · iexists _; isplitr; swap; · iexact S2
        ipureintro; intro u hu
        obtain rfl : u = t := Fin.ext (Nat.succ_injective hu)
        rfl
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : (Pipeline.ΦA spec0 c : sProp (MM F)) ⊢ (dats m 0 c).Φ 0 := by
  rw [PhiA_eq, show (dats m 0 c).Φ 0 = Phi m c 0 from rfl]
  unfold Phi
  iintro ⟨⟨S0, S1, ⟨%d, S2⟩, S3, S4⟩, Hg⟩
  isplitl [S0 S1 S2 S3 S4]
  · isplitl [S0]; · iexact S0
    isplitl [S1]; · iexact S1
    isplitl [S2]
    · iexists d; isplitr; swap; · iexact S2
      ipureintro; intro u hu; exact absurd hu (Nat.succ_ne_zero _)
    isplitl [S3]; · iexact S3
    iexact S4
  iexact Hg

theorem hout (c : Dev nD) : (dats m 0 c).Φ (Fin.last cfg0.N) ⊢ (Pipeline.ΦA spec0 c : sProp (MM F)) := by
  rw [PhiA_eq, show (dats m 0 c).Φ (Fin.last cfg0.N) = Phi m c cfg0.N from rfl]
  unfold Phi
  iintro ⟨⟨S0, S1, ⟨%d, %hd, S2⟩, S3, S4⟩, Hg⟩
  isplitl [S0 S1 S2 S3 S4]
  · isplitl [S0]; · iexact S0
    isplitl [S1]; · iexact S1
    isplitl [S2]; · iexists d; iexact S2
    isplitl [S3]; · iexact S3
    iexact S4
  iexact Hg

set_option backward.isDefEq.respectTransparency.types false in
/-- The launch: every execution ends with the output's array as followed, the inputs unchanged and every semaphore at zero. -/
theorem run_main : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1.in_eq c 1 rfl).trans ((A_eq m c 1).trans (V_main_arg0 m c)),
      (h.1.in_eq c 2 rfl).trans ((A_eq m c 2).trans (V_main_arg1 m c)),
      (h.1.in_eq c 3 rfl).trans ((A_eq m c 3).trans (V_main_arg2 m c)),
      (h.1.in_eq c 5 rfl).trans ((A_eq m c 5).trans (V_main_arg3 m c))⟩, h.2⟩) (run_main m ρ)

/-- The output array after the run: if every column's output is `G`'s block, it is `G`. -/
theorem out_of (c : Dev nD) (G : S8x512x4096.Idx → Elt F .bf16)
    (hG : ∀ t : Fin cfg0.N, (outv (grid0.coords t 2).val (iblk m c 0 t) (iblk m c 2 t) (iblk m c 3 t) (iblk m c 4 t) : Vec F S1x512x256 .bf16)
      = slab (grid0.coords t 0).val 0 (256 * (grid0.coords t 2).val) G) : (dats m 0 c).arrAt 6 (cfgs 0).N = G := by
  refine (dats m 0 c).arrAt_eq_of_covers 6 _ (by decide +kernel) fun t _ y => ?_
  have hc0 : (grid0.coords t 0).val < 8 := (grid0.coords t 0).isLt
  have hc2 : (grid0.coords t 2).val < 16 := (grid0.coords t 2).isLt
  blk_simp
  rw [after0_6, hG t]
  unfold slab
  refine congrArg G ?_
  idx_bounds y
  funext a; refine Fin.ext ?_
  match a with
  | ⟨0, _⟩ => blk_simp [idx t]; exact (fit0 (k := 8) (n := 8) hc0 (le_refl _)).symm
  | ⟨1, _⟩ => blk_simp [idx t]; exact (fit0 (k := 512) (n := 512) (y 1).isLt (by omega)).symm
  | ⟨2, _⟩ => blk_simp [idx t]; (try rw [Nat.mul_comm 256]); exact (fit (k := 256) (n := 4096) (y 2).isLt (by omega)).symm

end Cert.AttnIdeal.Fox

end
-- ==== Proof.AttnFrame.lean ====
/- Attention: the frame of the printed call, whatever its numbers are. -/
module

public import proofs.«01_k».proof.Proof.Gen.Attn.Frame
public import proofs.«01_k».proof.Proof.Gen.Attn.Skeleton
public import Idealize.ShloMosaic.Lib.Exec
public import proofs.«01_k».proof.Proof.Gen.Attn.Loops
public import Idealize.ShloMosaic.Lib.Tactic
public import Idealize.ShloMosaic.Lib.LoopRemainder
public import Idealize.ShloMosaic.Lib.Claim

@[expose] public section

set_option maxRecDepth 16384

noncomputable section

namespace Cert.Attn.Fox

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The thread state the programs of this file run in. -/
abbrev MM (F : FTy → Type) [FloatOps F] := MT nD τ sig Unit (Elt F) ℕ (UR sig nD τ) ℕ

/-- Which of the body's four conditional regions a query block runs: the first block, an odd block, a later even block. -/
def Case (i : grid0.Coords) : Prop :=
  (k0_cond1 i = 1#1 ∧ ¬k0_cond2 i = 1#1 ∧ ¬k0_cond3 i = 1#1 ∧ ¬k0_cond4 i = 1#1)
  ∨ (¬k0_cond1 i = 1#1 ∧ k0_cond2 i = 1#1 ∧ k0_cond3 i = 1#1 ∧ ¬k0_cond4 i = 1#1)
  ∨ (¬k0_cond1 i = 1#1 ∧ k0_cond2 i = 1#1 ∧ ¬k0_cond3 i = 1#1 ∧ k0_cond4 i = 1#1)

instance (i : grid0.Coords) : Decidable (Case i) := by unfold Case; infer_instance

/-- Every point of the grid is one of the three. -/
theorem case_of : ∀ t : Fin cfg0.N, Case (grid0.coords t) := (by decide +kernel : ∀ t : Fin grid0.N, Case (grid0.coords t))

set_option maxHeartbeats 12800000 in
/-- The body runs from its inputs at their contents and everything else at anything, and leaves the inputs as they were. -/
theorem run (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S1x4096x1024 .bf16) (harg5 : arg5.IsWhole) (arg6 : Memref sig .tc .vmem S1x512x4096 .bf16) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x512x256 .bf16) (harg9 : arg9.IsWhole) (arg10 : Memref sig .tc .vmem S8x256x256 .bf16) (harg10 : arg10.IsWhole) (arg11 : Memref sig .tc .vmem S8x256x256 .bf16) (harg11 : arg11.IsWhole) (arg12 : Memref sig .tc .vmem S8x256x256 .bf16) (harg12 : arg12.IsWhole) (arg13 : Memref sig .tc .vmem S8x1x256 .f32) (harg13 : arg13.IsWhole) (arg14 : Memref sig .tc .vmem S8x80x256 .f32) (harg14 : arg14.IsWhole) (x0 : Vec F S1x512x256 .bf16) (x1 : Vec F S1x512x256 .bf16) (x2 : Vec F S1x4096x1024 .bf16) (x3 : Vec F S1x512x4096 .bf16) (x4 : Vec F S1x64x256 .f32) (x5 : Vec F S1x64x256 .f32) (hc : Case i) (E : Set ℕ) (K : PUnit → sProp (MM F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
    ⊢ wp frame (wpE (defs₀ (F := F)) Variants.none c none) E (cc0_fox_attn i arg3 harg3 arg4 harg4 arg5 harg5 arg6 harg6 arg7 harg7 arg8 harg8 arg9 harg9 arg10 harg10 arg11 harg11 arg12 harg12 arg13 harg13 arg14 harg14) K := by
  simp only [cc0_fox_attn_eq_skeleton]; unfold cc0_fox_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8
  rcases hc with ⟨h1, h2, h3, h4⟩ | ⟨h1, h2, h3, h4⟩ | ⟨h1, h2, h3, h4⟩
  all_goals
    sl_exec
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    isplitl [H13]
    · iexists _; iexists _; isplitr; swap; · iexact H13
      ipureintro; rfl
    iexists _; iexists _; isplitr; swap; · iexact H14
    ipureintro; rfl

/-- What the launch hands the region, buffer by buffer. -/
theorem PhiA_eq (c : Dev nD) : (Pipeline.ΦA spec0 c : sProp (MM F)) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

variable (m : (ℓ : Loc nD τ sig) → Buf (Elt F) ℓ) (ρ : Dev nD → PrngReg)

/-- The output window's contents are not followed here. -/
def forgets0 : Fin 7 → Bool := fun w => w.val == 6

/-- The proof data: the arrays as launched, each input's buffer at its block, the output's forgotten, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨_ + 7, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp (MM F) :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare d))

/-- and what it returns. -/
def bodyPost (c : Dev nD) (t : Fin cfg0.N) : sProp (MM F) :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ (∃ d, owns (c : Thread nD τ) (st0_6 t) fullShare d))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5]
  rw [show (dats m 0 c).Φ t.succ = Pipeline.ΦA spec0 c from rfl, show (dats m 0 c).Φ t.castSucc = Pipeline.ΦA spec0 c from rfl, PhiA_eq]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, H6⟩
  iapply (run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (case_of t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  isplitl [S4]; · iexact S4
  iintro ⟨H0, H1, H2, H3, H4, H5, H6, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every execution ends, the inputs unchanged and every semaphore at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := fun _ => .rfl) (hout := fun _ => .rfl)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(Pipeline.RDat.FramePost.arr_in h.1 c 1 rfl).trans ((A_eq m c 1).trans (V_main_arg0 m c)),
      (Pipeline.RDat.FramePost.arr_in h.1 c 2 rfl).trans ((A_eq m c 2).trans (V_main_arg1 m c)),
      (Pipeline.RDat.FramePost.arr_in h.1 c 3 rfl).trans ((A_eq m c 3).trans (V_main_arg2 m c)),
      (Pipeline.RDat.FramePost.arr_in h.1 c 5 rfl).trans ((A_eq m c 5).trans (V_main_arg3 m c))⟩, h.2⟩) (run_main_quiescent m ρ)

end Cert.Attn.Fox

end
-- ==== Proof.AttnPure.lean ====
/- Attention: the call's own payloads read at an index, the floats being extended reals. -/
module

public import proofs.«01_k».proof.Proof.AttnBody
public import Idealize.ShloMosaic.Lib.Pointwise
public import Idealize.ShloMosaic.Lib.WordCmp

@[expose] public section

set_option maxRecDepth 16384
noncomputable section
open Idealize.ShloMosaic Idealize.ShloMosaic.TcCoe Idealize.SL.Sem

namespace Cert.AttnIdeal.Fox
open Cert.AttnIdeal Cert.AttnIdeal.Gen

theorem bot_bits : Ideal.ofBits .bf16 0xFF80#16 = ⊥ := by simp [Ideal.ofBits, Ideal.ieee]

theorem sel_le {α : Type} (a b : ℕ) (ha : a < 2 ^ 31) (hb : b < 2 ^ 31) (u v : α) :
    Scalar.select (IntOp.cmpi .sle (BitVec.ofNat 32 a) (BitVec.ofNat 32 b)) u v = if a ≤ b then u else v := by
  rw [WordCmp.cmpi_sle_ofNat ha hb]
  by_cases h : a ≤ b <;> simp [Scalar.select, h]

theorem sel_lt {α : Type} (a : ℕ) (B : BitVec 32) (ha : a < 2 ^ 31) (hb : B.toNat < 2 ^ 31) (u v : α) :
    Scalar.select (IntOp.cmpi .slt (BitVec.ofNat 32 a) B) u v = if a < B.toNat then u else v := by
  have e : IntOp.cmpi .slt (BitVec.ofNat 32 a) B = BitVec.ofBool (decide (a < B.toNat)) := by
    conv_lhs => rw [show B = BitVec.ofNat 32 B.toNat by simp]
    exact WordCmp.cmpi_slt_ofNat ha hb
  rw [e]
  by_cases h : a < B.toNat <;> simp [Scalar.select, h]

theorem sel_in {α : Type} (a : ℕ) (B C : BitVec 32) (ha : a < 2 ^ 31) (hb : B.toNat < 2 ^ 31) (hc : C.toNat < 2 ^ 31) (u v : α) :
    Scalar.select (IntOp.andi (IntOp.cmpi .sge (BitVec.ofNat 32 a) B) (IntOp.cmpi .slt (BitVec.ofNat 32 a) C)) u v
      = if B.toNat ≤ a ∧ a < C.toNat then u else v := by
  have e : IntOp.cmpi .slt (BitVec.ofNat 32 a) C = BitVec.ofBool (decide (a < C.toNat)) := by
    conv_lhs => rw [show C = BitVec.ofNat 32 C.toNat by simp]
    exact WordCmp.cmpi_slt_ofNat ha hc
  have e' : IntOp.cmpi .sge (BitVec.ofNat 32 a) B = BitVec.ofBool (decide (B.toNat ≤ a)) := by
    conv_lhs => rw [show B = BitVec.ofNat 32 B.toNat by simp]
    exact WordCmp.cmpi_sge_ofNat ha hb
  rw [e, e', WordCmp.andi_ofBool]
  by_cases h : B.toNat ≤ a <;> by_cases h' : a < C.toNat <;> simp [Scalar.select, h, h']

theorem pay1_at (a : FVec Ideal S1x64x256 .f32) (l : FVec Ideal S1x1x256 .f32) (d : Fin 64) (i : Fin 256) :
    k0_pay1 (F := Ideal) a l (ix3 0 d i) = Ideal.div (a (ix3 0 d i)) (l (ix3 0 0 i)) := by
  pointwise [k0_pay1]

theorem pay3_at (w : FVec Ideal S256x256 .bf16) (k : FVec Ideal S1x256x256 .bf16) (j i : Fin 256) :
    k0_pay3 (F := Ideal) w k (ix3 0 j i) = ∑ x : Fin 256, k (ix3 0 j x) * w (ix2 x i) := by
  pointwise [k0_pay3]

theorem pay590_at (i : Fin 256) : k0_pay590 (F := Ideal) (ix2 0 i) = 1 := by
  pointwise [k0_pay590]
  show (((BitVec.setWidth 32 1#1 : BitVec 32).toInt : ℝ) : EReal) = 1
  simp

theorem pay588_at (h : Fin 8) (i : Fin 256) : k0_pay588 (F := Ideal) (ix3 h 0 i) = ⊥ := by
  pointwise [k0_pay588]
  rfl

theorem pay589_at (h : Fin 8) (d : Fin 80) (i : Fin 256) : k0_pay589 (F := Ideal) (ix3 h d i) = 0 := by
  pointwise [k0_pay589]

theorem pay17_at (o : FVec Ideal S16x256 .bf16) (l : FVec Ideal S256x256 .bf16) (m m' : FVec Ideal S1x256 .f32) (mb : FVec Ideal S1x256 .bf16)
    (v : FVec Ideal S1x64x256 .bf16) (a : FVec Ideal S1x80x256 .f32) (d : Fin 64) (i : Fin 256) :
    k0_pay17 (F := Ideal) o l m m' mb v a (ix3 0 ⟨d.val, by omega⟩ i) = Ideal.exp2 (m (ix2 0 i) - m' (ix2 0 i)) * a (ix3 0 ⟨d.val, by omega⟩ i)
      + ∑ k : Fin 256, v (ix3 0 d k) * Ideal.exp2 (l (ix2 k i) - mb (ix2 0 i)) := by
  pointwise [k0_pay17]
  rfl

theorem pay17_one (o : FVec Ideal S16x256 .bf16) (l : FVec Ideal S256x256 .bf16) (m m' : FVec Ideal S1x256 .f32) (mb : FVec Ideal S1x256 .bf16)
    (v : FVec Ideal S1x64x256 .bf16) (a : FVec Ideal S1x80x256 .f32) (i : Fin 256) :
    k0_pay17 (F := Ideal) o l m m' mb v a (ix3 0 64 i) = Ideal.exp2 (m (ix2 0 i) - m' (ix2 0 i)) * a (ix3 0 64 i)
      + ∑ k : Fin 256, o (ix2 0 k) * Ideal.exp2 (l (ix2 k i) - mb (ix2 0 i)) := by
  pointwise [k0_pay17]
  rfl

theorem pay73_at (l : FVec Ideal S1x256x256 .bf16) (m : FVec Ideal S1x1x256 .f32) (i : Fin 256) :
    k0_pay73 (F := Ideal) l m (ix2 0 i) = max (m (ix3 0 0 i)) (Finset.univ.sup fun k : Fin 256 => l (ix3 0 k i)) := by
  pointwise [k0_pay73, k0_pay72, k0_pay71]
  rw [bot_bits]
  rfl

theorem pay11_at (l : FVec Ideal S1x256x256 .bf16) (k i : Fin 256) :
    k0_pay11 (F := Ideal) kI qI l (ix2 k i) = if k.val ≤ i.val then l (ix3 0 k i) else ⊥ := by
  pointwise [k0_pay11, kI, qI]
  rw [sel_le _ _ (by omega) (by omega)]
  rfl

theorem pay74_at (l : FVec Ideal S1x256x256 .bf16) (m : FVec Ideal S1x1x256 .f32) (i : Fin 256) :
    k0_pay74 (F := Ideal) l m (ix3 0 0 i) = k0_pay73 (F := Ideal) l m (ix2 0 i) := by
  pointwise [k0_pay74]

theorem pay71_at (l : FVec Ideal S1x256x256 .bf16) (k i : Fin 256) : k0_pay71 (F := Ideal) l (ix2 k i) = l (ix3 0 k i) := by
  pointwise [k0_pay71]

theorem pay72_at (m : FVec Ideal S1x1x256 .f32) (i : Fin 256) : k0_pay72 (F := Ideal) m (ix2 0 i) = m (ix3 0 0 i) := by
  pointwise [k0_pay72]

theorem pay12_at (m : FVec Ideal S1x1x256 .f32) (i : Fin 256) : k0_pay12 (F := Ideal) m (ix2 0 i) = m (ix3 0 0 i) := by
  pointwise [k0_pay12]

theorem pay13_at (l : FVec Ideal S1x256x256 .bf16) (m : FVec Ideal S1x1x256 .f32) (i : Fin 256) :
    k0_pay13 (F := Ideal) kI qI l m (ix2 0 i) = max (m (ix3 0 0 i)) (Finset.univ.sup fun k : Fin 256 => k0_pay11 (F := Ideal) kI qI l (ix2 k i)) := by
  pointwise [k0_pay13, k0_pay12]
  rw [bot_bits]
  rfl

/-- The weights of a pair's first head at an index. -/
theorem pay536_at (q : FVec Ideal S1x128x256 .bf16) (nb : FVec Ideal S1x8x256 .f32) (x i : Fin 256) :
    k0_pay536 (F := Ideal) q nb (ix2 x i) = if x.val < 64 then q (ix3 0 (Fin.ofNat 128 x.val) i) else if 128 ≤ x.val ∧ x.val < 131 then 1
      else if 132 ≤ x.val ∧ x.val < 135 then nb (ix3 0 (Fin.ofNat 8 (x.val - 132)) i) else 0 := by
  pointwise [k0_pay536]
  have hx := x.isLt
  have e0 : (0#32).toNat = 0 := rfl
  have e1 : (64#32).toNat = 64 := rfl
  have e2 : (128#32).toNat = 128 := rfl
  have e3 : (4#32).toNat = 4 := rfl
  have e4 : (7#32).toNat = 7 := rfl
  have e5 : (3#32).toNat = 3 := rfl
  simp (disch := omega) only [sel_in, sel_lt, e0, e1, e2, e3, e4, e5]
  split_ifs <;> first
    | rfl
    | omega
    | (refine congrArg (fun t : Fin 128 => q (ix3 0 t i)) (Fin.ext ?_); show x.val = x.val % 128; omega)
    | (refine Eq.trans (congrArg (fun t : Fin 8 => nb (ix3 0 t i)) (Fin.ext ?_ : _ = Fin.ofNat 8 (x.val - 132))) ?_
       · show (x.val - 128 + 8 - 4) % 8 = (x.val - 132) % 8; omega
       · rw [if_neg (by omega), if_neg (by omega), if_pos (by omega)])

/-- The weights of a pair's second head at an index. -/
theorem pay537_at (q : FVec Ideal S1x128x256 .bf16) (nb : FVec Ideal S1x8x256 .f32) (x i : Fin 256) :
    k0_pay537 (F := Ideal) (iota .tc S128x256 32 [0] iota_S128x256_d0_w32) (iota .tc S8x256 32 [0] iota_S8x256_d0_w32) q nb (ix2 x i)
      = if 64 ≤ x.val ∧ x.val < 128 then q (ix3 0 (Fin.ofNat 128 x.val) i) else if 136 ≤ x.val ∧ x.val < 139 then 1
      else if 132 ≤ x.val ∧ x.val < 135 then nb (ix3 0 (Fin.ofNat 8 (x.val - 132)) i) else 0 := by
  pointwise [k0_pay537]
  have hx := x.isLt
  have e0 : (0#32).toNat = 0 := rfl
  have e1 : (64#32).toNat = 64 := rfl
  have e2 : (128#32).toNat = 128 := rfl
  have e3 : (4#32).toNat = 4 := rfl
  have e4 : (7#32).toNat = 7 := rfl
  have e5 : (3#32).toNat = 3 := rfl
  simp (disch := omega) only [sel_in, sel_lt, e0, e1, e2, e3, e4, e5]
  split_ifs <;> first
    | rfl
    | omega
    | (refine congrArg (fun t : Fin 128 => q (ix3 0 t i)) (Fin.ext ?_); show x.val = x.val % 128; omega)
    | (refine Eq.trans (congrArg (fun t : Fin 8 => nb (ix3 0 t i)) (Fin.ext ?_ : _ = Fin.ofNat 8 (x.val - 132))) ?_
       · show (x.val - 128 + 8 - 4) % 8 = (x.val - 132) % 8; omega
       · rw [if_neg (by omega), if_neg (by omega), if_pos (by omega)])

end Cert.AttnIdeal.Fox
end
-- ==== Proof.AttnSoft.lean ====
/- Attention: softmax in base two, block by block, is softmax in base e at once. -/
module

public import Idealize.ShloMosaic.Lib.Pointwise

@[expose] public section

noncomputable section
open Idealize.ShloMosaic

namespace Cert.Soft

/-- A real number, or a masked logit. -/
def Logit (x : EReal) : Prop := x = ⊥ ∨ ∃ r : ℝ, x = (r : EReal)

theorem exp2_real (r : ℝ) : Ideal.exp2 (r : EReal) = (((2 : ℝ) ^ r : ℝ) : EReal) := rfl
theorem exp_real (r : ℝ) : Ideal.exp (r : EReal) = ((Real.exp r : ℝ) : EReal) := rfl

/-- A finite non-negative factor goes into a sum. -/
theorem mul_sum' {ι : Type} (s : Finset ι) (f : ι → EReal) (c : ℝ) (hc : 0 ≤ c) : (c : EReal) * ∑ k ∈ s, f k = ∑ k ∈ s, (c : EReal) * f k := by
  classical
  induction s using Finset.induction with
  | empty => simp
  | insert a s ha ih =>
    rw [Finset.sum_insert ha, Finset.sum_insert ha, EReal.left_distrib_of_nonneg_of_ne_top (by exact_mod_cast hc) (EReal.coe_ne_top c), ih]

theorem bot_sub_real (μ : ℝ) : (⊥ : EReal) - (μ : EReal) = ⊥ := rfl

/-- A weight, as a real number. -/
def wt (x : EReal) (μ : ℝ) : ℝ := if x = ⊥ then 0 else (2 : ℝ) ^ (x.toReal - μ)

theorem exp2_wt (x : EReal) (h : Logit x) (μ : ℝ) : Ideal.exp2 (x - (μ : EReal)) = (wt x μ : EReal) := by
  rcases h with rfl | ⟨r, rfl⟩
  · rw [bot_sub_real, wt, if_pos rfl]; rfl
  · rw [wt, if_neg (EReal.coe_ne_bot r), EReal.toReal_coe, ← EReal.coe_sub, exp2_real]

theorem wt_nonneg (x : EReal) (μ : ℝ) : 0 ≤ wt x μ := by
  unfold wt; split
  · exact le_rfl
  · positivity

theorem wt_pos (r μ : ℝ) : 0 < wt (r : EReal) μ := by
  rw [wt, if_neg (EReal.coe_ne_bot r)]; positivity

theorem wt_mul (x : EReal) (μ ν : ℝ) : (2 : ℝ) ^ (μ - ν) * wt x μ = wt x ν := by
  unfold wt; split
  · exact mul_zero _
  · rw [← Real.rpow_add (by norm_num)]; congr 1; ring

/-- Changing the level a weight is measured from. -/
theorem shift (x : EReal) (h : Logit x) (μ ν : ℝ) : Ideal.exp2 ((μ : EReal) - (ν : EReal)) * Ideal.exp2 (x - (μ : EReal)) = Ideal.exp2 (x - (ν : EReal)) := by
  rw [exp2_wt x h, exp2_wt x h, ← EReal.coe_sub, exp2_real, ← EReal.coe_mul, wt_mul]

theorem sup_real {ι : Type} [Fintype ι] (f : ι → EReal) (h : ∀ k, Logit (f k)) (k₀ : ι) (r₀ : ℝ) (h₀ : f k₀ = (r₀ : EReal)) :
    ∃ r : ℝ, Finset.univ.sup f = (r : EReal) := by
  obtain ⟨k, -, hk⟩ := Finset.exists_mem_eq_sup Finset.univ ⟨k₀, Finset.mem_univ _⟩ f
  rcases h k with hb | ⟨r, hr⟩
  · have := Finset.le_sup (f := f) (Finset.mem_univ k₀)
    rw [hk, hb, h₀] at this
    exact absurd (le_bot_iff.mp this) (EReal.coe_ne_bot r₀)
  · exact ⟨r, hk.trans hr⟩

theorem max_real (x : EReal) (h : Logit x) (r : ℝ) : ∃ μ : ℝ, max x (r : EReal) = (μ : EReal) := by
  rcases h with rfl | ⟨s, rfl⟩
  · exact ⟨r, max_eq_right bot_le⟩
  · rcases le_total s r with h | h
    · exact ⟨r, max_eq_right (by exact_mod_cast h)⟩
    · exact ⟨s, max_eq_left (by exact_mod_cast h)⟩

/-- The running maximum and the running sum after `n` blocks: the sum is the whole one, measured from the maximum. -/
def Inv (L v : ℕ → EReal) (n : ℕ) (M A : EReal) : Prop :=
  Logit M ∧ ∀ ν : ℝ, Ideal.exp2 (M - (ν : EReal)) * A = ∑ k ∈ Finset.range (256 * n), v k * Ideal.exp2 (L k - (ν : EReal))

theorem inv_zero (L v : ℕ → EReal) : Inv L v 0 ⊥ 0 := ⟨.inl rfl, fun ν => by simp⟩

theorem sum_block (f : ℕ → EReal) (n : ℕ) : (∑ k ∈ Finset.range (256 * n), f k) + ∑ k : Fin 256, f (256 * n + k.val) = ∑ k ∈ Finset.range (256 * (n + 1)), f k := by
  rw [show 256 * (n + 1) = 256 * n + 256 by ring, Finset.sum_range_add, Finset.sum_range fun k => f (256 * n + k)]

/-- One block's update of the sum. -/
theorem step_sum (L v : ℕ → EReal) (n : ℕ) (M A : EReal) (I : Inv L v n M A) (μ : ℝ) :
    Ideal.exp2 (M - (μ : EReal)) * A + ∑ k : Fin 256, v (256 * n + k.val) * Ideal.exp2 (L (256 * n + k.val) - (μ : EReal))
      = ∑ k ∈ Finset.range (256 * (n + 1)), v k * Ideal.exp2 (L k - (μ : EReal)) := by
  rw [I.2 μ, ← sum_block]

theorem inv_of_sum (L v : ℕ → EReal) (hL : ∀ k, Logit (L k)) (n : ℕ) (μ : ℝ) :
    Inv L v n (μ : EReal) (∑ k ∈ Finset.range (256 * n), v k * Ideal.exp2 (L k - (μ : EReal))) := by
  refine ⟨.inr ⟨μ, rfl⟩, fun ν => ?_⟩
  rw [← EReal.coe_sub, exp2_real, mul_sum' _ _ _ (by positivity)]
  refine Finset.sum_congr rfl fun k _ => ?_
  rw [mul_left_comm, ← exp2_real, EReal.coe_sub, shift _ (hL k)]

theorem coe_sum {ι : Type} (s : Finset ι) (f : ι → ℝ) : ((∑ k ∈ s, f k : ℝ) : EReal) = ∑ k ∈ s, (f k : EReal) := by
  classical
  induction s using Finset.induction with
  | empty => simp
  | insert a s ha ih => rw [Finset.sum_insert ha, Finset.sum_insert ha, EReal.coe_add, ih]

theorem div_real (x : EReal) (y : ℝ) (hy : 0 < y) : Ideal.div x (y : EReal) = ((y⁻¹ : ℝ) : EReal) * x := by
  rw [Ideal.div, if_neg (by exact_mod_cast hy.ne'), mul_comm, EReal.coe_inv]

/-- A weight of the softmax in base e. -/
theorem exp_wt (x : EReal) (h : Logit x) (μ ρ : ℝ) (y : EReal) (hy : y = if x = ⊥ then ⊥ else x * (Real.log 2 : EReal)) :
    Ideal.exp (y - (ρ : EReal)) = ((Real.exp (μ * Real.log 2 - ρ) * wt x μ : ℝ) : EReal) := by
  subst hy
  rcases h with rfl | ⟨r, rfl⟩
  · rw [if_pos rfl, bot_sub_real, wt, if_pos rfl, mul_zero]; rfl
  · rw [if_neg (EReal.coe_ne_bot r), wt, if_neg (EReal.coe_ne_bot r), EReal.toReal_coe, ← EReal.coe_mul, ← EReal.coe_sub, exp_real,
      Real.rpow_def_of_pos (by norm_num), ← Real.exp_add]
    congr 2; ring

/-- The two softmaxes agree. -/
theorem soft_eq {N : ℕ} (L X v : Fin N → EReal) (hL : ∀ k, Logit (L k)) (hX : ∀ k, X k = if L k = ⊥ then ⊥ else L k * (Real.log 2 : EReal))
    (k₀ : Fin N) (r₀ : ℝ) (h₀ : L k₀ = (r₀ : EReal)) (μ ρ : ℝ) :
    Ideal.div (∑ k, v k * Ideal.exp2 (L k - (μ : EReal))) (∑ k, Ideal.exp2 (L k - (μ : EReal)))
      = ∑ k, v k * Ideal.div (Ideal.exp (X k - (ρ : EReal))) (∑ k', Ideal.exp (X k' - (ρ : EReal))) := by
  have e1 : (∑ k, Ideal.exp2 (L k - (μ : EReal))) = ((∑ k, wt (L k) μ : ℝ) : EReal) := by
    rw [coe_sum]; exact Finset.sum_congr rfl fun k _ => exp2_wt _ (hL k) μ
  have e2 : (∑ k, Ideal.exp (X k - (ρ : EReal))) = ((∑ k, Real.exp (μ * Real.log 2 - ρ) * wt (L k) μ : ℝ) : EReal) := by
    rw [coe_sum]; exact Finset.sum_congr rfl fun k _ => exp_wt _ (hL k) μ ρ _ (hX k)
  have hp : 0 < ∑ k, wt (L k) μ :=
    Finset.sum_pos' (fun k _ => wt_nonneg _ _) ⟨k₀, Finset.mem_univ _, by rw [h₀]; exact wt_pos _ _⟩
  have hc : 0 < Real.exp (μ * Real.log 2 - ρ) := Real.exp_pos _
  rw [e1, e2, ← Finset.mul_sum, div_real _ _ hp, mul_sum' _ _ _ (inv_nonneg.mpr hp.le)]
  refine Finset.sum_congr rfl fun k _ => ?_
  rw [div_real _ _ (mul_pos hc hp), exp_wt _ (hL k) μ ρ _ (hX k), exp2_wt _ (hL k), ← EReal.coe_mul, mul_left_comm, ← EReal.coe_mul]
  congr 2
  field_simp

end Cert.Soft
end
-- ==== Proof.AttnLogit.lean ====
/- Attention: the call's product of keys and packed weights is the logit. -/
module

public import proofs.«01_k».proof.Proof.AttnPure
public import proofs.«01_k».proof.Proof.AttnSoft

@[expose] public section

set_option maxRecDepth 16384
noncomputable section
open Idealize.ShloMosaic Idealize.ShloMosaic.TcCoe Idealize.SL.Sem

namespace Cert.AttnIdeal.Fox
open Cert.AttnIdeal Cert.AttnIdeal.Gen

/-- An array's entry at three numbers. -/
def at3 {α : Type} {n0 n1 n2 : ℕ} [NeZero n0] [NeZero n1] [NeZero n2] (X : (⟨3, ![n0, n1, n2]⟩ : Shape).Idx → α) (a b c : ℕ) : α :=
  X (ix3 (Fin.ofNat n0 a) (Fin.ofNat n1 b) (Fin.ofNat n2 c))

/-- The logit of key `k` for query `i` in head `h`: the key's product with the query, the key's bias in three pieces,
    and the query's bias in three pieces. -/
def lgt (Q K N : ℕ → ℕ → EReal) (h k i : ℕ) : EReal :=
  (∑ d : Fin 64, K k (256 * (h / 2) + 64 * (h % 2) + d.val) * Q (64 * h + d.val) i) + (∑ r : Fin 3, K k (256 * (h / 2) + 128 + 8 * (h % 2) + r.val))
    + ∑ r : Fin 3, K k (256 * (h / 2) + 132 + r.val) * N (8 * h + r.val) i

theorem sum_two (g : ℕ → EReal) (o a b : ℕ) : (∑ x : Fin (a + b), g (o + x.val)) = (∑ x : Fin a, g (o + x.val)) + ∑ x : Fin b, g (o + a + x.val) := by
  rw [Fin.sum_univ_add]
  simp only [Fin.val_castAdd, Fin.val_natAdd, Nat.add_assoc]

theorem sum_parts (g : ℕ → EReal) : (∑ x : Fin 256, g x.val) = (∑ d : Fin 64, g (0 + d.val)) + ((∑ d : Fin 64, g (64 + d.val)) + ((∑ r : Fin 3, g (128 + r.val))
    + ((∑ r : Fin 1, g (131 + r.val)) + ((∑ r : Fin 3, g (132 + r.val)) + ((∑ r : Fin 1, g (135 + r.val)) + ((∑ r : Fin 3, g (136 + r.val)) + ∑ r : Fin 117, g (139 + r.val))))))) := by
  have e : (∑ x : Fin 256, g x.val) = ∑ x : Fin (64 + 192), g (0 + x.val) := Finset.sum_congr rfl fun x _ => by rw [Nat.zero_add]
  rw [e, sum_two g 0 64 192, sum_two g 64 64 128, sum_two g 128 3 125, sum_two g 131 1 124, sum_two g 132 3 121, sum_two g 135 1 120, sum_two g 136 3 117]

theorem sum_zero {n : ℕ} (f : Fin n → EReal) (h : ∀ x, f x = 0) : ∑ x, f x = 0 := Finset.sum_eq_zero fun x _ => h x

theorem dotE (k w q nb : ℕ → EReal) (hw : ∀ x, x < 256 → w x = if x < 64 then q x else if 128 ≤ x ∧ x < 131 then 1 else if 132 ≤ x ∧ x < 135 then nb (x - 132) else 0) :
    (∑ x : Fin 256, k x.val * w x.val) = (∑ d : Fin 64, k (0 + d.val) * q (0 + d.val)) + (∑ r : Fin 3, k (128 + r.val)) + ∑ r : Fin 3, k (132 + r.val) * nb r.val := by
  rw [sum_parts fun x => k x * w x]
  have z : ∀ x, x < 256 → ¬ x < 64 → ¬ (128 ≤ x ∧ x < 131) → ¬ (132 ≤ x ∧ x < 135) → k x * w x = 0 := fun x hx h1 h2 h3 => by
    rw [hw x hx, if_neg h1, if_neg h2, if_neg h3, mul_zero]
  rw [sum_zero _ fun d : Fin 64 => z (64 + d.val) (by omega) (by omega) (by omega) (by omega),
    sum_zero _ fun d : Fin 1 => z (131 + d.val) (by omega) (by omega) (by omega) (by omega),
    sum_zero _ fun d : Fin 1 => z (135 + d.val) (by omega) (by omega) (by omega) (by omega),
    sum_zero _ fun d : Fin 3 => z (136 + d.val) (by omega) (by omega) (by omega) (by omega),
    sum_zero _ fun d : Fin 117 => z (139 + d.val) (by omega) (by omega) (by omega) (by omega)]
  simp only [zero_add, add_zero]
  rw [← add_assoc]
  refine congrArg₂ _ (congrArg₂ _ ?_ ?_) ?_ <;> refine Finset.sum_congr rfl fun x _ => ?_
  · rw [hw _ (by omega), if_pos (by omega)]
  · rw [hw _ (by omega), if_neg (by omega), if_pos (by omega), mul_one]
  · rw [hw _ (by omega), if_neg (by omega), if_neg (by omega), if_pos (by omega), Nat.add_sub_cancel_left]

theorem dotO (k w q nb : ℕ → EReal) (hw : ∀ x, x < 256 → w x = if 64 ≤ x ∧ x < 128 then q x else if 136 ≤ x ∧ x < 139 then 1 else if 132 ≤ x ∧ x < 135 then nb (x - 132) else 0) :
    (∑ x : Fin 256, k x.val * w x.val) = (∑ d : Fin 64, k (64 + d.val) * q (64 + d.val)) + (∑ r : Fin 3, k (136 + r.val)) + ∑ r : Fin 3, k (132 + r.val) * nb r.val := by
  rw [sum_parts fun x => k x * w x]
  have z : ∀ x, x < 256 → ¬ (64 ≤ x ∧ x < 128) → ¬ (136 ≤ x ∧ x < 139) → ¬ (132 ≤ x ∧ x < 135) → k x * w x = 0 := fun x hx h1 h2 h3 => by
    rw [hw x hx, if_neg h1, if_neg h2, if_neg h3, mul_zero]
  rw [sum_zero _ fun d : Fin 64 => z (0 + d.val) (by omega) (by omega) (by omega) (by omega),
    sum_zero _ fun d : Fin 3 => z (128 + d.val) (by omega) (by omega) (by omega) (by omega),
    sum_zero _ fun d : Fin 1 => z (131 + d.val) (by omega) (by omega) (by omega) (by omega),
    sum_zero _ fun d : Fin 1 => z (135 + d.val) (by omega) (by omega) (by omega) (by omega),
    sum_zero _ fun d : Fin 117 => z (139 + d.val) (by omega) (by omega) (by omega) (by omega)]
  simp only [zero_add, add_zero]
  rw [add_comm (∑ r : Fin 3, k (132 + r.val) * w (132 + r.val)), ← add_assoc]
  refine congrArg₂ _ (congrArg₂ _ ?_ ?_) ?_ <;> refine Finset.sum_congr rfl fun x _ => ?_
  · rw [hw _ (by omega), if_pos (by omega)]
  · rw [hw _ (by omega), if_neg (by omega), if_pos (by omega), mul_one]
  · rw [hw _ (by omega), if_neg (by omega), if_neg (by omega), if_pos (by omega), Nat.add_sub_cancel_left]

section
variable (Q : FVec Ideal S1x512x256 .bf16) (K : FVec Ideal S1x4096x1024 .bf16) (N : FVec Ideal S1x64x256 .f32)

theorem Wof_pair (p : Fin 4) : Wof (F := Ideal) Q N ⟨2 * p.val, by omega⟩ = wE (F := Ideal) p.val Q N ∧ Wof (F := Ideal) Q N ⟨2 * p.val + 1, by omega⟩ = wO (F := Ideal) p.val Q N := by
  match p with
  | ⟨0, _⟩ => exact ⟨rfl, rfl⟩
  | ⟨1, _⟩ => exact ⟨rfl, rfl⟩
  | ⟨2, _⟩ => exact ⟨rfl, rfl⟩
  | ⟨3, _⟩ => exact ⟨rfl, rfl⟩

/-- A block's logits are the logits. -/
theorem lgH_at (j : ℕ) (h : Fin 8) (k i : Fin 256) : lgH (F := Ideal) (Wof Q N) K j h (ix3 0 k i) = lgt (at3 Q 0) (at3 K 0) (at3 N 0) h.val (256 * j + k.val) i.val := by
  unfold lgH
  rw [pay3_at]
  have hs : ∀ o : ℕ, ∀ x : Fin 256, (slab 0 (256 * j) o K : FVec Ideal S1x256x256 .bf16) (ix3 0 k x) = at3 K 0 (256 * j + k.val) (o + x.val) := fun _ _ => rfl
  simp only [hs]
  obtain ⟨p, hp⟩ : ∃ p : Fin 4, h.val = 2 * p.val ∨ h.val = 2 * p.val + 1 := ⟨⟨h.val / 2, by omega⟩, by show h.val = 2 * (h.val / 2) ∨ h.val = 2 * (h.val / 2) + 1; omega⟩
  rcases hp with hp | hp
  · rw [(congrArg (Wof (F := Ideal) Q N) (Fin.ext hp : h = _)).trans (Wof_pair Q N p).1, hp, show (2 * p.val) / 2 = p.val by omega]
    unfold wE
    simp only [pay536_at]
    refine (dotE (fun x => at3 K 0 (256 * j + k.val) (256 * p.val + x)) (fun x => if x < 64 then at3 Q 0 (128 * p.val + x) i.val else if 128 ≤ x ∧ x < 131 then 1 else if 132 ≤ x ∧ x < 135 then at3 N 0 (16 * p.val + (x - 132)) i.val else 0)
      (fun x => at3 Q 0 (128 * p.val + x) i.val) (fun x => at3 N 0 (16 * p.val + x) i.val) (fun x _ => rfl) |> Eq.trans ?_).trans ?_
    · refine Finset.sum_congr rfl fun x _ => congrArg₂ _ rfl ?_
      split_ifs with h1 h2 h3 <;> first
        | rfl
        | (show at3 Q 0 (128 * p.val + x.val % 128) (0 + i.val) = _; rw [Nat.mod_eq_of_lt (by omega), Nat.zero_add])
        | (show at3 N 0 (16 * p.val + (x.val - 132) % 8) (0 + i.val) = _; rw [Nat.mod_eq_of_lt (by omega), Nat.zero_add])
    · unfold lgt
      rw [show (2 * p.val) / 2 = p.val by omega, show (2 * p.val) % 2 = 0 by omega, show 64 * (2 * p.val) = 128 * p.val by omega, show 8 * (2 * p.val) = 16 * p.val by omega]
      simp only [Nat.mul_zero, Nat.add_zero, Nat.zero_add, Nat.add_assoc]
  · rw [(congrArg (Wof (F := Ideal) Q N) (Fin.ext hp : h = _)).trans (Wof_pair Q N p).2, hp, show (2 * p.val + 1) / 2 = p.val by omega]
    unfold wO
    refine (dotO (fun x => at3 K 0 (256 * j + k.val) (256 * p.val + x)) (fun x => if 64 ≤ x ∧ x < 128 then at3 Q 0 (128 * p.val + x) i.val else if 136 ≤ x ∧ x < 139 then 1 else if 132 ≤ x ∧ x < 135 then at3 N 0 (16 * p.val + 8 + (x - 132)) i.val else 0)
      (fun x => at3 Q 0 (128 * p.val + x) i.val) (fun x => at3 N 0 (16 * p.val + 8 + x) i.val) (fun x _ => rfl) |> Eq.trans ?_).trans ?_
    · refine Finset.sum_congr rfl fun x _ => congrArg₂ _ rfl ((pay537_at _ _ x i).trans ?_)
      split_ifs with h1 h2 h3 <;> first
        | rfl
        | (show at3 Q 0 (128 * p.val + x.val % 128) (0 + i.val) = _; rw [Nat.mod_eq_of_lt (by omega), Nat.zero_add])
        | (show at3 N 0 (16 * p.val + 8 + (x.val - 132) % 8) (0 + i.val) = _; rw [Nat.mod_eq_of_lt (by omega), Nat.zero_add])
    · unfold lgt
      rw [show (2 * p.val + 1) / 2 = p.val by omega, show (2 * p.val + 1) % 2 = 1 by omega, show 64 * (2 * p.val + 1) = 128 * p.val + 64 by omega, show 8 * (2 * p.val + 1) = 16 * p.val + 8 by omega]
      simp only [Nat.mul_one, Nat.add_assoc]
      rfl
end

end Cert.AttnIdeal.Fox
end
-- ==== Proof.AttnValue.lean ====
/- Attention: what a column writes, the running maximum and sum followed block by block. -/
module

public import proofs.«01_k».proof.Proof.AttnLogit

@[expose] public section

set_option maxRecDepth 16384
noncomputable section
open Idealize.ShloMosaic Idealize.ShloMosaic.TcCoe Idealize.SL.Sem

namespace Cert.AttnIdeal.Fox
open Cert.AttnIdeal Cert.AttnIdeal.Gen Cert.Soft

/-- A query's masked logits: keys after query `t` do not count. -/
def msk (l : ℕ → EReal) (t : ℕ) (k : ℕ) : EReal := if k ≤ t then l k else ⊥

section
variable (Q : FVec Ideal S1x512x256 .bf16) (K : FVec Ideal S1x4096x1024 .bf16) (V : FVec Ideal S1x512x4096 .bf16) (N : FVec Ideal S1x64x256 .f32)

/-- A row of an accumulator is the running sum of `v`. -/
def Row (h : Fin 8) (i : Fin 256) (ρ : Fin 80) (v : ℕ → EReal) : Prop :=
  ∀ (j : ℕ) (l : FVec Ideal S256x256 .bf16) (m m' : FVec Ideal S1x256 .f32) (mb : FVec Ideal S1x256 .bf16) (a : FVec Ideal S1x80x256 .f32),
    k0_pay17 (F := Ideal) (k0_pay590 (F := Ideal)) l m m' mb (slab 0 (64 * h.val) (256 * j) V) a (ix3 0 ρ i)
      = Ideal.exp2 (m (ix2 0 i) - m' (ix2 0 i)) * a (ix3 0 ρ i) + ∑ k : Fin 256, v (256 * j + k.val) * Ideal.exp2 (l (ix2 k i) - mb (ix2 0 i))

theorem row_v (h : Fin 8) (i : Fin 256) (d : Fin 64) : Row V h i ⟨d.val, by omega⟩ fun k => at3 V 0 (64 * h.val + d.val) k := by
  intro j l m m' mb a
  rw [pay17_at]
  rfl

theorem row_one (h : Fin 8) (i : Fin 256) : Row V h i 64 fun _ => 1 := by
  intro j l m m' mb a
  rw [pay17_one]
  refine congrArg₂ _ rfl (Finset.sum_congr rfl fun k _ => congrArg₂ _ (pay590_at k) rfl)

variable (n : ℕ) (h : Fin 8) (i : Fin 256)
  (hR : ∀ k, k < 4096 → ∃ r : ℝ, lgt (at3 Q 0) (at3 K 0) (at3 N 0) h.val k i.val = (r : EReal))

/-- This column's masked logits. -/
abbrev L : ℕ → EReal := msk (fun k => lgt (at3 Q 0) (at3 K 0) (at3 N 0) h.val k i.val) (256 * n + i.val)

include hR in
theorem L_logit (hn : n < 16) (k : ℕ) : Logit (L Q K N n h i k) := by
  unfold L msk
  split
  · exact .inr (hR k (by omega))
  · exact .inl rfl

include hR in
theorem inv_at (hn : n < 16) (ρ : Fin 80) (v : ℕ → EReal) (hv : Row V h i ρ v) :
    ∀ j, j ≤ n → Inv (L Q K N n h i) v j (hM (F := Ideal) (Wof Q N) K h j (ix3 0 0 i)) (hA (F := Ideal) (Wof Q N) K V h j (ix3 0 ρ i)) := by
  intro j
  induction j with
  | zero =>
    intro _
    have e1 : hM (F := Ideal) (Wof Q N) K h 0 (ix3 0 0 i) = ⊥ := pay588_at (Fin.ofNat 8 (h.val + 0)) (Fin.ofNat 256 (0 + i.val))
    have e2 : hA (F := Ideal) (Wof Q N) K V h 0 (ix3 0 ρ i) = 0 := pay589_at (Fin.ofNat 8 (h.val + 0)) (Fin.ofNat 80 (0 + ρ.val)) (Fin.ofNat 256 (0 + i.val))
    rw [e1, e2]; exact inv_zero _ _
  | succ j ih =>
    intro hj
    have I := ih (by omega)
    have hl : ∀ k : Fin 256, lgH (F := Ideal) (Wof Q N) K j h (ix3 0 k i) = L Q K N n h i (256 * j + k.val) := fun k => by
      rw [lgH_at, L, msk, if_pos (by omega)]
    obtain ⟨r₀, h₀⟩ := hR (256 * j + (0 : Fin 256).val) (by show 256 * j + 0 < 4096; omega)
    obtain ⟨r, hr⟩ := sup_real (fun k : Fin 256 => lgH (F := Ideal) (Wof Q N) K j h (ix3 0 k i))
      (fun k => by rw [hl]; exact L_logit Q K N n h i hR hn _) 0 r₀ ((lgH_at Q K N j h 0 i).trans h₀)
    obtain ⟨μ, hμ⟩ := max_real _ I.1 r
    have e0 : k0_pay73 (F := Ideal) (lgH (Wof Q N) K j h) (hM (Wof Q N) K h j) (ix2 0 i) = (μ : EReal) := by
      rw [pay73_at, hr, hμ]
    have e1 : hM (F := Ideal) (Wof Q N) K h (j + 1) (ix3 0 0 i) = (μ : EReal) := (pay74_at _ _ _).trans e0
    have e2 : hA (F := Ideal) (Wof Q N) K V h (j + 1) (ix3 0 ρ i) = ∑ k ∈ Finset.range (256 * (j + 1)), v k * Ideal.exp2 (L Q K N n h i k - (μ : EReal)) := by
      rw [← step_sum _ _ _ _ _ I μ]
      refine (hv j _ _ _ _ _).trans ?_
      rw [pay72_at, e0]
      refine congrArg₂ _ rfl (Finset.sum_congr rfl fun k _ => ?_)
      rw [pay71_at, hl]
      exact congrArg (fun t => v (256 * j + k.val) * Ideal.exp2 (L Q K N n h i (256 * j + k.val) - t)) e0
    rw [e1, e2]
    exact inv_of_sum _ _ (L_logit Q K N n h i hR hn) _ _

include hR in
/-- A column's accumulators, whole. -/
theorem hO_at (hn : n < 16) : ∃ μ : ℝ, ∀ (ρ : Fin 80) (v : ℕ → EReal), Row V h i ρ v →
    hO (F := Ideal) kI qI (Wof Q N) K V n h (ix3 0 ρ i) = ∑ k ∈ Finset.range (256 * (n + 1)), v k * Ideal.exp2 (L Q K N n h i k - (μ : EReal)) := by
  have hl : ∀ k : Fin 256, k0_pay11 (F := Ideal) kI qI (lgH (Wof Q N) K n h) (ix2 k i) = L Q K N n h i (256 * n + k.val) := fun k => by
    rw [pay11_at, lgH_at, L, msk]
    exact if_congr (by omega) rfl rfl
  have hb := fun k : Fin 256 => (hl k).symm ▸ L_logit Q K N n h i hR hn (256 * n + k.val)
  obtain ⟨r₀, h₀⟩ := hR (256 * n + (0 : Fin 256).val) (by show 256 * n + 0 < 4096; omega)
  obtain ⟨r, hr⟩ := sup_real (fun k : Fin 256 => k0_pay11 (F := Ideal) kI qI (lgH (Wof Q N) K n h) (ix2 k i)) hb 0 r₀
    ((hl 0).trans ((if_pos (by show 256 * n + 0 ≤ 256 * n + i.val; omega)).trans h₀))
  have hM1 := (inv_at Q K V N n h i hR hn 64 _ (row_one V h i) n le_rfl).1
  obtain ⟨μ, hμ⟩ := max_real _ hM1 r
  have e0 : k0_pay13 (F := Ideal) kI qI (lgH (Wof Q N) K n h) (hM (Wof Q N) K h n) (ix2 0 i) = (μ : EReal) := by
    rw [pay13_at, hr, hμ]
  refine ⟨μ, fun ρ v hv => ?_⟩
  rw [← step_sum _ _ _ _ _ (inv_at Q K V N n h i hR hn ρ v hv n le_rfl) μ]
  refine (hv n _ _ _ _ _).trans ?_
  rw [pay12_at, e0]
  refine congrArg₂ _ rfl (Finset.sum_congr rfl fun k _ => ?_)
  rw [hl]
  exact congrArg (fun t => v (256 * n + k.val) * Ideal.exp2 (L Q K N n h i (256 * n + k.val) - t)) e0

theorem sum_all (v : ℕ → EReal) (hn : n < 16) (μ : ℝ) :
    (∑ k ∈ Finset.range (256 * (n + 1)), v k * Ideal.exp2 (L Q K N n h i k - (μ : EReal))) = ∑ k : Fin 4096, v k.val * Ideal.exp2 (L Q K N n h i k.val - (μ : EReal)) := by
  rw [← Finset.sum_range fun k => v k * Ideal.exp2 (L Q K N n h i k - (μ : EReal))]
  refine Finset.sum_subset (Finset.range_subset_range.mpr (by omega)) fun k _ hk => ?_
  rw [L, msk, if_neg (by have := Finset.mem_range.not.mp hk; omega), bot_sub_real]
  exact mul_zero _

include hR in
/-- What a column writes at one position: the values' mean under the weights. -/
theorem outv_at (hn : n < 16) (d : Fin 64) : ∃ μ : ℝ, outv (F := Ideal) n Q K V N (ix3 0 ⟨64 * h.val + d.val, by omega⟩ i)
    = Ideal.div (∑ k : Fin 4096, at3 V 0 (64 * h.val + d.val) k.val * Ideal.exp2 (L Q K N n h i k.val - (μ : EReal)))
      (∑ k : Fin 4096, Ideal.exp2 (L Q K N n h i k.val - (μ : EReal))) := by
  obtain ⟨μ, hμ⟩ := hO_at Q K V N n h i hR hn
  refine ⟨μ, ?_⟩
  have e1 := (hμ _ _ (row_v V h i d)).trans (sum_all Q K N n h i _ hn μ)
  have e2 := (hμ _ _ (row_one V h i)).trans (sum_all Q K N n h i _ hn μ)
  simp only [one_mul] at e2
  have eh : (Fin.ofNat 8 ((64 * h.val + d.val) / 64) : Fin 8) = h := Fin.ext (by show (64 * h.val + d.val) / 64 % 8 = h.val; omega)
  have ed : (Fin.ofNat 64 ((64 * h.val + d.val) % 64) : Fin 64) = d := Fin.ext (by show (64 * h.val + d.val) % 64 % 64 = d.val; omega)
  have eo : outv (F := Ideal) n Q K V N (ix3 0 ⟨64 * h.val + d.val, by omega⟩ i)
      = k0_pay1 (F := Ideal) (slab h.val 0 0 (stk (hO kI qI (Wof Q N) K V n))) (slab h.val 64 0 (stk (hO kI qI (Wof Q N) K V n))) (ix3 0 d i) := by
    show k0_pay1 (F := Ideal) (slab (Fin.ofNat 8 ((64 * h.val + d.val) / 64)).val 0 0 (stk (hO kI qI (Wof Q N) K V n)))
      (slab (Fin.ofNat 8 ((64 * h.val + d.val) / 64)).val 64 0 (stk (hO kI qI (Wof Q N) K V n))) (ix3 0 (Fin.ofNat 64 ((64 * h.val + d.val) % 64)) i) = _
    rw [eh, ed]
  rw [eo, pay1_at, ← e1, ← e2]
  have s1 : ∀ (o : ℕ) (ρ : Fin 80) (x : Fin 64), o + x.val = ρ.val → (slab h.val o 0 (stk (hO (F := Ideal) kI qI (Wof Q N) K V n)) : FVec Ideal S1x64x256 .f32) (ix3 0 x i)
      = hO (F := Ideal) kI qI (Wof Q N) K V n h (ix3 0 ρ i) := fun o ρ x hx => by
    show hO (F := Ideal) kI qI (Wof Q N) K V n (Fin.ofNat 8 (h.val + 0)) (ix3 0 (Fin.ofNat 80 (o + x.val)) (Fin.ofNat 256 (0 + i.val))) = _
    rw [show (Fin.ofNat 8 (h.val + 0) : Fin 8) = h from Fin.ext (Nat.mod_eq_of_lt h.isLt),
      show (Fin.ofNat 80 (o + x.val) : Fin 80) = ρ from Fin.ext (by show (o + x.val) % 80 = ρ.val; omega),
      show (Fin.ofNat 256 (0 + i.val) : Fin 256) = i from Fin.ext (by show (0 + i.val) % 256 = i.val; omega)]
  refine congrArg₂ _ (s1 0 ⟨d.val, by omega⟩ d (Nat.zero_add _)) ?_
  show hO (F := Ideal) kI qI (Wof Q N) K V n (Fin.ofNat 8 (h.val + 0)) (ix3 0 (Fin.ofNat 80 (64 + 0)) (Fin.ofNat 256 (0 + i.val))) = _
  rw [show (Fin.ofNat 8 (h.val + 0) : Fin 8) = h from Fin.ext (Nat.mod_eq_of_lt h.isLt),
    show (Fin.ofNat 256 (0 + i.val) : Fin 256) = i from Fin.ext (by show (0 + i.val) % 256 = i.val; omega)]
  rfl
end

end Cert.AttnIdeal.Fox
end
-- ==== Proof.AttnRefMath.lean ====
/-
Attention, the reference: its logits at one position.
-/
module

public import proofs.«01_k».proof.Proof.Gen.AttnRefIdeal.Run
public import proofs.«01_k».proof.Proof.Gen.AttnRefIdeal.Read
public import proofs.«01_k».proof.Proof.AttnLogit

@[expose] public section

set_option maxRecDepth 16384
noncomputable section
open Idealize.ShloMosaic Idealize.ShloMosaic.TcCoe Idealize.SL.Sem

namespace Cert.AttnRefIdeal.Fox
open Cert.AttnRefIdeal Cert.AttnRefIdeal.Gen Cert.AttnRefIdeal.Read
open Cert.AttnIdeal.Fox (at3 lgt)

/-- An entry is the entry at its three numbers. -/
theorem at3_of {α : Type} {n0 n1 n2 : ℕ} [NeZero n0] [NeZero n1] [NeZero n2] (X : (⟨3, ![n0, n1, n2]⟩ : Shape).Idx → α)
    (I : (⟨3, ![n0, n1, n2]⟩ : Shape).Idx) (a b c : ℕ) (ha : (I 0).val = a) (hb : (I 1).val = b) (hc : (I 2).val = c) : X I = at3 X a b c := by
  subst ha hb hc
  refine congrArg X (funext fun x => Fin.ext ?_)
  match x with
  | ⟨0, _⟩ => exact (Nat.mod_eq_of_lt (I 0).isLt).symm
  | ⟨1, _⟩ => exact (Nat.mod_eq_of_lt (I 1).isLt).symm
  | ⟨2, _⟩ => exact (Nat.mod_eq_of_lt (I 2).isLt).symm

theorem at3_congr {α : Type} {n0 n1 n2 : ℕ} [NeZero n0] [NeZero n1] [NeZero n2] (X : (⟨3, ![n0, n1, n2]⟩ : Shape).Idx → α)
    {a b c a' b' c' : ℕ} (ha : a = a') (hb : b = b') (hc : c = c') : at3 X a b c = at3 X a' b' c' := by
  subst ha hb hc; rfl

section
variable (x0 : FVec Ideal S8x512x4096 .bf16) (x1 : FVec Ideal S8x4096x1024 .bf16) (x3 : FVec Ideal S8x64x4096 .f32)

theorem v1_at (i : S8x8x64x4096.Idx) : val_main_v1 (F := Ideal) x0 i = at3 x0 (i 0).val (64 * (i 1).val + (i 2).val) (i 3).val := by
  have h0 : (i 0).val < 8 := (i 0).isLt
  have h1 : (i 1).val < 8 := (i 1).isLt
  have h2 : (i 2).val < 64 := (i 2).isLt
  have h3 : (i 3).val < 4096 := (i 3).isLt
  rw [val_main_v1_apply, val_main_v0_apply]
  refine at3_of x0 (idx_main_v1 i) _ _ _ ?_ ?_ ?_
  all_goals (dsimp only [idx_main_v1]; omega)

theorem v3_at (i : S8x8x64x4096.Idx) : val_main_v3 (F := Ideal) x0 i = at3 x0 (i 0).val (64 * (i 1).val + (i 2).val) (i 3).val := v1_at x0 i

theorem v5_at (i : S8x4096x4x2x128.Idx) : val_main_v5 (F := Ideal) x1 i = at3 x1 (i 0).val (i 1).val (256 * (i 2).val + 128 * (i 3).val + (i 4).val) := by
  have h0 : (i 0).val < 8 := (i 0).isLt
  have h1 : (i 1).val < 4096 := (i 1).isLt
  have h2 : (i 2).val < 4 := (i 2).isLt
  have h3 : (i 3).val < 2 := (i 3).isLt
  have h4 : (i 4).val < 128 := (i 4).isLt
  rw [val_main_v5_apply, val_main_v4_apply]
  refine at3_of x1 (idx_main_v5 i) _ _ _ ?_ ?_ ?_
  all_goals (dsimp only [idx_main_v5]; omega)

theorem v7_at (i : S8x4096x4x128.Idx) : val_main_v7 (F := Ideal) x1 i = at3 x1 (i 0).val (i 1).val (256 * (i 2).val + (i 3).val) := by
  have h0 : (i 0).val < 8 := (i 0).isLt
  have h1 : (i 1).val < 4096 := (i 1).isLt
  have h2 : (i 2).val < 4 := (i 2).isLt
  have h3 : (i 3).val < 128 := (i 3).isLt
  rw [val_main_v7_apply, val_main_v6_apply, v5_at]
  refine at3_congr x1 ?_ ?_ ?_
  all_goals (dsimp only [idx_main_v7, idx_main_v6]; omega)

theorem v8_at (i : S8x4096x8x64.Idx) : val_main_v8 (F := Ideal) x1 i = at3 x1 (i 0).val (i 1).val (256 * ((i 2).val / 2) + 64 * ((i 2).val % 2) + (i 3).val) := by
  have h0 : (i 0).val < 8 := (i 0).isLt
  have h1 : (i 1).val < 4096 := (i 1).isLt
  have h2 : (i 2).val < 8 := (i 2).isLt
  have h3 : (i 3).val < 64 := (i 3).isLt
  rw [val_main_v8_apply, v7_at]
  refine at3_congr x1 ?_ ?_ ?_
  all_goals (dsimp only [idx_main_v8]; omega)

theorem v10_at (i : S8x4096x4x16.Idx) : val_main_v10 (F := Ideal) x1 i = at3 x1 (i 0).val (i 1).val (256 * (i 2).val + 128 + (i 3).val) := by
  have h0 : (i 0).val < 8 := (i 0).isLt
  have h1 : (i 1).val < 4096 := (i 1).isLt
  have h2 : (i 2).val < 4 := (i 2).isLt
  have h3 : (i 3).val < 16 := (i 3).isLt
  rw [val_main_v10_apply, val_main_v9_apply, v5_at]
  refine at3_congr x1 ?_ ?_ ?_
  all_goals (dsimp only [idx_main_v10, idx_main_v9]; omega)

theorem v12_at (i : S8x4096x8x3.Idx) : val_main_v12 (F := Ideal) x1 i = at3 x1 (i 0).val (i 1).val (256 * ((i 2).val / 2) + 128 + 8 * ((i 2).val % 2) + (i 3).val) := by
  have h0 : (i 0).val < 8 := (i 0).isLt
  have h1 : (i 1).val < 4096 := (i 1).isLt
  have h2 : (i 2).val < 8 := (i 2).isLt
  have h3 : (i 3).val < 3 := (i 3).isLt
  rw [val_main_v12_apply, val_main_v11_apply, v10_at]
  refine at3_congr x1 ?_ ?_ ?_
  all_goals (dsimp only [idx_main_v11, idx_main_v12]; omega)

theorem v15_at (i : S8x4096x4x3.Idx) : val_main_v15 (F := Ideal) x1 i = at3 x1 (i 0).val (i 1).val (256 * (i 2).val + 132 + (i 3).val) := by
  have h0 : (i 0).val < 8 := (i 0).isLt
  have h1 : (i 1).val < 4096 := (i 1).isLt
  have h2 : (i 2).val < 4 := (i 2).isLt
  have h3 : (i 3).val < 3 := (i 3).isLt
  rw [val_main_v15_apply, val_main_v14_apply, v5_at]
  refine at3_congr x1 ?_ ?_ ?_
  all_goals (dsimp only [idx_main_v15, idx_main_v14]; omega)

theorem v17_at (i : S8x4096x8x3.Idx) : val_main_v17 (F := Ideal) x1 i = at3 x1 (i 0).val (i 1).val (256 * ((i 2).val / 2) + 132 + (i 3).val) := by
  have h0 : (i 0).val < 8 := (i 0).isLt
  have h1 : (i 1).val < 4096 := (i 1).isLt
  have h2 : (i 2).val < 8 := (i 2).isLt
  have h3 : (i 3).val < 3 := (i 3).isLt
  rw [val_main_v17_apply, val_main_v16_apply, v15_at]
  refine at3_congr x1 ?_ ?_ ?_
  all_goals (dsimp only [idx_main_v17, idx_main_v16]; omega)

theorem v19_at (i : S8x8x3x4096.Idx) : val_main_v19 (F := Ideal) x3 i = at3 x3 (i 0).val (8 * (i 1).val + (i 2).val) (i 3).val := by
  have h0 : (i 0).val < 8 := (i 0).isLt
  have h1 : (i 1).val < 8 := (i 1).isLt
  have h2 : (i 2).val < 3 := (i 2).isLt
  have h3 : (i 3).val < 4096 := (i 3).isLt
  rw [val_main_v19_apply, val_main_v18_apply]
  refine at3_of x3 (idx_main_v18 (idx_main_v19 i)) _ _ _ ?_ ?_ ?_
  all_goals (dsimp only [idx_main_v18, idx_main_v19]; omega)

theorem ofBits_zero : FloatOps.ofBits (F := Ideal) .f32 0x00000000#32 = 0 := by
  show Ideal.ofBits _ _ = 0
  simp [Ideal.ofBits, Ideal.ieee]

/-- The reference's logit before the mask, at batch `i 0`, head `i 1`, query `i 2` and key `i 3`. -/
theorem v26_at (i : S8x8x4096x4096.Idx) : val_main_v26 (F := Ideal) x0 x1 x3 i
    = lgt (at3 x0 (i 0).val) (at3 x1 (i 0).val) (at3 x3 (i 0).val) (i 1).val (i 3).val (i 2).val := by
  rw [val_main_v26_apply, val_main_v24_apply, val_main_v20_apply, val_main_v23_apply, val_main_v22_apply, val_main_v21_apply, val_main_v13_apply,
    val_main_v25_apply, val_main_cst_apply, ofBits_zero, zero_add]
  refine congrArg₂ (· + ·) (congrArg₂ (· + ·) (Finset.sum_congr rfl fun d _ => ?_) (Finset.sum_congr rfl fun r _ => ?_)) (Finset.sum_congr rfl fun r _ => ?_)
  · rw [v1_at, v8_at, mul_comm]
  · rw [v12_at]
  · rw [v19_at, v17_at, mul_comm]

end
end Cert.AttnRefIdeal.Fox
end
-- ==== Proof.AttnRefSoft.lean ====
/-
Attention, the reference: its result at one position is the softmax of its logits, applied to the values.
-/
module

public import proofs.«01_k».proof.Proof.AttnRefMath

@[expose] public section

set_option maxRecDepth 16384
noncomputable section
open Idealize.ShloMosaic Idealize.ShloMosaic.TcCoe Idealize.SL.Sem

namespace Cert.AttnRefIdeal.Fox
open Cert.AttnRefIdeal Cert.AttnRefIdeal.Gen Cert.AttnRefIdeal.Read
open Cert.AttnIdeal.Fox (at3 lgt)
open Cert.Soft

section
variable (x0 : FVec Ideal S8x512x4096 .bf16) (x1 : FVec Ideal S8x4096x1024 .bf16) (x2 : FVec Ideal S8x512x4096 .bf16) (x3 : FVec Ideal S8x64x4096 .f32)

theorem bits_two : FloatOps.ofBits (F := Ideal) .f32 0x40000000#32 = ((2 : ℝ) : EReal) := by
  show Ideal.ofBits _ _ = _
  have e : (8388608 : ℝ) * ((2 : ℝ) ^ 22)⁻¹ = 2 := by norm_num
  simp [Ideal.ofBits, Ideal.ieee]
  exact_mod_cast e

theorem bits_bot : FloatOps.ofBits (F := Ideal) .f32 0xFF800000#32 = (⊥ : EReal) := by
  show Ideal.ofBits _ _ = ⊥
  simp [Ideal.ofBits, Ideal.ieee]

/-- The factor from base two to base e. -/
theorem v35_at (i : S8x8x4096x4096.Idx) : val_main_v35 (F := Ideal) i = (Real.log 2 : EReal) := by
  rw [val_main_v35_apply, val_main_v34_apply, val_main_v33_apply, val_main_cst_0_apply, bits_two]
  show (if (2 : ℝ) ≤ 0 then (⊥ : EReal) else (Real.log 2 : EReal)) = _
  rw [if_neg (by norm_num)]

/-- The reference's masked logit, in base e. -/
def rlg (b : Fin 8) (h : Fin 8) (q k : Fin 4096) : EReal :=
  if k.val ≤ q.val then lgt (at3 x0 b.val) (at3 x1 b.val) (at3 x3 b.val) h.val k.val q.val * (Real.log 2 : EReal) else ⊥

theorem v37_at (b h : Fin 8) (q k : Fin 4096) : val_main_v37 (F := Ideal) x0 x1 x3 (ix4 b h q k) = rlg x0 x1 x3 b h q k := by
  rw [val_main_v37_apply, val_main_call0_v1_apply, val_main_v32_apply, val_main_v30_apply, val_main_v31_apply, val_main_v28_apply, val_main_v29_apply,
    val_main_v27_apply, val_main_v27_apply, val_main_v36_apply, v26_at, v35_at, val_main_call0_v2_apply, val_main_call0_v0_apply, val_main_cst_1_apply, bits_bot]
  exact Cert.AttnIdeal.Fox.sel_le k.val q.val (by omega) (by omega) _ _

theorem v38_at (b h : Fin 8) (q : Fin 4096) : val_main_v38 (F := Ideal) x0 x1 x3 (ix3 b h q) = Finset.univ.sup fun k => rlg x0 x1 x3 b h q k := by
  pointwise [val_main_v38]
  rw [val_main_cst_2_apply, bits_bot]
  exact Finset.fold_congr fun k _ => v37_at x0 x1 x3 b h q k

/-- The exponential the reference sums, the row's maximum subtracted. -/
theorem v44_at (b h : Fin 8) (q k : Fin 4096) : val_main_v44 (F := Ideal) x0 x1 x3 (ix4 b h q k)
    = Ideal.exp (rlg x0 x1 x3 b h q k - Finset.univ.sup fun k => rlg x0 x1 x3 b h q k) := by
  have e : idx_main_v41 (idx_main_v42 (ix4 b h q k)) = ix3 b h q := funext fun a => Fin.ext (by match a with | ⟨0, _⟩ => rfl | ⟨1, _⟩ => rfl | ⟨2, _⟩ => rfl)
  rw [val_main_v44_apply, val_main_v43_apply, v37_at, val_main_v42_apply, val_main_v41_apply, val_main_v40_apply, val_main_v39_apply, val_main_cst_3_apply, bits_bot, e, v38_at]
  show Ideal.exp (_ - max ⊥ _) = _
  rw [max_eq_right bot_le]

theorem v47_at (b h : Fin 8) (q k : Fin 4096) : val_main_v47 (F := Ideal) x0 x1 x3 (ix4 b h q k)
    = ∑ k : Fin 4096, Ideal.exp (rlg x0 x1 x3 b h q k - Finset.univ.sup fun k => rlg x0 x1 x3 b h q k) := by
  rw [val_main_v47_apply, val_main_v46_apply, val_main_v45_apply, val_main_cst_4_apply, ofBits_zero, zero_add]
  refine Finset.sum_congr rfl fun k' _ => ?_
  have e : idx_main_v45 (idx_main_v46 (idx_main_v47 (ix4 b h q k))) k' = ix4 b h q k' := funext fun a => Fin.ext (by match a with | ⟨0, _⟩ => rfl | ⟨1, _⟩ => rfl | ⟨2, _⟩ => rfl | ⟨3, _⟩ => rfl)
  rw [e, v44_at]

theorem v49_at (b h : Fin 8) (d : Fin 64) (q : Fin 4096) : val_main_v49 (F := Ideal) x0 x1 x2 x3 (ix4 b h d q)
    = ∑ k : Fin 4096, at3 x2 b.val (64 * h.val + d.val) k.val
        * Ideal.div (Ideal.exp (rlg x0 x1 x3 b h q k - Finset.univ.sup fun k => rlg x0 x1 x3 b h q k))
            (∑ k : Fin 4096, Ideal.exp (rlg x0 x1 x3 b h q k - Finset.univ.sup fun k => rlg x0 x1 x3 b h q k)) := by
  rw [val_main_v49_apply]
  refine Finset.sum_congr rfl fun k _ => ?_
  have e : ridx_main_v49 (ix4 b h d q) k = ix4 b h q k := funext fun a => Fin.ext (by match a with | ⟨0, _⟩ => rfl | ⟨1, _⟩ => rfl | ⟨2, _⟩ => rfl | ⟨3, _⟩ => rfl)
  rw [v3_at, e, val_main_v48_apply, v44_at, v47_at]
  rfl

/-- The reference's result at batch `b`, head `h`, channel `d` and query `q`. -/
theorem v51_at (b h : Fin 8) (d : Fin 64) (q : Fin 4096) : val_main_v51 (F := Ideal) x0 x1 x2 x3 (ix3 b ⟨64 * h.val + d.val, by omega⟩ q)
    = ∑ k : Fin 4096, at3 x2 b.val (64 * h.val + d.val) k.val
        * Ideal.div (Ideal.exp (rlg x0 x1 x3 b h q k - Finset.univ.sup fun k => rlg x0 x1 x3 b h q k))
            (∑ k : Fin 4096, Ideal.exp (rlg x0 x1 x3 b h q k - Finset.univ.sup fun k => rlg x0 x1 x3 b h q k)) := by
  have e : idx_main_v50 (ix3 b ⟨64 * h.val + d.val, by omega⟩ q) = ix4 b h d q := by
    funext a
    apply Fin.ext
    match a with
    | ⟨0, _⟩ => show ((b.val * 512 + (64 * h.val + d.val)) * 4096 + q.val) / 2097152 = b.val; omega
    | ⟨1, _⟩ => show ((b.val * 512 + (64 * h.val + d.val)) * 4096 + q.val) / 262144 % 8 = h.val; omega
    | ⟨2, _⟩ => show ((b.val * 512 + (64 * h.val + d.val)) * 4096 + q.val) / 4096 % 64 = d.val; omega
    | ⟨3, _⟩ => show ((b.val * 512 + (64 * h.val + d.val)) * 4096 + q.val) % 4096 = q.val; omega
  rw [val_main_v51_apply, val_main_v50_apply, e, v49_at]
  rfl

end
end Cert.AttnRefIdeal.Fox
end
-- ==== Proof.AttnPre.lean ====
/-
Attention: what the precondition says of the arguments' entries, and that the logits are then real.
-/
module

public import proofs.«01_k».proof.Proof.Gen.Pre_finite_logits
public import proofs.«01_k».proof.Proof.AttnLogit
public import Idealize.ShloMosaic.Lib.ReduceAll

@[expose] public section

set_option maxRecDepth 16384
noncomputable section
open Idealize.ShloMosaic Idealize.ShloMosaic.TcCoe Idealize.SL.Sem

namespace Cert.AttnPre
open Cert.AttnIdeal.Fox (at3 lgt)

/-- An entry of size below infinity is real. -/
theorem real_of (x : EReal) (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hlt : max x (-x) < ⊤ := by
    by_contra hn
    simp [Ideal.cmp, hn] at h'
  induction x with
  | bot => simp at hlt
  | top => simp at hlt
  | coe r => exact ⟨r, rfl⟩

section
open Cert.Pre_finite_logits
variable (a0 : FVec Ideal S8x512x4096 .bf16) (a1 : FVec Ideal S8x4096x1024 .bf16) (a2 : FVec Ideal S8x512x4096 .bf16) (a3 : FVec Ideal S8x64x4096 .f32)
  (h : Cert.Pre_finite_logits.fn (F := Ideal) a0 a1 a2 a3 = fun _ => 1#1)

include h in
theorem entries : (∀ i, ∃ r : ℝ, a0 i = (r : EReal)) ∧ (∀ i, ∃ r : ℝ, a1 i = (r : EReal)) ∧ ∀ i, ∃ r : ℝ, a3 i = (r : EReal) := by
  have h0 := congrFun h (Shape.Idx.first Facts.h_S_)
  obtain ⟨h01, h3⟩ := IntOp.andi_eq_one.1 h0
  obtain ⟨h0, h1⟩ := IntOp.andi_eq_one.1 h01
  have : Subsingleton S_.Idx := ⟨fun a b => funext fun x => x.elim0⟩
  exact ⟨fun i => real_of _ (Host.reduce_andi_all _ _ _ _ _ h0 i), fun i => real_of _ (Host.reduce_andi_all _ _ _ _ _ h1 i),
    fun i => real_of _ (Host.reduce_andi_all _ _ _ _ _ h3 i)⟩
end

theorem real_add {x y : EReal} (hx : ∃ r : ℝ, x = (r : EReal)) (hy : ∃ r : ℝ, y = (r : EReal)) : ∃ r : ℝ, x + y = (r : EReal) := by
  obtain ⟨a, rfl⟩ := hx
  obtain ⟨b, rfl⟩ := hy
  exact ⟨a + b, rfl⟩

theorem real_mul {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, rfl⟩

theorem real_sum {ι : Type} [Fintype ι] (f : ι → EReal) (hf : ∀ i, ∃ r : ℝ, f i = (r : EReal)) : ∃ r : ℝ, ∑ i, f i = (r : EReal) := by
  choose g hg using hf
  exact ⟨∑ i, g i, by rw [Cert.Soft.coe_sum]; exact Finset.sum_congr rfl fun i _ => hg i⟩

/-- Logits of real entries are real. -/
theorem lgt_real (Q K N : ℕ → ℕ → EReal) (hQ : ∀ a b, ∃ r : ℝ, Q a b = (r : EReal)) (hK : ∀ a b, ∃ r : ℝ, K a b = (r : EReal))
    (hN : ∀ a b, ∃ r : ℝ, N a b = (r : EReal)) (h k i : ℕ) : ∃ r : ℝ, lgt Q K N h k i = (r : EReal) :=
  real_add (real_add (real_sum _ fun d => real_mul (hK _ _) (hQ _ _)) (real_sum _ fun r => hK _ _)) (real_sum _ fun r => real_mul (hK _ _) (hN _ _))

end Cert.AttnPre
end
-- ==== Proof.AttnEq.lean ====
/-
Attention: what the call writes into a block is the reference's result there.
-/
module

public import proofs.«01_k».proof.Proof.AttnValue
public import proofs.«01_k».proof.Proof.AttnRefSoft
public import proofs.«01_k».proof.Proof.AttnPre

@[expose] public section

set_option maxRecDepth 16384
noncomputable section
open Idealize.ShloMosaic Idealize.ShloMosaic.TcCoe Idealize.SL.Sem

namespace Cert.AttnEq
open Cert.AttnIdeal.Fox Cert.AttnRefIdeal.Fox Cert.Soft Cert.AttnPre

/-- A block's entry is the array's. -/
theorem at3_slab {α : Type} {n0 n1 n2 k1 k2 : ℕ} [NeZero n0] [NeZero n1] [NeZero n2] [NeZero k1] [NeZero k2]
    (X : (⟨3, ![n0, n1, n2]⟩ : Shape).Idx → α) (b o r c : ℕ) (hr : r < k1) (hc : c < k2) :
    at3 (slab (k0 := 1) (k1 := k1) (k2 := k2) b 0 o X) 0 r c = at3 X b r (o + c) := by
  have e1 : r % k1 = r := Nat.mod_eq_of_lt hr
  have e2 : c % k2 = c := Nat.mod_eq_of_lt hc
  show at3 X (b + 0 % 1) (0 + r % k1) (o + c % k2) = _
  rw [e1, e2, Nat.zero_add]
  rfl

section
variable (x0 : FVec Ideal Cert.AttnIdeal.S8x512x4096 .bf16) (x1 : FVec Ideal Cert.AttnIdeal.S8x4096x1024 .bf16)
  (x2 : FVec Ideal Cert.AttnIdeal.S8x512x4096 .bf16) (x3 : FVec Ideal Cert.AttnIdeal.S8x64x4096 .f32)
  (b : Fin 8) (n : ℕ) (hn : n < 16)

/-- The logits of a block are the array's. -/
theorem lgt_slab (h : Fin 8) (k : ℕ) (hk : k < 4096) (i : Fin 256) :
    lgt (at3 (slab b.val 0 (256 * n) x0 : FVec Ideal Cert.AttnIdeal.S1x512x256 .bf16) 0) (at3 (slab b.val 0 0 x1 : FVec Ideal Cert.AttnIdeal.S1x4096x1024 .bf16) 0)
      (at3 (slab b.val 0 (256 * n) x3 : FVec Ideal Cert.AttnIdeal.S1x64x256 .f32) 0) h.val k i.val
      = lgt (at3 x0 b.val) (at3 x1 b.val) (at3 x3 b.val) h.val k (256 * n + i.val) := by
  have hK : ∀ c, c < 1024 → at3 (slab b.val 0 0 x1 : FVec Ideal Cert.AttnIdeal.S1x4096x1024 .bf16) 0 k c = at3 x1 b.val k c := fun c hc =>
    (at3_slab x1 b.val 0 k c hk hc).trans (by rw [Nat.zero_add])
  unfold lgt
  refine congrArg₂ (· + ·) (congrArg₂ (· + ·) (Finset.sum_congr rfl fun d _ => ?_) (Finset.sum_congr rfl fun r _ => ?_)) (Finset.sum_congr rfl fun r _ => ?_)
  · rw [hK _ (by omega)]
    exact congrArg _ (at3_slab x0 b.val (256 * n) (64 * h.val + d.val) i.val (by omega) i.isLt)
  · exact hK _ (by omega)
  · rw [hK _ (by omega)]
    exact congrArg _ (at3_slab x3 b.val (256 * n) (8 * h.val + r.val) i.val (by omega) i.isLt)

variable (h0 : ∀ i, ∃ r : ℝ, x0 i = (r : EReal)) (h1 : ∀ i, ∃ r : ℝ, x1 i = (r : EReal)) (h3 : ∀ i, ∃ r : ℝ, x3 i = (r : EReal))

include h0 h1 h3 in
theorem block_at (h : Fin 8) (d : Fin 64) (i : Fin 256) :
    outv (F := Ideal) n (slab b.val 0 (256 * n) x0) (slab b.val 0 0 x1) (slab b.val 0 0 x2) (slab b.val 0 (256 * n) x3) (ix3 0 ⟨64 * h.val + d.val, by omega⟩ i)
      = Cert.AttnRefIdeal.Read.val_main_v51 (F := Ideal) x0 x1 x2 x3 (ix3 b ⟨64 * h.val + d.val, by omega⟩ ⟨256 * n + i.val, by omega⟩) := by
  have hl : ∀ k q, ∃ r : ℝ, lgt (at3 x0 b.val) (at3 x1 b.val) (at3 x3 b.val) h.val k q = (r : EReal) := fun k q =>
    lgt_real _ _ _ (fun _ _ => h0 _) (fun _ _ => h1 _) (fun _ _ => h3 _) _ _ _
  have hR : ∀ k, k < 4096 → ∃ r : ℝ, lgt (at3 (slab b.val 0 (256 * n) x0 : FVec Ideal Cert.AttnIdeal.S1x512x256 .bf16) 0) (at3 (slab b.val 0 0 x1 : FVec Ideal Cert.AttnIdeal.S1x4096x1024 .bf16) 0)
      (at3 (slab b.val 0 (256 * n) x3 : FVec Ideal Cert.AttnIdeal.S1x64x256 .f32) 0) h.val k i.val = (r : EReal) := fun k hk => by
    rw [lgt_slab x0 x1 x3 b n h k hk i]
    exact hl _ _
  obtain ⟨μ, hμ⟩ := outv_at (slab b.val 0 (256 * n) x0) (slab b.val 0 0 x1) (slab b.val 0 0 x2) (slab b.val 0 (256 * n) x3) n h i hR hn d
  have hL := L_logit (slab b.val 0 (256 * n) x0) (slab b.val 0 0 x1) (slab b.val 0 (256 * n) x3) n h i hR hn
  have hX : ∀ k : Fin 4096, rlg x0 x1 x3 b h ⟨256 * n + i.val, by omega⟩ k
      = if L (slab b.val 0 (256 * n) x0) (slab b.val 0 0 x1) (slab b.val 0 (256 * n) x3) n h i k.val = ⊥ then ⊥
        else L (slab b.val 0 (256 * n) x0) (slab b.val 0 0 x1) (slab b.val 0 (256 * n) x3) n h i k.val * (Real.log 2 : EReal) := fun k => by
    obtain ⟨r, hr⟩ := hl k.val (256 * n + i.val)
    by_cases hk : k.val ≤ 256 * n + i.val
    · have e : L (slab b.val 0 (256 * n) x0) (slab b.val 0 0 x1) (slab b.val 0 (256 * n) x3) n h i k.val = (r : EReal) := (if_pos hk).trans ((lgt_slab x0 x1 x3 b n h k.val k.isLt i).trans hr)
      rw [if_neg (by rw [e]; exact EReal.coe_ne_bot r), e]
      exact (if_pos hk).trans (congrArg (· * (Real.log 2 : EReal)) hr)
    · have e : L (slab b.val 0 (256 * n) x0) (slab b.val 0 0 x1) (slab b.val 0 (256 * n) x3) n h i k.val = ⊥ := if_neg hk
      rw [if_pos e]
      exact if_neg hk
  have hXl : ∀ k : Fin 4096, Logit (rlg x0 x1 x3 b h ⟨256 * n + i.val, by omega⟩ k) := fun k => by
    unfold rlg
    split
    · obtain ⟨r, hr⟩ := hl k.val (256 * n + i.val)
      exact .inr ⟨r * Real.log 2, by rw [hr]; rfl⟩
    · exact .inl rfl
  obtain ⟨r₀, hr₀⟩ := hl 0 (256 * n + i.val)
  have hL0 : L (slab b.val 0 (256 * n) x0) (slab b.val 0 0 x1) (slab b.val 0 (256 * n) x3) n h i (0 : Fin 4096).val = (r₀ : EReal) := by
    unfold L msk
    exact (if_pos (Nat.zero_le _)).trans ((lgt_slab x0 x1 x3 b n h 0 (by norm_num) i).trans hr₀)
  have hX0 : rlg x0 x1 x3 b h ⟨256 * n + i.val, by omega⟩ 0 = ((r₀ * Real.log 2 : ℝ) : EReal) := by
    rw [hX 0, hL0, if_neg (EReal.coe_ne_bot r₀)]
    rfl
  obtain ⟨ρ, hρ⟩ := sup_real (fun k => rlg x0 x1 x3 b h ⟨256 * n + i.val, by omega⟩ k) hXl 0 _ hX0
  rw [hμ, v51_at x0 x1 x2 x3 b h d ⟨256 * n + i.val, by omega⟩, hρ,
    soft_eq (fun k : Fin 4096 => L (slab b.val 0 (256 * n) x0) (slab b.val 0 0 x1) (slab b.val 0 (256 * n) x3) n h i k.val) _
      (fun k : Fin 4096 => at3 (slab b.val 0 0 x2 : FVec Ideal Cert.AttnIdeal.S1x512x4096 .bf16) 0 (64 * h.val + d.val) k.val) (fun k => hL k.val) hX 0 r₀ hL0 μ ρ]
  refine Finset.sum_congr rfl fun k _ => congrArg (· * _) ?_
  exact (at3_slab x2 b.val 0 (64 * h.val + d.val) k.val (by omega) k.isLt).trans (by rw [Nat.zero_add])

include h0 h1 h3 hn in
/-- What the call writes into a block is the reference's result there. -/
theorem block_eq : (outv (F := Ideal) n (slab b.val 0 (256 * n) x0) (slab b.val 0 0 x1) (slab b.val 0 0 x2) (slab b.val 0 (256 * n) x3) : FVec Ideal Cert.AttnIdeal.S1x512x256 .bf16)
    = slab b.val 0 (256 * n) (Cert.AttnRefIdeal.Read.val_main_v51 (F := Ideal) x0 x1 x2 x3) := by
  funext y
  have hy1 : (y 1).val < 512 := (y 1).isLt
  have hy2 : (y 2).val < 256 := (y 2).isLt
  have hy0 : (y 0).val < 1 := (y 0).isLt
  have e : y = ix3 0 ⟨64 * (⟨(y 1).val / 64, by omega⟩ : Fin 8).val + (⟨(y 1).val % 64, by omega⟩ : Fin 64).val, by show 64 * ((y 1).val / 64) + (y 1).val % 64 < 512; omega⟩ ⟨(y 2).val, hy2⟩ := by
    funext a
    apply Fin.ext
    match a with
    | ⟨0, _⟩ => show (y 0).val = 0; omega
    | ⟨1, _⟩ => show (y 1).val = 64 * ((y 1).val / 64) + (y 1).val % 64; omega
    | ⟨2, _⟩ => rfl
  refine (congrArg _ e).trans ((block_at x0 x1 x2 x3 b n hn h0 h1 h3 ⟨(y 1).val / 64, by omega⟩ ⟨(y 1).val % 64, by omega⟩ ⟨(y 2).val, hy2⟩).trans ?_)
  refine congrArg _ ?_
  funext a
  apply Fin.ext
  match a with
  | ⟨0, _⟩ => show b.val = (b.val + (y 0).val) % 8; omega
  | ⟨1, _⟩ => show 64 * ((y 1).val / 64) + (y 1).val % 64 = (0 + (y 1).val) % 512; omega
  | ⟨2, _⟩ => show 256 * n + (y 2).val = (256 * n + (y 2).val) % 4096; omega

end
end Cert.AttnEq
end
-- ==== Proof.AttnClaims.lean ====
/- The claims about the attention call. -/
module

public import proofs.«01_k».proof.Defs
public import proofs.«01_k».proof.Proof.AttnRun
public import proofs.«01_k».proof.Proof.AttnFrame
public import proofs.«01_k».proof.Proof.AttnEq
public import Idealize.ShloMosaic.Lib.Claim

@[expose] public section

set_option maxRecDepth 16384
noncomputable section
namespace Cert.Proof
open Idealize.ShloMosaic Idealize.ShloMosaic.TcCoe Idealize.SL.Sem

/-- The printed call leaves its arguments as they were and its semaphores at zero. -/
theorem frame_attn : Cert.quiescent_Attn := fun m ρ _ => Cert.Attn.Fox.frame m ρ

/-- So does the call over the reals. -/
theorem frame_attnIdeal : Cert.quiescent_AttnIdeal := fun m ρ _ => Cert.AttnIdeal.Fox.frame m ρ

theorem frame_attnIdeal_pre : Cert.quiescent_AttnIdeal_pre_finite_logits := fun m ρ _ => Cert.AttnIdeal.Fox.frame m ρ

/-- The plain statement leaves its arguments as they were and declares no semaphore. -/
theorem frame_attnRef : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

theorem frame_attnRef_pre : Cert.quiescent_AttnRefIdeal_pre_finite_logits := fun m ρ _ => frame_attnRef m ρ trivial

/-- The output array after the call is the plain statement's result. -/
theorem attn_final (m : (ℓ : Loc Cert.AttnIdeal.nD Cert.AttnIdeal.τ Cert.AttnIdeal.sig) → Buf (Elt Ideal) ℓ) (hm : Cert.Pre_AttnIdeal_finite_logits m) (c : Dev Cert.AttnIdeal.nD) :
    (Cert.AttnIdeal.Fox.dats (F := Ideal) m 0 c).arrAt 6 (Cert.AttnIdeal.cfgs 0).N
      = Cert.AttnRefIdeal.Read.val_main_v51 (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))
        (m ((c.tc : Thread Cert.AttnIdeal.nD Cert.AttnIdeal.τ).loc Cert.AttnIdeal.main_arg2)) (m ((c.tc : Thread Cert.AttnIdeal.nD Cert.AttnIdeal.τ).loc Cert.AttnIdeal.main_arg3)) := by
  obtain ⟨h0, h1, h3⟩ := Cert.AttnPre.entries _ _ _ _ (hm c)
  refine Cert.AttnIdeal.Fox.out_of m c _ fun t => ?_
  rw [Cert.AttnIdeal.Fox.blk0, Cert.AttnIdeal.Fox.blk2, Cert.AttnIdeal.Fox.blk3, Cert.AttnIdeal.Fox.blk4]
  exact Cert.AttnEq.block_eq _ _ _ _ _ _ (Cert.AttnIdeal.grid0.coords t 2).isLt h0 h1 h3

/-- The plain statement's result, of the call's own arguments. -/
theorem attn_ref (m' : (ℓ : Loc Cert.AttnRefIdeal.nD Cert.AttnRefIdeal.τ Cert.AttnRefIdeal.sig) → Buf (Elt Ideal) ℓ) (c : Dev Cert.AttnRefIdeal.nD)
    (a0 a1 a2 a3) (h0 : m' ((c.tc : Thread Cert.AttnRefIdeal.nD Cert.AttnRefIdeal.τ).loc Cert.AttnRefIdeal.main_arg0) = a0)
    (h1 : m' ((c.tc : Thread Cert.AttnRefIdeal.nD Cert.AttnRefIdeal.τ).loc Cert.AttnRefIdeal.main_arg1) = a1)
    (h2 : m' ((c.tc : Thread Cert.AttnRefIdeal.nD Cert.AttnRefIdeal.τ).loc Cert.AttnRefIdeal.main_arg2) = a2)
    (h3 : m' ((c.tc : Thread Cert.AttnRefIdeal.nD Cert.AttnRefIdeal.τ).loc Cert.AttnRefIdeal.main_arg3) = a3) :
    Cert.AttnRefIdeal.Value.res_main_v51 (F := Ideal) m' c = Cert.AttnRefIdeal.Read.val_main_v51 (F := Ideal) a0 a1 a2 a3 := by
  subst h0 h1 h2 h3
  exact Cert.AttnRefIdeal.Read.val_main_v51_eq m' c

/-- Over the reals the call computes the plain statement. -/
theorem algebraic_attn : Cert.algebraic_AttnIdeal_AttnRefIdeal_pre_finite_logits := fun m g m' g' hpre hagree =>
  ⟨fun c => Cert.AttnRefIdeal.Read.val_main_v51 (F := Ideal) (m ((c.tc : Thread Cert.AttnIdeal.nD Cert.AttnIdeal.τ).loc Cert.AttnIdeal.main_arg0))
      (m ((c.tc : Thread Cert.AttnIdeal.nD Cert.AttnIdeal.τ).loc Cert.AttnIdeal.main_arg1)) (m ((c.tc : Thread Cert.AttnIdeal.nD Cert.AttnIdeal.τ).loc Cert.AttnIdeal.main_arg2))
      (m ((c.tc : Thread Cert.AttnIdeal.nD Cert.AttnIdeal.τ).loc Cert.AttnIdeal.main_arg3)),
    (θ_run Cert.AttnIdeal.defs _ _).mono (fun r h c => ⟨(h.1.out_eq c 6).trans (attn_final m hpre c),
        (h.1.in_eq c 1 rfl).trans ((Cert.AttnIdeal.Fox.A_eq m c 1).trans (Cert.AttnIdeal.Gen.V_main_arg0 m c)),
        (h.1.in_eq c 2 rfl).trans ((Cert.AttnIdeal.Fox.A_eq m c 2).trans (Cert.AttnIdeal.Gen.V_main_arg1 m c)),
        (h.1.in_eq c 3 rfl).trans ((Cert.AttnIdeal.Fox.A_eq m c 3).trans (Cert.AttnIdeal.Gen.V_main_arg2 m c)),
        (h.1.in_eq c 5 rfl).trans ((Cert.AttnIdeal.Fox.A_eq m c 5).trans (Cert.AttnIdeal.Gen.V_main_arg3 m c))⟩)
      (Cert.AttnIdeal.Fox.run_main (F := Ideal) m g),
    (θ_run Cert.AttnRefIdeal.defs _ _).mono (fun r h c => ⟨(h c).1.trans (by
        obtain ⟨h0, h1, h2, h3⟩ := hagree c
        exact attn_ref m' c _ _ _ _ h0 h1 h2 h3), (h c).2⟩) (Cert.AttnRefIdeal.Value.run (F := Ideal) m' g')⟩

/-- The mask constant's name stands for minus infinity. -/
theorem mask_named (φ : FTy) (b : BitVec φ.bits) : IdealRules.named_const.Statement Cert.AttnIdeal.κ "mask" φ b ⊥ :=
  ⟨rfl, fun _ => IdealRules.named_const.ideal_named _ _ b ⊥ rfl, IdealRules.named_const.ideal_named_scalar _ _ b ⊥ rfl⟩

theorem preserves_attn : Cert.preserves_Attn_AttnIdeal := ⟨mask_named _ _, mask_named _ _⟩

end Cert.Proof
end
-- ==== Proof.MemPure.lean ====
/- The memory keys and values: the reference's terms cut into the normalised rows, their projection and the
   normalised heads, each read at an index, and the call's own payloads read at an index. -/
module

public import proofs.«01_k».proof.Proof.Gen.MemKvIdeal.Value
public import proofs.«01_k».proof.Proof.Gen.MemKvRefIdeal.Run
public import Idealize.ShloMosaic.Lib.Pointwise

@[expose] public section

set_option maxRecDepth 16384
noncomputable section
open Idealize.ShloMosaic Idealize.ShloMosaic.TcCoe Idealize.SL.Sem

namespace Cert.MemKvRefIdeal.Value
open Cert.MemKvRefIdeal Cert.MemKvRefIdeal.Gen

/-- The normalised memory rows of one layer. -/
def HN (X : FVec Ideal S8x256x1024 .f32) (G : FVec Ideal S1024 .f32) : FVec Ideal S8x256x1024 .f32 :=
  mulf (mulf X (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf X X) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 G))

/-- Their projection onto keys and values. -/
def KV (H : FVec Ideal S8x256x1024 .f32) (W : FVec Ideal S1024x1024 .f32) : FVec Ideal S8x256x1024 .f32 :=
  Host.dotGeneral dot_S8x256x1024_S1024x1024_S8x256x1024_2_0_01_1_n_n none H W

/-- The keys: the first half, every head normalised. -/
def KK (A : FVec Ideal S8x256x1024 .f32) (K : FVec Ideal S128 .f32) : FVec Ideal S8x256x512 .bf16 :=
  truncf .bf16 (shapeCast _ (mulf (mulf (shapeCast _ (extractStridedSlice S8x256x512 ![0, 0, 0] A slices_S8x256x1024_S8x256x512_0_0_0) shapeCasts_S8x256x512_S8x256x4x128) (broadcastInDim S8x256x4x128 ![0, 1, 2, 3] bcast_S8x256x4x1_S8x256x4x128_0_1_2_3 (Host.rsqrt (addf (Host.divf (broadcastInDim S8x256x4x1 ![0, 1, 2] bcast_S8x256x4_S8x256x4x1_0_1_2 (Host.reduceAdd (mulf (shapeCast _ (extractStridedSlice S8x256x512 ![0, 0, 0] A slices_S8x256x1024_S8x256x512_0_0_0) shapeCasts_S8x256x512_S8x256x4x128) (shapeCast _ (extractStridedSlice S8x256x512 ![0, 0, 0] A slices_S8x256x1024_S8x256x512_0_0_0) shapeCasts_S8x256x512_S8x256x4x128)) (constant S_ .f32 0x00000000#32) reducesTo_S8x256x4x128_S8x256x4_d3 h_S_)) (broadcastInDim S8x256x4x1 ![] bcast_S_S8x256x4x1 (constant S_ .f32 0x43000000#32))) (broadcastInDim S8x256x4x1 ![] bcast_S_S8x256x4x1 (constant S_ .f32 0x358637BD#32)))))) (broadcastInDim S8x256x4x128 ![0, 1, 2, 3] bcast_S1x1x1x128_S8x256x4x128_0_1_2_3 (broadcastInDim S1x1x1x128 ![3] bcast_S128_S1x1x1x128_3 K))) shapeCasts_S8x256x4x128_S8x256x512) bitsLt_bf16_f32

/-- The values: the second half. -/
def VV (A : FVec Ideal S8x256x1024 .f32) : FVec Ideal S8x256x512 .bf16 :=
  truncf .bf16 (extractStridedSlice S8x256x512 ![0, 0, 512] A slices_S8x256x1024_S8x256x512_0_0_512) bitsLt_bf16_f32

/-- Two layers' arrays, one on the other. -/
def STK (B0 B1 : FVec Ideal S8x256x512 .bf16) : FVec Ideal S2x8x256x512 .bf16 :=
  concatenate S2x8x256x512 0 [⟨S1x8x256x512, (broadcastInDim S1x8x256x512 ![1, 2, 3] bcast_S8x256x512_S1x8x256x512_1_2_3 B0)⟩, ⟨S1x8x256x512, (broadcastInDim S1x8x256x512 ![1, 2, 3] bcast_S8x256x512_S1x8x256x512_1_2_3 B1)⟩] concatenates_S1x8x256x512_S1x8x256x512_S2x8x256x512_d0

/-- One layer's gain, matrix and head gain. -/
def G0 (G : FVec Ideal S2x1024 .f32) : FVec Ideal S1024 .f32 := shapeCast _ (extractStridedSlice S1x1024 ![0, 0] G slices_S2x1024_S1x1024_0_0) shapeCasts_S1x1024_S1024
def G1 (G : FVec Ideal S2x1024 .f32) : FVec Ideal S1024 .f32 := shapeCast _ (extractStridedSlice S1x1024 ![1, 0] G slices_S2x1024_S1x1024_1_0) shapeCasts_S1x1024_S1024
def W0 (W : FVec Ideal S2x1024x1024 .f32) : FVec Ideal S1024x1024 .f32 := shapeCast _ (extractStridedSlice S1x1024x1024 ![0, 0, 0] W slices_S2x1024x1024_S1x1024x1024_0_0_0) shapeCasts_S1x1024x1024_S1024x1024
def W1 (W : FVec Ideal S2x1024x1024 .f32) : FVec Ideal S1024x1024 .f32 := shapeCast _ (extractStridedSlice S1x1024x1024 ![1, 0, 0] W slices_S2x1024x1024_S1x1024x1024_1_0_0) shapeCasts_S1x1024x1024_S1024x1024
def K0 (K : FVec Ideal S2x128 .f32) : FVec Ideal S128 .f32 := shapeCast _ (extractStridedSlice S1x128 ![0, 0] K slices_S2x128_S1x128_0_0) shapeCasts_S1x128_S128
def K1 (K : FVec Ideal S2x128 .f32) : FVec Ideal S128 .f32 := shapeCast _ (extractStridedSlice S1x128 ![1, 0] K slices_S2x128_S1x128_1_0) shapeCasts_S1x128_S128

/-- The keys of both layers. -/
def KEYS (X : FVec Ideal S8x256x1024 .f32) (G : FVec Ideal S2x1024 .f32) (W : FVec Ideal S2x1024x1024 .f32) (K : FVec Ideal S2x128 .f32) :
    FVec Ideal S2x8x256x512 .bf16 :=
  STK (KK (KV (HN X (G0 G)) (W0 W)) (K0 K)) (KK (KV (HN X (G1 G)) (W1 W)) (K1 K))

/-- The values of both layers. -/
def VALS (X : FVec Ideal S8x256x1024 .f32) (G : FVec Ideal S2x1024 .f32) (W : FVec Ideal S2x1024x1024 .f32) : FVec Ideal S2x8x256x512 .bf16 :=
  STK (VV (KV (HN X (G0 G)) (W0 W))) (VV (KV (HN X (G1 G)) (W1 W)))

/-- One layer's rows of the two stacked arrays. -/
theorem stk_at0 (B0 B1 : FVec Ideal S8x256x512 .bf16) (b : Fin 8) (s : Fin 256) (j : Fin 512) :
    STK B0 B1 (ix4 0 b s j) = B0 (ix3 b s j) := by
  pointwise [STK]

theorem stk_at1 (B0 B1 : FVec Ideal S8x256x512 .bf16) (b : Fin 8) (s : Fin 256) (j : Fin 512) :
    STK B0 B1 (ix4 1 b s j) = B1 (ix3 b s j) := by
  pointwise [STK]

theorem w_at (G : FVec Ideal S2x1024 .f32) (W : FVec Ideal S2x1024x1024 .f32) (K : FVec Ideal S2x128 .f32) (k d : Fin 1024) (e : Fin 128) :
    G0 G (ix1 k) = G (ix2 0 k) ∧ G1 G (ix1 k) = G (ix2 1 k) ∧ W0 W (ix2 k d) = W (ix3 0 k d) ∧ W1 W (ix2 k d) = W (ix3 1 k d)
    ∧ K0 K (ix1 e) = K (ix2 0 e) ∧ K1 K (ix1 e) = K (ix2 1 e) := by
  refine ⟨?_, ?_, ?_, ?_, ?_, ?_⟩ <;> pointwise [G0, G1, W0, W1, K0, K1]

theorem hn_at (X : FVec Ideal S8x256x1024 .f32) (G : FVec Ideal S1024 .f32) (b : Fin 8) (s : Fin 256) (d : Fin 1024) :
    HN X G (ix3 b s d) = X (ix3 b s d) * Ideal.rsqrt (Ideal.div (∑ k : Fin 1024, X (ix3 b s k) * X (ix3 b s k))
      (Ideal.ofBits .f32 0x44800000#32) + Ideal.ofBits .f32 0x358637BD#32) * G (ix1 d) := by
  pointwise [HN]

theorem kv_at (H : FVec Ideal S8x256x1024 .f32) (W : FVec Ideal S1024x1024 .f32) (b : Fin 8) (s : Fin 256) (d : Fin 1024) :
    KV H W (ix3 b s d) = ∑ k : Fin 1024, H (ix3 b s k) * W (ix2 k d) := by
  pointwise [KV]

theorem vv_at (A : FVec Ideal S8x256x1024 .f32) (b : Fin 8) (s : Fin 256) (j : Fin 512) :
    VV A (ix3 b s j) = A (ix3 b s ⟨512 + j.val, by omega⟩) := by
  pointwise [VV]

theorem kk_at (A : FVec Ideal S8x256x1024 .f32) (K : FVec Ideal S128 .f32) (b : Fin 8) (s : Fin 256) (h : Fin 4) (e : Fin 128) :
    KK A K (ix3 b s ⟨h.val * 128 + e.val, by omega⟩) = A (ix3 b s ⟨h.val * 128 + e.val, by omega⟩)
      * Ideal.rsqrt (Ideal.div (∑ k : Fin 128, A (ix3 b s ⟨h.val * 128 + k.val, by omega⟩) * A (ix3 b s ⟨h.val * 128 + k.val, by omega⟩))
        (Ideal.ofBits .f32 0x43000000#32) + Ideal.ofBits .f32 0x358637BD#32) * K (ix1 e) := by
  pointwise [KK]

end Cert.MemKvRefIdeal.Value

namespace Cert.MemKvIdeal.Value
open Cert.MemKvIdeal Cert.MemKvIdeal.Gen

/-- The projected rows of one grid point, at an index. -/
theorem pay4_at (x : FVec Ideal S1x256x1024 .f32) (g : FVec Ideal S1x1x1024 .f32) (w : FVec Ideal S1x1024x1024 .bf16)
    (r : Fin 256) (d : Fin 1024) : k0_pay4 (F := Ideal) x g w (ix2 r d)
    = ∑ k : Fin 1024, x (ix3 0 r k) * Ideal.rsqrt (Ideal.div (∑ k : Fin 1024, x (ix3 0 r k) * x (ix3 0 r k))
      (Ideal.ofBits .f32 0x44800000#32) + Ideal.ofBits .f32 0x358637BD#32) * g (ix3 0 0 k) * w (ix3 0 k d) := by
  pointwise [k0_pay4]

/-- A head's sum of squares. -/
theorem fam_at (x : FVec Ideal S1x256x1024 .f32) (g : FVec Ideal S1x1x1024 .f32) (w : FVec Ideal S1x1024x1024 .bf16)
    (kg : FVec Ideal S1x1x128 .f32) (r : Fin 256) (h : Fin 4) : Fam4_1 (F := Ideal) x g w kg h (ix1 r)
    = ∑ k : Fin 128, k0_pay4 (F := Ideal) x g w (ix2 r ⟨h.val * 128 + k.val, by omega⟩)
      * k0_pay4 (F := Ideal) x g w (ix2 r ⟨h.val * 128 + k.val, by omega⟩) := by
  generalize hA : k0_pay4 (F := Ideal) x g w = A
  match h with
  | ⟨0, _⟩ => simp only [Fam4_1, hA]; pointwise
  | ⟨1, _⟩ => simp only [Fam4_1, hA]; pointwise
  | ⟨2, _⟩ => simp only [Fam4_1, hA]; pointwise
  | ⟨3, _⟩ => simp only [Fam4_1, hA]; pointwise

end Cert.MemKvIdeal.Value
end
-- ==== Proof.MemValue.lean ====
/- The memory keys and values: the call's two result arrays are the reference's terms of its arguments. -/
module

public import proofs.«01_k».proof.Proof.MemPure
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.MemKvIdeal.Value
open Cert.MemKvIdeal Cert.MemKvIdeal.Gen
open Cert.MemKvRefIdeal.Value (HN KV KK VV STK KEYS VALS)
variable (m : (ℓ : Loc nD τ sig) → Buf (Elt Ideal) ℓ)

/-- Which block of its array each window stages at a grid point. -/
theorem idx : ∀ t : Fin cfg0.N, win0_0.index t = ![(grid0.coords t 1).val, 0, 0]
    ∧ win0_1.index t = ![(grid0.coords t 0).val, 0, 0] ∧ win0_2.index t = ![(grid0.coords t 0).val, 0, 0]
    ∧ win0_3.index t = ![(grid0.coords t 0).val, 0, 0]
    ∧ win0_4.index t = ![(grid0.coords t 0).val, (grid0.coords t 1).val, 0, 0]
    ∧ win0_5.index t = ![(grid0.coords t 0).val, (grid0.coords t 1).val, 0, 0] :=
  (by decide +kernel : ∀ t : Fin grid0.N, _)

/-- A layer's projected rows, whichever layer it is. -/
def LKV (X : FVec Ideal S8x256x1024 .f32) (G : FVec Ideal S2x1024 .f32) (W : FVec Ideal S2x1024x1024 .f32) (l : Fin 2)
    (b : Fin 8) (s : Fin 256) (d : Fin 1024) : EReal :=
  ∑ k : Fin 1024, X (ix3 b s k) * Ideal.rsqrt (Ideal.div (∑ k : Fin 1024, X (ix3 b s k) * X (ix3 b s k))
      (Ideal.ofBits .f32 0x44800000#32) + Ideal.ofBits .f32 0x358637BD#32) * G (ix2 l k) * W (ix3 l k d)

/-- The reference's keys at an index. -/
theorem keys_at (X : FVec Ideal S8x256x1024 .f32) (G : FVec Ideal S2x1024 .f32) (W : FVec Ideal S2x1024x1024 .f32) (K : FVec Ideal S2x128 .f32)
    (l : Fin 2) (b : Fin 8) (s : Fin 256) (h : Fin 4) (e : Fin 128) :
    KEYS X G W K (ix4 l b s ⟨h.val * 128 + e.val, by omega⟩) = LKV X G W l b s ⟨h.val * 128 + e.val, by omega⟩
      * Ideal.rsqrt (Ideal.div (∑ k : Fin 128, LKV X G W l b s ⟨h.val * 128 + k.val, by omega⟩ * LKV X G W l b s ⟨h.val * 128 + k.val, by omega⟩)
        (Ideal.ofBits .f32 0x43000000#32) + Ideal.ofBits .f32 0x358637BD#32) * K (ix2 l e) := by
  have w := Cert.MemKvRefIdeal.Value.w_at G W K
  match l with
  | ⟨0, _⟩ =>
    refine (Cert.MemKvRefIdeal.Value.stk_at0 _ _ b s _).trans ?_
    rw [Cert.MemKvRefIdeal.Value.kk_at, (w 0 0 e).2.2.2.2.1]
    simp only [Cert.MemKvRefIdeal.Value.kv_at, Cert.MemKvRefIdeal.Value.hn_at, (w _ 0 0).1, (w _ _ 0).2.2.1]
    rfl
  | ⟨1, _⟩ =>
    refine (Cert.MemKvRefIdeal.Value.stk_at1 _ _ b s _).trans ?_
    rw [Cert.MemKvRefIdeal.Value.kk_at, (w 0 0 e).2.2.2.2.2]
    simp only [Cert.MemKvRefIdeal.Value.kv_at, Cert.MemKvRefIdeal.Value.hn_at, (w _ 0 0).2.1, (w _ _ 0).2.2.2.1]
    rfl

/-- The reference's values at an index. -/
theorem vals_at (X : FVec Ideal S8x256x1024 .f32) (G : FVec Ideal S2x1024 .f32) (W : FVec Ideal S2x1024x1024 .f32)
    (l : Fin 2) (b : Fin 8) (s : Fin 256) (j : Fin 512) :
    VALS X G W (ix4 l b s j) = LKV X G W l b s ⟨512 + j.val, by omega⟩ := by
  have w := Cert.MemKvRefIdeal.Value.w_at G W (fun _ => 0)
  match l with
  | ⟨0, _⟩ =>
    refine (Cert.MemKvRefIdeal.Value.stk_at0 _ _ b s _).trans ?_
    simp only [Cert.MemKvRefIdeal.Value.vv_at, Cert.MemKvRefIdeal.Value.kv_at, Cert.MemKvRefIdeal.Value.hn_at, (w _ 0 0).1, (w _ _ 0).2.2.1]
    rfl
  | ⟨1, _⟩ =>
    refine (Cert.MemKvRefIdeal.Value.stk_at1 _ _ b s _).trans ?_
    simp only [Cert.MemKvRefIdeal.Value.vv_at, Cert.MemKvRefIdeal.Value.kv_at, Cert.MemKvRefIdeal.Value.hn_at, (w _ 0 0).2.1, (w _ _ 0).2.2.2.1]
    rfl

/-- One grid point: from blocks that hold batch `b`'s rows and layer `l`'s weights, the projected rows are the
    reference's. -/
theorem core (X : FVec Ideal S8x256x1024 .f32) (G : FVec Ideal S2x1024 .f32) (W : FVec Ideal S2x1024x1024 .f32)
    (x : FVec Ideal S1x256x1024 .f32) (g : FVec Ideal S1x1x1024 .f32) (w : FVec Ideal S1x1024x1024 .bf16) (l : Fin 2) (b : Fin 8)
    (hx : ∀ (r : Fin 256) (k : Fin 1024), x (ix3 0 r k) = X (ix3 b r k)) (hg : ∀ k : Fin 1024, g (ix3 0 0 k) = G (ix2 l k))
    (hw : ∀ k d : Fin 1024, w (ix3 0 k d) = W (ix3 l k d)) (r : Fin 256) (d : Fin 1024) :
    k0_pay4 (F := Ideal) x g w (ix2 r d) = LKV X G W l b r d := by
  rw [pay4_at]; simp only [hx, hg, hw]; rfl

/-- The stored keys of one grid point. -/
theorem coreK (X : FVec Ideal S8x256x1024 .f32) (G : FVec Ideal S2x1024 .f32) (W : FVec Ideal S2x1024x1024 .f32) (K : FVec Ideal S2x128 .f32)
    (x : FVec Ideal S1x256x1024 .f32) (g : FVec Ideal S1x1x1024 .f32) (w : FVec Ideal S1x1024x1024 .bf16) (kg : FVec Ideal S1x1x128 .f32)
    (l : Fin 2) (b : Fin 8) (r : Fin 256) (j : Fin 512)
    (hx : ∀ (r : Fin 256) (k : Fin 1024), x (ix3 0 r k) = X (ix3 b r k)) (hg : ∀ k : Fin 1024, g (ix3 0 0 k) = G (ix2 l k))
    (hw : ∀ k d : Fin 1024, w (ix3 0 k d) = W (ix3 l k d)) (hk : ∀ e : Fin 128, kg (ix3 0 0 e) = K (ix2 l e)) :
    E4 (F := Ideal) x g w kg (ix4 0 0 r j)
    = KEYS X G W K (ix4 l b r j) := by
  obtain ⟨h, e, rfl⟩ : ∃ (h : Fin 4) (e : Fin 128), j = ⟨h.val * 128 + e.val, by omega⟩ :=
    ⟨⟨j.val / 128, by omega⟩, ⟨j.val % 128, by omega⟩, Fin.ext (by show j.val = j.val / 128 * 128 + j.val % 128; omega)⟩
  have c := core X G W x g w l b hx hg hw
  have hs : sel4 (ix4 0 0 r ⟨h.val * 128 + e.val, by omega⟩) = h := Fin.ext (by show (h.val * 128 + e.val) / 128 = h.val; omega)
  have i0 : ix4_0 (ix4 0 0 r ⟨h.val * 128 + e.val, by omega⟩) = ix2 r ⟨h.val * 128 + e.val, by omega⟩ :=
    funext fun a => by match a with | ⟨0, _⟩ => rfl | ⟨1, _⟩ => rfl
  have i1 : ix4_1 (ix4 0 0 r ⟨h.val * 128 + e.val, by omega⟩) = ix1 r := funext fun a => by match a with | ⟨0, _⟩ => rfl
  have i2 : ix4_2 (ix4 0 0 r ⟨h.val * 128 + e.val, by omega⟩) = ix3 0 0 e := funext fun a => by
    match a with
    | ⟨0, _⟩ => rfl
    | ⟨1, _⟩ => rfl
    | ⟨2, _⟩ => exact Fin.ext (by show (h.val * 128 + e.val) % 128 = e.val; omega)
  rw [keys_at]
  show k0_pay4 (F := Ideal) x g w (ix4_0 _) * Ideal.rsqrt (Ideal.div (Fam4_1 (F := Ideal) x g w kg (sel4 _) (ix4_1 _))
    (Ideal.ofBits .f32 0x43000000#32) + Ideal.ofBits .f32 0x358637BD#32) * kg (ix4_2 _) = _
  rw [hs, i0, i1, i2, fam_at, hk]
  simp only [c]

/-- The stored values of one grid point. -/
theorem coreV (X : FVec Ideal S8x256x1024 .f32) (G : FVec Ideal S2x1024 .f32) (W : FVec Ideal S2x1024x1024 .f32)
    (x : FVec Ideal S1x256x1024 .f32) (g : FVec Ideal S1x1x1024 .f32) (w : FVec Ideal S1x1024x1024 .bf16)
    (l : Fin 2) (b : Fin 8) (r : Fin 256) (j : Fin 512)
    (hx : ∀ (r : Fin 256) (k : Fin 1024), x (ix3 0 r k) = X (ix3 b r k)) (hg : ∀ k : Fin 1024, g (ix3 0 0 k) = G (ix2 l k))
    (hw : ∀ k d : Fin 1024, w (ix3 0 k d) = W (ix3 l k d)) :
    E5 (F := Ideal) x g w (ix4 0 0 r j) = VALS X G W (ix4 l b r j) := by
  rw [vals_at, ← core X G W x g w l b hx hg hw]
  show k0_pay4 (F := Ideal) x g w (ix5_0 _) = _
  exact congrArg _ (funext fun a => by
    match a with
    | ⟨0, _⟩ => rfl
    | ⟨1, _⟩ => exact Fin.ext (by show j.val + 512 = 512 + j.val; omega))

/-- The keys after the run. -/
theorem finalK (c : Dev nD) : (dats m 0 c).arrAt 4 (cfgs 0).N
    = KEYS (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t _ y => ?_
  blk_simp
  rw [after0_4]; unfold_out out0_4
  obtain ⟨r, j, rfl⟩ : ∃ (r : Fin 256) (j : Fin 512), y = ix4 0 0 r j := ⟨y 2, y 3, by blk_ext [idx t]⟩
  have hc0 : (grid0.coords t 0).val < 2 := (grid0.coords t 0).isLt
  have hc1 : (grid0.coords t 1).val < 8 := (grid0.coords t 1).isLt
  refine (canon4_eq _ _ _ _ _).trans ((coreK (m ((c : Thread nD τ).loc main_arg0)) (m ((c : Thread nD τ).loc main_arg1)) (m ((c : Thread nD τ).loc main_arg2))
      (m ((c : Thread nD τ).loc main_arg3)) _ _ _ _ ⟨(grid0.coords t 0).val, hc0⟩ ⟨(grid0.coords t 1).val, hc1⟩ r j
      ?_ ?_ ?_ ?_).trans ?_)
  case refine_5 => exact congrArg _ (by blk_ext [idx t])
  all_goals intros; pointwise; blk_point [iblk, V, idx t]

/-- The values after the run. -/
theorem finalV (c : Dev nD) : (dats m 0 c).arrAt 5 (cfgs 0).N
    = VALS (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; unfold_out out0_5
  obtain ⟨r, j, rfl⟩ : ∃ (r : Fin 256) (j : Fin 512), y = ix4 0 0 r j := ⟨y 2, y 3, by blk_ext [idx t]⟩
  have hc0 : (grid0.coords t 0).val < 2 := (grid0.coords t 0).isLt
  have hc1 : (grid0.coords t 1).val < 8 := (grid0.coords t 1).isLt
  refine (canon5_eq _ _ _ _).trans ((coreV (m ((c : Thread nD τ).loc main_arg0)) (m ((c : Thread nD τ).loc main_arg1)) (m ((c : Thread nD τ).loc main_arg2))
      _ _ _ ⟨(grid0.coords t 0).val, hc0⟩ ⟨(grid0.coords t 1).val, hc1⟩ r j ?_ ?_ ?_).trans ?_)
  case refine_4 => exact congrArg _ (by blk_ext [idx t])
  all_goals intros; pointwise; blk_point [iblk, V, idx t]

end Cert.MemKvIdeal.Value
end
-- ==== Proof.MemClaims.lean ====
/- The claims about the memory keys and values. -/
module

public import proofs.«01_k».proof.Defs
public import proofs.«01_k».proof.Proof.Gen.MemKv.Frame
public import proofs.«01_k».proof.Proof.MemValue
public import Idealize.ShloMosaic.Lib.Claim

@[expose] public section

set_option maxRecDepth 16384
noncomputable section
namespace Cert.Proof
open Idealize.ShloMosaic Idealize.ShloMosaic.TcCoe Idealize.SL.Sem

/-- The plain statement leaves its arguments as they were and declares no semaphore. -/
theorem frame_memRef : Cert.quiescent_MemKvRefIdeal := fun m ρ _ =>
  (θ_run Cert.MemKvRefIdeal.defs _ _).mono (fun r h => ⟨fun c => (h c).2.2, sem_eq_zero_of_no_sems (by decide) r.2⟩)
    (Cert.MemKvRefIdeal.Value.run (F := Ideal) m ρ)

/-- Over the reals the call computes the plain statement. -/
theorem algebraic_mem : Cert.algebraic_MemKvIdeal_MemKvRefIdeal := fun m g m' g' _ hagree =>
  ⟨fun c => Cert.MemKvRefIdeal.Value.KEYS (m ((c.tc : Thread Cert.MemKvIdeal.nD Cert.MemKvIdeal.τ).loc Cert.MemKvIdeal.main_arg0))
      (m ((c.tc : Thread Cert.MemKvIdeal.nD Cert.MemKvIdeal.τ).loc Cert.MemKvIdeal.main_arg1))
      (m ((c.tc : Thread Cert.MemKvIdeal.nD Cert.MemKvIdeal.τ).loc Cert.MemKvIdeal.main_arg2))
      (m ((c.tc : Thread Cert.MemKvIdeal.nD Cert.MemKvIdeal.τ).loc Cert.MemKvIdeal.main_arg3)),
    fun c => Cert.MemKvRefIdeal.Value.VALS (m ((c.tc : Thread Cert.MemKvIdeal.nD Cert.MemKvIdeal.τ).loc Cert.MemKvIdeal.main_arg0))
      (m ((c.tc : Thread Cert.MemKvIdeal.nD Cert.MemKvIdeal.τ).loc Cert.MemKvIdeal.main_arg1))
      (m ((c.tc : Thread Cert.MemKvIdeal.nD Cert.MemKvIdeal.τ).loc Cert.MemKvIdeal.main_arg2)),
    (θ_run Cert.MemKvIdeal.defs _ _).mono
      (fun r h c => ⟨(h c).1.trans (Cert.MemKvIdeal.Value.finalK m c), (h c).2.1.trans (Cert.MemKvIdeal.Value.finalV m c), (h c).2.2⟩)
      (Cert.MemKvIdeal.Value.run_blocks (F := Ideal) m g),
    (θ_run Cert.MemKvRefIdeal.defs _ _).mono
      (fun r h c => by
        obtain ⟨h0, h1, h2, h3⟩ := hagree c
        refine ⟨(h c).1.trans ?_, (h c).2.1.trans ?_, (h c).2.2⟩
        · exact (show _ = Cert.MemKvRefIdeal.Value.KEYS (m' ((c.tc : Thread Cert.MemKvRefIdeal.nD Cert.MemKvRefIdeal.τ).loc Cert.MemKvRefIdeal.main_arg0)) (m' ((c.tc : Thread Cert.MemKvRefIdeal.nD Cert.MemKvRefIdeal.τ).loc Cert.MemKvRefIdeal.main_arg1)) (m' ((c.tc : Thread Cert.MemKvRefIdeal.nD Cert.MemKvRefIdeal.τ).loc Cert.MemKvRefIdeal.main_arg2)) (m' ((c.tc : Thread Cert.MemKvRefIdeal.nD Cert.MemKvRefIdeal.τ).loc Cert.MemKvRefIdeal.main_arg3)) from rfl).trans
            (congr (congr (congrArg₂ Cert.MemKvRefIdeal.Value.KEYS h0 h1) h2) h3)
        · exact (show _ = Cert.MemKvRefIdeal.Value.VALS (m' ((c.tc : Thread Cert.MemKvRefIdeal.nD Cert.MemKvRefIdeal.τ).loc Cert.MemKvRefIdeal.main_arg0)) (m' ((c.tc : Thread Cert.MemKvRefIdeal.nD Cert.MemKvRefIdeal.τ).loc Cert.MemKvRefIdeal.main_arg1)) (m' ((c.tc : Thread Cert.MemKvRefIdeal.nD Cert.MemKvRefIdeal.τ).loc Cert.MemKvRefIdeal.main_arg2)) from rfl).trans
            (congr (congrArg₂ Cert.MemKvRefIdeal.Value.VALS h0 h1) h2))
      (Cert.MemKvRefIdeal.Value.run (F := Ideal) m' g')⟩

end Cert.Proof
end
-- ==== Proof.lean ====
/- Every claim of the certificate. -/
module

public import proofs.«01_k».proof.Proof.MlpClaims
public import proofs.«01_k».proof.Proof.AttnClaims
public import proofs.«01_k».proof.Proof.MemClaims

@[expose] public section

noncomputable section
namespace Cert.Proof
open Idealize.ShloMosaic Idealize.SL.Sem

theorem claim : Cert.Claim := ⟨Cert.Mlp0.Gen.facts, Cert.Mlp0Ideal.Gen.facts, Cert.MlpRef0Ideal.Gen.facts, Cert.Mlp1.Gen.facts, Cert.Mlp1Ideal.Gen.facts, Cert.MlpRef1Ideal.Gen.facts,
  Cert.Attn.Gen.facts, Cert.AttnIdeal.Gen.facts, Cert.AttnRefIdeal.Gen.facts,
  Cert.MemKv.Gen.facts, Cert.MemKvIdeal.Gen.facts, Cert.MemKvRefIdeal.Gen.facts, Cert.Pre_finite_logits.Gen.facts,
  fun m ρ _ => Cert.Mlp0.Gen.frame m ρ, fun m ρ _ => Cert.Mlp0Ideal.Gen.frame m ρ, frame_mlpRef0,
  fun m ρ _ => Cert.Mlp1.Gen.frame m ρ, fun m ρ _ => Cert.Mlp1Ideal.Gen.frame m ρ, frame_mlpRef1,
  frame_attn, frame_attnIdeal, frame_attnIdeal_pre, frame_attnRef, frame_attnRef_pre,
  fun m ρ _ => Cert.MemKv.Gen.frame m ρ, fun m ρ _ => Cert.MemKvIdeal.Gen.frame m ρ, frame_memRef,
  trivial, algebraic_mlp0, trivial, algebraic_mlp1, preserves_attn, algebraic_attn, trivial, algebraic_mem⟩

end Cert.Proof

end
